-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_RefIdeal (m : (ℓ : Loc Cert.RefIdeal.nD Cert.RefIdeal.τ Cert.RefIdeal.sig) → Buf (Elt Ideal) ℓ) : Prop :=
  True

def Pre_RefIdeal_finite [hPre_finite : Cert.Pre_finite.Facts] (m : (ℓ : Loc Cert.RefIdeal.nD Cert.RefIdeal.τ Cert.RefIdeal.sig) → Buf (Elt Ideal) ℓ) : Prop :=
  ∀ c : Dev Cert.RefIdeal.nD,
    (Cert.Pre_finite.fn (F := Ideal) (m ((c.tc : Thread Cert.RefIdeal.nD Cert.RefIdeal.τ).loc Cert.RefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0))
      ∧ r.2.sem = fun _ => 0)

def quiescent_RefIdeal_pre_finite [hRefIdeal : Cert.RefIdeal.Facts] [hPre_finite : Cert.Pre_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "dead" .f32 0xCDEE6B28#32 ⊥

def algebraic_KernelIdeal_RefIdeal_pre_finite [hKernelIdeal : Cert.KernelIdeal.Facts] [hRefIdeal : Cert.RefIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_finite m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v186) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v0_0)) (v1 : (c : Dev Cert.WoIdeal.nD) → Buf (Elt Ideal) ((c.tc : Thread Cert.WoIdeal.nD Cert.WoIdeal.τ).loc Cert.WoIdeal.main_v0_1)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0_0) = v0 c
          ∧ r.2.mem ((c.tc : Thread Cert.WoIdeal.nD Cert.WoIdeal.τ).loc Cert.WoIdeal.main_v0_1) = v1 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_v17) = v1 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v6) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def Claim : Prop :=
  ∃ (hKernel : Cert.Kernel.Facts) (hKernelIdeal : Cert.KernelIdeal.Facts) (hRefIdeal : Cert.RefIdeal.Facts) (hProj : Cert.Proj.Facts) (hProjIdeal : Cert.ProjIdeal.Facts) (hProjRefIdeal : Cert.ProjRefIdeal.Facts) (hWo : Cert.Wo.Facts) (hWoIdeal : Cert.WoIdeal.Facts) (hWoRefIdeal : Cert.WoRefIdeal.Facts) (hMlp : Cert.Mlp.Facts) (hMlpIdeal : Cert.MlpIdeal.Facts) (hMlpRefIdeal : Cert.MlpRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_RefIdeal (hRefIdeal := hRefIdeal)
    ∧ quiescent_RefIdeal_pre_finite (hRefIdeal := hRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Wo (hWo := hWo)
    ∧ quiescent_WoIdeal (hWoIdeal := hWoIdeal)
    ∧ quiescent_WoRefIdeal (hWoRefIdeal := hWoRefIdeal)
    ∧ quiescent_Mlp (hMlp := hMlp)
    ∧ quiescent_MlpIdeal (hMlpIdeal := hMlpIdeal)
    ∧ quiescent_MlpRefIdeal (hMlpRefIdeal := hMlpRefIdeal)
    ∧ preserves_Kernel_KernelIdeal
    ∧ algebraic_KernelIdeal_RefIdeal_pre_finite (hKernelIdeal := hKernelIdeal) (hRefIdeal := hRefIdeal) (hPre_finite := hPre_finite)
    ∧ preserves_Proj_ProjIdeal
    ∧ algebraic_ProjIdeal_ProjRefIdeal (hProjIdeal := hProjIdeal) (hProjRefIdeal := hProjRefIdeal)
    ∧ preserves_Wo_WoIdeal
    ∧ algebraic_WoIdeal_WoRefIdeal (hWoIdeal := hWoIdeal) (hWoRefIdeal := hWoRefIdeal)
    ∧ preserves_Mlp_MlpIdeal
    ∧ algebraic_MlpIdeal_MlpRefIdeal (hMlpIdeal := hMlpIdeal) (hMlpRefIdeal := hMlpRefIdeal)
-- ==== Pre_finite.lean ====
abbrev S2048x3200 : Shape := ⟨2, ![2048, 3200]⟩
abbrev S_ : Shape := ⟨0, ![]⟩

class Facts : Prop where
  bcast_S_S2048x3200 : S_.BroadcastsInDim S2048x3200 (![] : Fin 0 → Fin S2048x3200.rank)
  reducesTo_S2048x3200_S_d0_1 : S2048x3200.ReducesTo [0, 1] S_
  h_S_ : 0 < S_.numel

variable [Facts]

def fn {F : FTy → Type} [FloatOps F] (main_arg0 : FVec F S2048x3200 .f32) : IVec S_ 1 :=
  let main_v0 : FVec F S2048x3200 .f32 := Host.absf main_arg0
  let main_cst : FVec F S_ .f32 := constant S_ .f32 0x7F800000#32
  let main_v1 : FVec F S2048x3200 .f32 := broadcastInDim S2048x3200 ![] bcast_S_S2048x3200 main_cst
  let main_v2 : IVec S2048x3200 1 := cmpf .olt main_v0 main_v1
  let main_c : IVec S_ 1 := constantI S_ 1 1#1
  let main_v3 : IVec S_ 1 := (fun x v => Host.reduce IntOp.andi x v reducesTo_S2048x3200_S_d0_1 h_S_) main_v2 main_c
  main_v3
-- ==== Kernel.lean ====
abbrev S2048x3200 : Shape := ⟨2, ![2048, 3200]⟩
abbrev S2048x2048 : Shape := ⟨2, ![2048, 2048]⟩
abbrev S256x2048 : Shape := ⟨2, ![256, 2048]⟩
abbrev S2048x1024 : Shape := ⟨2, ![2048, 1024]⟩
abbrev S512x128 : Shape := ⟨2, ![512, 128]⟩
abbrev S8x256x256 : Shape := ⟨3, ![8, 256, 256]⟩
abbrev S256x1 : Shape := ⟨2, ![256, 1]⟩
abbrev S128x2048 : Shape := ⟨2, ![128, 2048]⟩
abbrev S2048x128 : Shape := ⟨2, ![2048, 128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S256x256 : Shape := ⟨2, ![256, 256]⟩
abbrev S1x256x256 : Shape := ⟨3, ![1, 256, 256]⟩

abbrev nBuf : Space → Nat
  | .hbm => 2
  | .vmem => 7
  | .smem => 0
  | _ => 0

abbrev bufTy : (tb : Table) → Fin (tcTables nBuf tb) → BufTy
  | .hbm, ⟨0, _⟩ => ⟨S2048x3200, .f32⟩
  | .hbm, ⟨1, _⟩ => ⟨S2048x2048, .f32⟩
  | .local _ .vmem, ⟨0, _⟩ => ⟨S2048x3200, .f32⟩
  | .local _ .vmem, ⟨1, _⟩ => ⟨S256x2048, .f32⟩
  | .local _ .vmem, ⟨2, _⟩ => ⟨S256x2048, .f32⟩
  | .local _ .vmem, ⟨3, _⟩ => ⟨S2048x1024, .bf16⟩
  | .local _ .vmem, ⟨4, _⟩ => ⟨S512x128, .f32⟩
  | .local _ .vmem, ⟨5, _⟩ => ⟨S512x128, .f32⟩
  | .local _ .vmem, ⟨6, _⟩ => ⟨S8x256x256, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v59 : Index := Scalar.indexCast v0
  let c0_13 : Index := 0#32
  ![v59.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v80 : Index := Scalar.indexCast v0
  let c128 : Index := 128#32
  ![v80.toNat, 128]
def k0_off3 (i : grid0.Coords) : Fin 2 → Nat :=
  let arg0 : BitVec 32 := BitVec.ofNat 32 (i 0).val
  let c256_i32 : BitVec 32 := 256#32
  let v0 : BitVec 32 := Scalar.muli arg0 c256_i32
  let v101 : Index := Scalar.indexCast v0
  let c256 : Index := 256#32
  ![v101.toNat, 256]
def k0_off4 (i : grid0.Coords) : Fin 2 → Nat :=
  let arg0 : BitVec 32 := BitVec.ofNat 32 (i 0).val
  let c256_i32 : BitVec 32 := 256#32
  let v0 : BitVec 32 := Scalar.muli arg0 c256_i32
  let v122 : Index := Scalar.indexCast v0
  let c384 : Index := 384#32
  ![v122.toNat, 384]
@[reducible] def k0_t1_loop (i : grid0.Coords) : Scf.Loop 32 :=
  let c0_i32_54 : BitVec 32 := 0#32
  let arg0 : BitVec 32 := BitVec.ofNat 32 (i 0).val
  let c1_i32_53 : BitVec 32 := 1#32
  let v355 : BitVec 32 := Scalar.addi arg0 c1_i32_53
  let v356 : BitVec 32 := Scalar.subi v355 c0_i32_54
  let c1_i32_56 : BitVec 32 := 1#32
  let v358 : BitVec 32 := Scalar.divsi v356 c1_i32_56
  let v359 : BitVec 32 := Scalar.muli v358 c1_i32_56
  let v360 : BitVec 32 := Scalar.addi c0_i32_54 v359
  let c1_i32_57 : BitVec 32 := 1#32
  ⟨c0_i32_54, v360, c1_i32_57⟩
def k0_off5 (i : grid0.Coords) (k0_t1 : Fin (k0_t1_loop i).trips) : Fin 3 → Nat :=
  let c0_i32_54 : BitVec 32 := 0#32
  let c1_i32_57 : BitVec 32 := 1#32
  let arg7 : BitVec 32 := Scf.iv c0_i32_54 c1_i32_57 k0_t1
  let v2184 : Index := Scalar.indexCast arg7
  let c0_543 : Index := 0#32
  let c0_544 : Index := 0#32
  ![v2184.toNat, 0, 0]
@[reducible] def k0_t2_loop (i : grid0.Coords) : Scf.Loop 32 :=
  let c0_i32_54 : BitVec 32 := 0#32
  let arg0 : BitVec 32 := BitVec.ofNat 32 (i 0).val
  let c1_i32_53 : BitVec 32 := 1#32
  let v355 : BitVec 32 := Scalar.addi arg0 c1_i32_53
  let v356 : BitVec 32 := Scalar.subi v355 c0_i32_54
  let c1_i32_56 : BitVec 32 := 1#32
  let v358 : BitVec 32 := Scalar.divsi v356 c1_i32_56
  let v359 : BitVec 32 := Scalar.muli v358 c1_i32_56
  let v360 : BitVec 32 := Scalar.addi c0_i32_54 v359
  let v357 : BitVec 32 := Scalar.addi c0_i32_54 v356
  let c1_i32_58 : BitVec 32 := 1#32
  ⟨v360, v357, c1_i32_58⟩
def k0_off6 (i : grid0.Coords) (k0_t2 : Fin (k0_t2_loop i).trips) : Fin 3 → Nat :=
  let c0_i32_54 : BitVec 32 := 0#32
  let arg0 : BitVec 32 := BitVec.ofNat 32 (i 0).val
  let c1_i32_53 : BitVec 32 := 1#32
  let v355 : BitVec 32 := Scalar.addi arg0 c1_i32_53
  let v356 : BitVec 32 := Scalar.subi v355 c0_i32_54
  let c1_i32_56 : BitVec 32 := 1#32
  let v358 : BitVec 32 := Scalar.divsi v356 c1_i32_56
  let v359 : BitVec 32 := Scalar.muli v358 c1_i32_56
  let v360 : BitVec 32 := Scalar.addi c0_i32_54 v359
  let c1_i32_58 : BitVec 32 := 1#32
  let arg7 : BitVec 32 := Scf.iv v360 c1_i32_58 k0_t2
  let v2184 : Index := Scalar.indexCast arg7
  let c0_543 : Index := 0#32
  let c0_544 : Index := 0#32
  ![v2184.toNat, 0, 0]
@[reducible] def k0_t3_loop (i : grid0.Coords) : Scf.Loop 32 :=
  let c0_i32_64 : BitVec 32 := 0#32
  let arg0 : BitVec 32 := BitVec.ofNat 32 (i 0).val
  let c1_i32_63 : BitVec 32 := 1#32
  let v369 : BitVec 32 := Scalar.addi arg0 c1_i32_63
  let v370 : BitVec 32 := Scalar.subi v369 c0_i32_64
  let c1_i32_65 : BitVec 32 := 1#32
  let v372 : BitVec 32 := Scalar.divsi v370 c1_i32_65
  let v373 : BitVec 32 := Scalar.muli v372 c1_i32_65
  let v374 : BitVec 32 := Scalar.addi c0_i32_64 v373
  let c1_i32_66 : BitVec 32 := 1#32
  ⟨c0_i32_64, v374, c1_i32_66⟩
def k0_off7 (i : grid0.Coords) (k0_t3 : Fin (k0_t3_loop i).trips) : Fin 2 → Nat :=
  let c0_i32_64 : BitVec 32 := 0#32
  let c1_i32_66 : BitVec 32 := 1#32
  let arg7 : BitVec 32 := Scf.iv c0_i32_64 c1_i32_66 k0_t3
  let c256_i32_532 : BitVec 32 := 256#32
  let v2148 : BitVec 32 := Scalar.muli arg7 c256_i32_532
  let v2149 : Index := Scalar.indexCast v2148
  let c0_533 : Index := 0#32
  ![v2149.toNat, 0]
def k0_off8 (i : grid0.Coords) (k0_t3 : Fin (k0_t3_loop i).trips) : Fin 2 → Nat :=
  let c0_i32_64 : BitVec 32 := 0#32
  let c1_i32_66 : BitVec 32 := 1#32
  let arg7 : BitVec 32 := Scf.iv c0_i32_64 c1_i32_66 k0_t3
  let c256_i32_534 : BitVec 32 := 256#32
  let v2151 : BitVec 32 := Scalar.muli arg7 c256_i32_534
  let v2152 : Index := Scalar.indexCast v2151
  let c512_535 : Index := 512#32
  ![v2152.toNat, 512]
def k0_off9 (i : grid0.Coords) (k0_t3 : Fin (k0_t3_loop i).trips) : Fin 3 → Nat :=
  let c0_i32_64 : BitVec 32 := 0#32
  let c1_i32_66 : BitVec 32 := 1#32
  let arg7 : BitVec 32 := Scf.iv c0_i32_64 c1_i32_66 k0_t3
  let v2165 : Index := Scalar.indexCast arg7
  let c0_540 : Index := 0#32
  let c0_541 : Index := 0#32
  ![v2165.toNat, 0, 0]
@[reducible] def k0_t4_loop (i : grid0.Coords) : Scf.Loop 32 :=
  let c0_i32_64 : BitVec 32 := 0#32
  let arg0 : BitVec 32 := BitVec.ofNat 32 (i 0).val
  let c1_i32_63 : BitVec 32 := 1#32
  let v369 : BitVec 32 := Scalar.addi arg0 c1_i32_63
  let v370 : BitVec 32 := Scalar.subi v369 c0_i32_64
  let c1_i32_65 : BitVec 32 := 1#32
  let v372 : BitVec 32 := Scalar.divsi v370 c1_i32_65
  let v373 : BitVec 32 := Scalar.muli v372 c1_i32_65
  let v374 : BitVec 32 := Scalar.addi c0_i32_64 v373
  let v371 : BitVec 32 := Scalar.addi c0_i32_64 v370
  let c1_i32_67 : BitVec 32 := 1#32
  ⟨v374, v371, c1_i32_67⟩
def k0_off10 (i : grid0.Coords) (k0_t4 : Fin (k0_t4_loop i).trips) : Fin 2 → Nat :=
  let c0_i32_64 : BitVec 32 := 0#32
  let arg0 : BitVec 32 := BitVec.ofNat 32 (i 0).val
  let c1_i32_63 : BitVec 32 := 1#32
  let v369 : BitVec 32 := Scalar.addi arg0 c1_i32_63
  let v370 : BitVec 32 := Scalar.subi v369 c0_i32_64
  let c1_i32_65 : BitVec 32 := 1#32
  let v372 : BitVec 32 := Scalar.divsi v370 c1_i32_65
  let v373 : BitVec 32 := Scalar.muli v372 c1_i32_65
  let v374 : BitVec 32 := Scalar.addi c0_i32_64 v373
  let c1_i32_67 : BitVec 32 := 1#32
  let arg7 : BitVec 32 := Scf.iv v374 c1_i32_67 k0_t4
  let c256_i32_532 : BitVec 32 := 256#32
  let v2148 : BitVec 32 := Scalar.muli arg7 c256_i32_532
  let v2149 : Index := Scalar.indexCast v2148
  let c0_533 : Index := 0#32
  ![v2149.toNat, 0]
def k0_off11 (i : grid0.Coords) (k0_t4 : Fin (k0_t4_loop i).trips) : Fin 2 → Nat :=
  let c0_i32_64 : BitVec 32 := 0#32
  let arg0 : BitVec 32 := BitVec.ofNat 32 (i 0).val
  let c1_i32_63 : BitVec 32 := 1#32
  let v369 : BitVec 32 := Scalar.addi arg0 c1_i32_63
  let v370 : BitVec 32 := Scalar.subi v369 c0_i32_64
  let c1_i32_65 : BitVec 32 := 1#32
  let v372 : BitVec 32 := Scalar.divsi v370 c1_i32_65
  let v373 : BitVec 32 := Scalar.muli v372 c1_i32_65
  let v374 : BitVec 32 := Scalar.addi c0_i32_64 v373
  let c1_i32_67 : BitVec 32 := 1#32
  let arg7 : BitVec 32 := Scf.iv v374 c1_i32_67 k0_t4
  let c256_i32_534 : BitVec 32 := 256#32
  let v2151 : BitVec 32 := Scalar.muli arg7 c256_i32_534
  let v2152 : Index := Scalar.indexCast v2151
  let c512_535 : Index := 512#32
  ![v2152.toNat, 512]
def k0_off12 (i : grid0.Coords) (k0_t4 : Fin (k0_t4_loop i).trips) : Fin 3 → Nat :=
  let c0_i32_64 : BitVec 32 := 0#32
  let arg0 : BitVec 32 := BitVec.ofNat 32 (i 0).val
  let c1_i32_63 : BitVec 32 := 1#32
  let v369 : BitVec 32 := Scalar.addi arg0 c1_i32_63
  let v370 : BitVec 32 := Scalar.subi v369 c0_i32_64
  let c1_i32_65 : BitVec 32 := 1#32
  let v372 : BitVec 32 := Scalar.divsi v370 c1_i32_65
  let v373 : BitVec 32 := Scalar.muli v372 c1_i32_65
  let v374 : BitVec 32 := Scalar.addi c0_i32_64 v373
  let c1_i32_67 : BitVec 32 := 1#32
  let arg7 : BitVec 32 := Scf.iv v374 c1_i32_67 k0_t4
  let v2165 : Index := Scalar.indexCast arg7
  let c0_540 : Index := 0#32
  let c0_541 : Index := 0#32
  ![v2165.toNat, 0, 0]
def k0_off13 (i : grid0.Coords) : Fin 2 → Nat :=
  let arg0 : BitVec 32 := BitVec.ofNat 32 (i 0).val
  let c256_i32 : BitVec 32 := 256#32
  let v0 : BitVec 32 := Scalar.muli arg0 c256_i32
  let v381 : Index := Scalar.indexCast v0
  let c3072 : Index := 3072#32
  ![v381.toNat, 3072]
def k0_off14 (i : grid0.Coords) : Fin 2 → Nat :=
  let arg0 : BitVec 32 := BitVec.ofNat 32 (i 0).val
  let c256_i32 : BitVec 32 := 256#32
  let v0 : BitVec 32 := Scalar.muli arg0 c256_i32
  let v392 : Index := Scalar.indexCast v0
  let c3073 : Index := 3073#32
  ![v392.toNat, 3073]
def k0_off15 (i : grid0.Coords) : Fin 2 → Nat :=
  let arg0 : BitVec 32 := BitVec.ofNat 32 (i 0).val
  let c256_i32 : BitVec 32 := 256#32
  let v0 : BitVec 32 := Scalar.muli arg0 c256_i32
  let v404 : Index := Scalar.indexCast v0
  let c3074 : Index := 3074#32
  ![v404.toNat, 3074]
@[reducible] def k0_t5_loop (i : grid0.Coords) : Scf.Loop 32 :=
  let c0_i32_84 : BitVec 32 := 0#32
  let arg0 : BitVec 32 := BitVec.ofNat 32 (i 0).val
  let c1_i32_83 : BitVec 32 := 1#32
  let v423 : BitVec 32 := Scalar.addi arg0 c1_i32_83
  let v424 : BitVec 32 := Scalar.subi v423 c0_i32_84
  let c1_i32_85 : BitVec 32 := 1#32
  let v426 : BitVec 32 := Scalar.divsi v424 c1_i32_85
  let v427 : BitVec 32 := Scalar.muli v426 c1_i32_85
  let v428 : BitVec 32 := Scalar.addi c0_i32_84 v427
  let c1_i32_86 : BitVec 32 := 1#32
  ⟨c0_i32_84, v428, c1_i32_86⟩
def k0_off16 (i : grid0.Coords) (k0_t5 : Fin (k0_t5_loop i).trips) : Fin 2 → Nat :=
  let c0_i32_84 : BitVec 32 := 0#32
  let c1_i32_86 : BitVec 32 := 1#32
  let arg7 : BitVec 32 := Scf.iv c0_i32_84 c1_i32_86 k0_t5
  let c256_i32_532 : BitVec 32 := 256#32
  let v2148 : BitVec 32 := Scalar.muli arg7 c256_i32_532
  let v2149 : Index := Scalar.indexCast v2148
  let c0_533 : Index := 0#32
  ![v2149.toNat, 0]
def k0_off17 (i : grid0.Coords) (k0_t5 : Fin (k0_t5_loop i).trips) : Fin 2 → Nat :=
  let c0_i32_84 : BitVec 32 := 0#32
  let c1_i32_86 : BitVec 32 := 1#32
  let arg7 : BitVec 32 := Scf.iv c0_i32_84 c1_i32_86 k0_t5
  let c256_i32_534 : BitVec 32 := 256#32
  let v2151 : BitVec 32 := Scalar.muli arg7 c256_i32_534
  let v2152 : Index := Scalar.indexCast v2151
  let c512_535 : Index := 512#32
  ![v2152.toNat, 512]
def k0_off18 (i : grid0.Coords) (k0_t5 : Fin (k0_t5_loop i).trips) : Fin 3 → Nat :=
  let c0_i32_84 : BitVec 32 := 0#32
  let c1_i32_86 : BitVec 32 := 1#32
  let arg7 : BitVec 32 := Scf.iv c0_i32_84 c1_i32_86 k0_t5
  let v2165 : Index := Scalar.indexCast arg7
  let c0_540 : Index := 0#32
  let c0_541 : Index := 0#32
  ![v2165.toNat, 0, 0]
@[reducible] def k0_t6_loop (i : grid0.Coords) : Scf.Loop 32 :=
  let c0_i32_84 : BitVec 32 := 0#32
  let arg0 : BitVec 32 := BitVec.ofNat 32 (i 0).val
  let c1_i32_83 : BitVec 32 := 1#32
  let v423 : BitVec 32 := Scalar.addi arg0 c1_i32_83
  let v424 : BitVec 32 := Scalar.subi v423 c0_i32_84
  let c1_i32_85 : BitVec 32 := 1#32
  let v426 : BitVec 32 := Scalar.divsi v424 c1_i32_85
  let v427 : BitVec 32 := Scalar.muli v426 c1_i32_85
  let v428 : BitVec 32 := Scalar.addi c0_i32_84 v427
  let v425 : BitVec 32 := Scalar.addi c0_i32_84 v424
  let c1_i32_87 : BitVec 32 := 1#32
  ⟨v428, v425, c1_i32_87⟩
def k0_off19 (i : grid0.Coords) (k0_t6 : Fin (k0_t6_loop i).trips) : Fin 2 → Nat :=
  let c0_i32_84 : BitVec 32 := 0#32
  let arg0 : BitVec 32 := BitVec.ofNat 32 (i 0).val
  let c1_i32_83 : BitVec 32 := 1#32
  let v423 : BitVec 32 := Scalar.addi arg0 c1_i32_83
  let v424 : BitVec 32 := Scalar.subi v423 c0_i32_84
  let c1_i32_85 : BitVec 32 := 1#32
  let v426 : BitVec 32 := Scalar.divsi v424 c1_i32_85
  let v427 : BitVec 32 := Scalar.muli v426 c1_i32_85
  let v428 : BitVec 32 := Scalar.addi c0_i32_84 v427
  let c1_i32_87 : BitVec 32 := 1#32
  let arg7 : BitVec 32 := Scf.iv v428 c1_i32_87 k0_t6
  let c256_i32_532 : BitVec 32 := 256#32
  let v2148 : BitVec 32 := Scalar.muli arg7 c256_i32_532
  let v2149 : Index := Scalar.indexCast v2148
  let c0_533 : Index := 0#32
  ![v2149.toNat, 0]
def k0_off20 (i : grid0.Coords) (k0_t6 : Fin (k0_t6_loop i).trips) : Fin 2 → Nat :=
  let c0_i32_84 : BitVec 32 := 0#32
  let arg0 : BitVec 32 := BitVec.ofNat 32 (i 0).val
  let c1_i32_83 : BitVec 32 := 1#32
  let v423 : BitVec 32 := Scalar.addi arg0 c1_i32_83
  let v424 : BitVec 32 := Scalar.subi v423 c0_i32_84
  let c1_i32_85 : BitVec 32 := 1#32
  let v426 : BitVec 32 := Scalar.divsi v424 c1_i32_85
  let v427 : BitVec 32 := Scalar.muli v426 c1_i32_85
  let v428 : BitVec 32 := Scalar.addi c0_i32_84 v427
  let c1_i32_87 : BitVec 32 := 1#32
  let arg7 : BitVec 32 := Scf.iv v428 c1_i32_87 k0_t6
  let c256_i32_534 : BitVec 32 := 256#32
  let v2151 : BitVec 32 := Scalar.muli arg7 c256_i32_534
  let v2152 : Index := Scalar.indexCast v2151
  let c512_535 : Index := 512#32
  ![v2152.toNat, 512]
def k0_off21 (i : grid0.Coords) (k0_t6 : Fin (k0_t6_loop i).trips) : Fin 3 → Nat :=
  let c0_i32_84 : BitVec 32 := 0#32
  let arg0 : BitVec 32 := BitVec.ofNat 32 (i 0).val
  let c1_i32_83 : BitVec 32 := 1#32
  let v423 : BitVec 32 := Scalar.addi arg0 c1_i32_83
  let v424 : BitVec 32 := Scalar.subi v423 c0_i32_84
  let c1_i32_85 : BitVec 32 := 1#32
  let v426 : BitVec 32 := Scalar.divsi v424 c1_i32_85
  let v427 : BitVec 32 := Scalar.muli v426 c1_i32_85
  let v428 : BitVec 32 := Scalar.addi c0_i32_84 v427
  let c1_i32_87 : BitVec 32 := 1#32
  let arg7 : BitVec 32 := Scf.iv v428 c1_i32_87 k0_t6
  let v2165 : Index := Scalar.indexCast arg7
  let c0_540 : Index := 0#32
  let c0_541 : Index := 0#32
  ![v2165.toNat, 0, 0]
def k0_off22 (i : grid0.Coords) : Fin 2 → Nat :=
  let arg0 : BitVec 32 := BitVec.ofNat 32 (i 0).val
  let c256_i32 : BitVec 32 := 256#32
  let v0 : BitVec 32 := Scalar.muli arg0 c256_i32
  let v435 : Index := Scalar.indexCast v0
  let c3075 : Index := 3075#32
  ![v435.toNat, 3075]
def k0_off23 (i : grid0.Coords) : Fin 2 → Nat :=
  let arg0 : BitVec 32 := BitVec.ofNat 32 (i 0).val
  let c256_i32 : BitVec 32 := 256#32
  let v0 : BitVec 32 := Scalar.muli arg0 c256_i32
  let v446 : Index := Scalar.indexCast v0
  let c3076 : Index := 3076#32
  ![v446.toNat, 3076]
def k0_off24 (i : grid0.Coords) : Fin 2 → Nat :=
  let arg0 : BitVec 32 := BitVec.ofNat 32 (i 0).val
  let c256_i32 : BitVec 32 := 256#32
  let v0 : BitVec 32 := Scalar.muli arg0 c256_i32
  let v458 : Index := Scalar.indexCast v0
  let c3077 : Index := 3077#32
  ![v458.toNat, 3077]
@[reducible] def k0_t7_loop (i : grid0.Coords) : Scf.Loop 32 :=
  let c0_i32_104 : BitVec 32 := 0#32
  let arg0 : BitVec 32 := BitVec.ofNat 32 (i 0).val
  let c1_i32_103 : BitVec 32 := 1#32
  let v477 : BitVec 32 := Scalar.addi arg0 c1_i32_103
  let v478 : BitVec 32 := Scalar.subi v477 c0_i32_104
  let c1_i32_105 : BitVec 32 := 1#32
  let v480 : BitVec 32 := Scalar.divsi v478 c1_i32_105
  let v481 : BitVec 32 := Scalar.muli v480 c1_i32_105
  let v482 : BitVec 32 := Scalar.addi c0_i32_104 v481
  let c1_i32_106 : BitVec 32 := 1#32
  ⟨c0_i32_104, v482, c1_i32_106⟩
def k0_off25 (i : grid0.Coords) (k0_t7 : Fin (k0_t7_loop i).trips) : Fin 2 → Nat :=
  let c0_i32_104 : BitVec 32 := 0#32
  let c1_i32_106 : BitVec 32 := 1#32
  let arg7 : BitVec 32 := Scf.iv c0_i32_104 c1_i32_106 k0_t7
  let c256_i32_532 : BitVec 32 := 256#32
  let v2148 : BitVec 32 := Scalar.muli arg7 c256_i32_532
  let v2149 : Index := Scalar.indexCast v2148
  let c0_533 : Index := 0#32
  ![v2149.toNat, 0]
def k0_off26 (i : grid0.Coords) (k0_t7 : Fin (k0_t7_loop i).trips) : Fin 2 → Nat :=
  let c0_i32_104 : BitVec 32 := 0#32
  let c1_i32_106 : BitVec 32 := 1#32
  let arg7 : BitVec 32 := Scf.iv c0_i32_104 c1_i32_106 k0_t7
  let c256_i32_534 : BitVec 32 := 256#32
  let v2151 : BitVec 32 := Scalar.muli arg7 c256_i32_534
  let v2152 : Index := Scalar.indexCast v2151
  let c512_535 : Index := 512#32
  ![v2152.toNat, 512]
def k0_off27 (i : grid0.Coords) (k0_t7 : Fin (k0_t7_loop i).trips) : Fin 3 → Nat :=
  let c0_i32_104 : BitVec 32 := 0#32
  let c1_i32_106 : BitVec 32 := 1#32
  let arg7 : BitVec 32 := Scf.iv c0_i32_104 c1_i32_106 k0_t7
  let v2165 : Index := Scalar.indexCast arg7
  let c0_540 : Index := 0#32
  let c0_541 : Index := 0#32
  ![v2165.toNat, 0, 0]
@[reducible] def k0_t8_loop (i : grid0.Coords) : Scf.Loop 32 :=
  let c0_i32_104 : BitVec 32 := 0#32
  let arg0 : BitVec 32 := BitVec.ofNat 32 (i 0).val
  let c1_i32_103 : BitVec 32 := 1#32
  let v477 : BitVec 32 := Scalar.addi arg0 c1_i32_103
  let v478 : BitVec 32 := Scalar.subi v477 c0_i32_104
  let c1_i32_105 : BitVec 32 := 1#32
  let v480 : BitVec 32 := Scalar.divsi v478 c1_i32_105
  let v481 : BitVec 32 := Scalar.muli v480 c1_i32_105
  let v482 : BitVec 32 := Scalar.addi c0_i32_104 v481
  let v479 : BitVec 32 := Scalar.addi c0_i32_104 v478
  let c1_i32_107 : BitVec 32 := 1#32
  ⟨v482, v479, c1_i32_107⟩
def k0_off28 (i : grid0.Coords) (k0_t8 : Fin (k0_t8_loop i).trips) : Fin 2 → Nat :=
  let c0_i32_104 : BitVec 32 := 0#32
  let arg0 : BitVec 32 := BitVec.ofNat 32 (i 0).val
  let c1_i32_103 : BitVec 32 := 1#32
  let v477 : BitVec 32 := Scalar.addi arg0 c1_i32_103
  let v478 : BitVec 32 := Scalar.subi v477 c0_i32_104
  let c1_i32_105 : BitVec 32 := 1#32
  let v480 : BitVec 32 := Scalar.divsi v478 c1_i32_105
  let v481 : BitVec 32 := Scalar.muli v480 c1_i32_105
  let v482 : BitVec 32 := Scalar.addi c0_i32_104 v481
  let c1_i32_107 : BitVec 32 := 1#32
  let arg7 : BitVec 32 := Scf.iv v482 c1_i32_107 k0_t8
  let c256_i32_532 : BitVec 32 := 256#32
  let v2148 : BitVec 32 := Scalar.muli arg7 c256_i32_532
  let v2149 : Index := Scalar.indexCast v2148
  let c0_533 : Index := 0#32
  ![v2149.toNat, 0]
def k0_off29 (i : grid0.Coords) (k0_t8 : Fin (k0_t8_loop i).trips) : Fin 2 → Nat :=
  let c0_i32_104 : BitVec 32 := 0#32
  let arg0 : BitVec 32 := BitVec.ofNat 32 (i 0).val
  let c1_i32_103 : BitVec 32 := 1#32
  let v477 : BitVec 32 := Scalar.addi arg0 c1_i32_103
  let v478 : BitVec 32 := Scalar.subi v477 c0_i32_104
  let c1_i32_105 : BitVec 32 := 1#32
  let v480 : BitVec 32 := Scalar.divsi v478 c1_i32_105
  let v481 : BitVec 32 := Scalar.muli v480 c1_i32_105
  let v482 : BitVec 32 := Scalar.addi c0_i32_104 v481
  let c1_i32_107 : BitVec 32 := 1#32
  let arg7 : BitVec 32 := Scf.iv v482 c1_i32_107 k0_t8
  let c256_i32_534 : BitVec 32 := 256#32
  let v2151 : BitVec 32 := Scalar.muli arg7 c256_i32_534
  let v2152 : Index := Scalar.indexCast v2151
  let c512_535 : Index := 512#32
  ![v2152.toNat, 512]
def k0_off30 (i : grid0.Coords) (k0_t8 : Fin (k0_t8_loop i).trips) : Fin 3 → Nat :=
  let c0_i32_104 : BitVec 32 := 0#32
  let arg0 : BitVec 32 := BitVec.ofNat 32 (i 0).val
  let c1_i32_103 : BitVec 32 := 1#32
  let v477 : BitVec 32 := Scalar.addi arg0 c1_i32_103
  let v478 : BitVec 32 := Scalar.subi v477 c0_i32_104
  let c1_i32_105 : BitVec 32 := 1#32
  let v480 : BitVec 32 := Scalar.divsi v478 c1_i32_105
  let v481 : BitVec 32 := Scalar.muli v480 c1_i32_105
  let v482 : BitVec 32 := Scalar.addi c0_i32_104 v481
  let c1_i32_107 : BitVec 32 := 1#32
  let arg7 : BitVec 32 := Scf.iv v482 c1_i32_107 k0_t8
  let v2165 : Index := Scalar.indexCast arg7
  let c0_540 : Index := 0#32
  let c0_541 : Index := 0#32
  ![v2165.toNat, 0, 0]
def k0_off31 (i : grid0.Coords) : Fin 2 → Nat :=
  let arg0 : BitVec 32 := BitVec.ofNat 32 (i 0).val
  let c256_i32 : BitVec 32 := 256#32
  let v0 : BitVec 32 := Scalar.muli arg0 c256_i32
  let v489 : Index := Scalar.indexCast v0
  let c3078 : Index := 3078#32
  ![v489.toNat, 3078]
def k0_off32 (i : grid0.Coords) : Fin 2 → Nat :=
  let arg0 : BitVec 32 := BitVec.ofNat 32 (i 0).val
  let c256_i32 : BitVec 32 := 256#32
  let v0 : BitVec 32 := Scalar.muli arg0 c256_i32
  let v500 : Index := Scalar.indexCast v0
  let c3079 : Index := 3079#32
  ![v500.toNat, 3079]
def k0_off33 (i : grid0.Coords) : Fin 2 → Nat :=
  let arg0 : BitVec 32 := BitVec.ofNat 32 (i 0).val
  let c256_i32 : BitVec 32 := 256#32
  let v0 : BitVec 32 := Scalar.muli arg0 c256_i32
  let v512 : Index := Scalar.indexCast v0
  let c3080 : Index := 3080#32
  ![v512.toNat, 3080]
@[reducible] def k0_t9_loop (i : grid0.Coords) : Scf.Loop 32 :=
  let c0_i32_124 : BitVec 32 := 0#32
  let arg0 : BitVec 32 := BitVec.ofNat 32 (i 0).val
  let c1_i32_123 : BitVec 32 := 1#32
  let v531 : BitVec 32 := Scalar.addi arg0 c1_i32_123
  let v532 : BitVec 32 := Scalar.subi v531 c0_i32_124
  let c1_i32_125 : BitVec 32 := 1#32
  let v534 : BitVec 32 := Scalar.divsi v532 c1_i32_125
  let v535 : BitVec 32 := Scalar.muli v534 c1_i32_125
  let v536 : BitVec 32 := Scalar.addi c0_i32_124 v535
  let c1_i32_126 : BitVec 32 := 1#32
  ⟨c0_i32_124, v536, c1_i32_126⟩
def k0_off34 (i : grid0.Coords) (k0_t9 : Fin (k0_t9_loop i).trips) : Fin 2 → Nat :=
  let c0_i32_124 : BitVec 32 := 0#32
  let c1_i32_126 : BitVec 32 := 1#32
  let arg7 : BitVec 32 := Scf.iv c0_i32_124 c1_i32_126 k0_t9
  let c256_i32_532 : BitVec 32 := 256#32
  let v2148 : BitVec 32 := Scalar.muli arg7 c256_i32_532
  let v2149 : Index := Scalar.indexCast v2148
  let c0_533 : Index := 0#32
  ![v2149.toNat, 0]
def k0_off35 (i : grid0.Coords) (k0_t9 : Fin (k0_t9_loop i).trips) : Fin 2 → Nat :=
  let c0_i32_124 : BitVec 32 := 0#32
  let c1_i32_126 : BitVec 32 := 1#32
  let arg7 : BitVec 32 := Scf.iv c0_i32_124 c1_i32_126 k0_t9
  let c256_i32_534 : BitVec 32 := 256#32
  let v2151 : BitVec 32 := Scalar.muli arg7 c256_i32_534
  let v2152 : Index := Scalar.indexCast v2151
  let c512_535 : Index := 512#32
  ![v2152.toNat, 512]
def k0_off36 (i : grid0.Coords) (k0_t9 : Fin (k0_t9_loop i).trips) : Fin 3 → Nat :=
  let c0_i32_124 : BitVec 32 := 0#32
  let c1_i32_126 : BitVec 32 := 1#32
  let arg7 : BitVec 32 := Scf.iv c0_i32_124 c1_i32_126 k0_t9
  let v2165 : Index := Scalar.indexCast arg7
  let c0_540 : Index := 0#32
  let c0_541 : Index := 0#32
  ![v2165.toNat, 0, 0]
@[reducible] def k0_t10_loop (i : grid0.Coords) : Scf.Loop 32 :=
  let c0_i32_124 : BitVec 32 := 0#32
  let arg0 : BitVec 32 := BitVec.ofNat 32 (i 0).val
  let c1_i32_123 : BitVec 32 := 1#32
  let v531 : BitVec 32 := Scalar.addi arg0 c1_i32_123
  let v532 : BitVec 32 := Scalar.subi v531 c0_i32_124
  let c1_i32_125 : BitVec 32 := 1#32
  let v534 : BitVec 32 := Scalar.divsi v532 c1_i32_125
  let v535 : BitVec 32 := Scalar.muli v534 c1_i32_125
  let v536 : BitVec 32 := Scalar.addi c0_i32_124 v535
  let v533 : BitVec 32 := Scalar.addi c0_i32_124 v532
  let c1_i32_127 : BitVec 32 := 1#32
  ⟨v536, v533, c1_i32_127⟩
def k0_off37 (i : grid0.Coords) (k0_t10 : Fin (k0_t10_loop i).trips) : Fin 2 → Nat :=
  let c0_i32_124 : BitVec 32 := 0#32
  let arg0 : BitVec 32 := BitVec.ofNat 32 (i 0).val
  let c1_i32_123 : BitVec 32 := 1#32
  let v531 : BitVec 32 := Scalar.addi arg0 c1_i32_123
  let v532 : BitVec 32 := Scalar.subi v531 c0_i32_124
  let c1_i32_125 : BitVec 32 := 1#32
  let v534 : BitVec 32 := Scalar.divsi v532 c1_i32_125
  let v535 : BitVec 32 := Scalar.muli v534 c1_i32_125
  let v536 : BitVec 32 := Scalar.addi c0_i32_124 v535
  let c1_i32_127 : BitVec 32 := 1#32
  let arg7 : BitVec 32 := Scf.iv v536 c1_i32_127 k0_t10
  let c256_i32_532 : BitVec 32 := 256#32
  let v2148 : BitVec 32 := Scalar.muli arg7 c256_i32_532
  let v2149 : Index := Scalar.indexCast v2148
  let c0_533 : Index := 0#32
  ![v2149.toNat, 0]
def k0_off38 (i : grid0.Coords) (k0_t10 : Fin (k0_t10_loop i).trips) : Fin 2 → Nat :=
  let c0_i32_124 : BitVec 32 := 0#32
  let arg0 : BitVec 32 := BitVec.ofNat 32 (i 0).val
  let c1_i32_123 : BitVec 32 := 1#32
  let v531 : BitVec 32 := Scalar.addi arg0 c1_i32_123
  let v532 : BitVec 32 := Scalar.subi v531 c0_i32_124
  let c1_i32_125 : BitVec 32 := 1#32
  let v534 : BitVec 32 := Scalar.divsi v532 c1_i32_125
  let v535 : BitVec 32 := Scalar.muli v534 c1_i32_125
  let v536 : BitVec 32 := Scalar.addi c0_i32_124 v535
  let c1_i32_127 : BitVec 32 := 1#32
  let arg7 : BitVec 32 := Scf.iv v536 c1_i32_127 k0_t10
  let c256_i32_534 : BitVec 32 := 256#32
  let v2151 : BitVec 32 := Scalar.muli arg7 c256_i32_534
  let v2152 : Index := Scalar.indexCast v2151
  let c512_535 : Index := 512#32
  ![v2152.toNat, 512]
def k0_off39 (i : grid0.Coords) (k0_t10 : Fin (k0_t10_loop i).trips) : Fin 3 → Nat :=
  let c0_i32_124 : BitVec 32 := 0#32
  let arg0 : BitVec 32 := BitVec.ofNat 32 (i 0).val
  let c1_i32_123 : BitVec 32 := 1#32
  let v531 : BitVec 32 := Scalar.addi arg0 c1_i32_123
  let v532 : BitVec 32 := Scalar.subi v531 c0_i32_124
  let c1_i32_125 : BitVec 32 := 1#32
  let v534 : BitVec 32 := Scalar.divsi v532 c1_i32_125
  let v535 : BitVec 32 := Scalar.muli v534 c1_i32_125
  let v536 : BitVec 32 := Scalar.addi c0_i32_124 v535
  let c1_i32_127 : BitVec 32 := 1#32
  let arg7 : BitVec 32 := Scf.iv v536 c1_i32_127 k0_t10
  let v2165 : Index := Scalar.indexCast arg7
  let c0_540 : Index := 0#32
  let c0_541 : Index := 0#32
  ![v2165.toNat, 0, 0]
def k0_off40 (i : grid0.Coords) : Fin 2 → Nat :=
  let arg0 : BitVec 32 := BitVec.ofNat 32 (i 0).val
  let c256_i32 : BitVec 32 := 256#32
  let v0 : BitVec 32 := Scalar.muli arg0 c256_i32
  let v543 : Index := Scalar.indexCast v0
  let c3081 : Index := 3081#32
  ![v543.toNat, 3081]
def k0_off41 (i : grid0.Coords) : Fin 2 → Nat :=
  let arg0 : BitVec 32 := BitVec.ofNat 32 (i 0).val
  let c256_i32 : BitVec 32 := 256#32
  let v0 : BitVec 32 := Scalar.muli arg0 c256_i32
  let v554 : Index := Scalar.indexCast v0
  let c3082 : Index := 3082#32
  ![v554.toNat, 3082]
def k0_off42 (i : grid0.Coords) : Fin 2 → Nat :=
  let arg0 : BitVec 32 := BitVec.ofNat 32 (i 0).val
  let c256_i32 : BitVec 32 := 256#32
  let v0 : BitVec 32 := Scalar.muli arg0 c256_i32
  let v566 : Index := Scalar.indexCast v0
  let c3083 : Index := 3083#32
  ![v566.toNat, 3083]
def k0_off43 (i : grid0.Coords) : Fin 2 → Nat :=
  let arg0 : BitVec 32 := BitVec.ofNat 32 (i 0).val
  let c256_i32 : BitVec 32 := 256#32
  let v0 : BitVec 32 := Scalar.muli arg0 c256_i32
  let v582 : Index := Scalar.indexCast v0
  let c512 : Index := 512#32
  ![v582.toNat, 512]
def k0_off44 (i : grid0.Coords) : Fin 2 → Nat :=
  let arg0 : BitVec 32 := BitVec.ofNat 32 (i 0).val
  let c256_i32 : BitVec 32 := 256#32
  let v0 : BitVec 32 := Scalar.muli arg0 c256_i32
  let v603 : Index := Scalar.indexCast v0
  let c640 : Index := 640#32
  ![v603.toNat, 640]
def k0_off45 (i : grid0.Coords) : Fin 2 → Nat :=
  let arg0 : BitVec 32 := BitVec.ofNat 32 (i 0).val
  let c256_i32 : BitVec 32 := 256#32
  let v0 : BitVec 32 := Scalar.muli arg0 c256_i32
  let v624 : Index := Scalar.indexCast v0
  let c768 : Index := 768#32
  ![v624.toNat, 768]
def k0_off46 (i : grid0.Coords) : Fin 2 → Nat :=
  let arg0 : BitVec 32 := BitVec.ofNat 32 (i 0).val
  let c256_i32 : BitVec 32 := 256#32
  let v0 : BitVec 32 := Scalar.muli arg0 c256_i32
  let v645 : Index := Scalar.indexCast v0
  let c896 : Index := 896#32
  ![v645.toNat, 896]
@[reducible] def k0_t11_loop (i : grid0.Coords) : Scf.Loop 32 :=
  let c0_i32_185 : BitVec 32 := 0#32
  let arg0 : BitVec 32 := BitVec.ofNat 32 (i 0).val
  let c1_i32_184 : BitVec 32 := 1#32
  let v878 : BitVec 32 := Scalar.addi arg0 c1_i32_184
  let v879 : BitVec 32 := Scalar.subi v878 c0_i32_185
  let c1_i32_187 : BitVec 32 := 1#32
  let v881 : BitVec 32 := Scalar.divsi v879 c1_i32_187
  let v882 : BitVec 32 := Scalar.muli v881 c1_i32_187
  let v883 : BitVec 32 := Scalar.addi c0_i32_185 v882
  let c1_i32_188 : BitVec 32 := 1#32
  ⟨c0_i32_185, v883, c1_i32_188⟩
def k0_off47 (i : grid0.Coords) (k0_t11 : Fin (k0_t11_loop i).trips) : Fin 3 → Nat :=
  let c0_i32_185 : BitVec 32 := 0#32
  let c1_i32_188 : BitVec 32 := 1#32
  let arg7 : BitVec 32 := Scf.iv c0_i32_185 c1_i32_188 k0_t11
  let v2184 : Index := Scalar.indexCast arg7
  let c0_543 : Index := 0#32
  let c0_544 : Index := 0#32
  ![v2184.toNat, 0, 0]
@[reducible] def k0_t12_loop (i : grid0.Coords) : Scf.Loop 32 :=
  let c0_i32_185 : BitVec 32 := 0#32
  let arg0 : BitVec 32 := BitVec.ofNat 32 (i 0).val
  let c1_i32_184 : BitVec 32 := 1#32
  let v878 : BitVec 32 := Scalar.addi arg0 c1_i32_184
  let v879 : BitVec 32 := Scalar.subi v878 c0_i32_185
  let c1_i32_187 : BitVec 32 := 1#32
  let v881 : BitVec 32 := Scalar.divsi v879 c1_i32_187
  let v882 : BitVec 32 := Scalar.muli v881 c1_i32_187
  let v883 : BitVec 32 := Scalar.addi c0_i32_185 v882
  let v880 : BitVec 32 := Scalar.addi c0_i32_185 v879
  let c1_i32_189 : BitVec 32 := 1#32
  ⟨v883, v880, c1_i32_189⟩
def k0_off48 (i : grid0.Coords) (k0_t12 : Fin (k0_t12_loop i).trips) : Fin 3 → Nat :=
  let c0_i32_185 : BitVec 32 := 0#32
  let arg0 : BitVec 32 := BitVec.ofNat 32 (i 0).val
  let c1_i32_184 : BitVec 32 := 1#32
  let v878 : BitVec 32 := Scalar.addi arg0 c1_i32_184
  let v879 : BitVec 32 := Scalar.subi v878 c0_i32_185
  let c1_i32_187 : BitVec 32 := 1#32
  let v881 : BitVec 32 := Scalar.divsi v879 c1_i32_187
  let v882 : BitVec 32 := Scalar.muli v881 c1_i32_187
  let v883 : BitVec 32 := Scalar.addi c0_i32_185 v882
  let c1_i32_189 : BitVec 32 := 1#32
  let arg7 : BitVec 32 := Scf.iv v883 c1_i32_189 k0_t12
  let v2184 : Index := Scalar.indexCast arg7
  let c0_543 : Index := 0#32
  let c0_544 : Index := 0#32
  ![v2184.toNat, 0, 0]
@[reducible] def k0_t13_loop (i : grid0.Coords) : Scf.Loop 32 :=
  let c0_i32_195 : BitVec 32 := 0#32
  let arg0 : BitVec 32 := BitVec.ofNat 32 (i 0).val
  let c1_i32_194 : BitVec 32 := 1#32
  let v892 : BitVec 32 := Scalar.addi arg0 c1_i32_194
  let v893 : BitVec 32 := Scalar.subi v892 c0_i32_195
  let c1_i32_196 : BitVec 32 := 1#32
  let v895 : BitVec 32 := Scalar.divsi v893 c1_i32_196
  let v896 : BitVec 32 := Scalar.muli v895 c1_i32_196
  let v897 : BitVec 32 := Scalar.addi c0_i32_195 v896
  let c1_i32_197 : BitVec 32 := 1#32
  ⟨c0_i32_195, v897, c1_i32_197⟩
def k0_off49 (i : grid0.Coords) (k0_t13 : Fin (k0_t13_loop i).trips) : Fin 2 → Nat :=
  let c0_i32_195 : BitVec 32 := 0#32
  let c1_i32_197 : BitVec 32 := 1#32
  let arg7 : BitVec 32 := Scf.iv c0_i32_195 c1_i32_197 k0_t13
  let c256_i32_532 : BitVec 32 := 256#32
  let v2148 : BitVec 32 := Scalar.muli arg7 c256_i32_532
  let v2149 : Index := Scalar.indexCast v2148
  let c128_533 : Index := 128#32
  ![v2149.toNat, 128]
def k0_off50 (i : grid0.Coords) (k0_t13 : Fin (k0_t13_loop i).trips) : Fin 2 → Nat :=
  let c0_i32_195 : BitVec 32 := 0#32
  let c1_i32_197 : BitVec 32 := 1#32
  let arg7 : BitVec 32 := Scf.iv c0_i32_195 c1_i32_197 k0_t13
  let c256_i32_534 : BitVec 32 := 256#32
  let v2151 : BitVec 32 := Scalar.muli arg7 c256_i32_534
  let v2152 : Index := Scalar.indexCast v2151
  let c640_535 : Index := 640#32
  ![v2152.toNat, 640]
def k0_off51 (i : grid0.Coords) (k0_t13 : Fin (k0_t13_loop i).trips) : Fin 3 → Nat :=
  let c0_i32_195 : BitVec 32 := 0#32
  let c1_i32_197 : BitVec 32 := 1#32
  let arg7 : BitVec 32 := Scf.iv c0_i32_195 c1_i32_197 k0_t13
  let v2165 : Index := Scalar.indexCast arg7
  let c0_540 : Index := 0#32
  let c0_541 : Index := 0#32
  ![v2165.toNat, 0, 0]
@[reducible] def k0_t14_loop (i : grid0.Coords) : Scf.Loop 32 :=
  let c0_i32_195 : BitVec 32 := 0#32
  let arg0 : BitVec 32 := BitVec.ofNat 32 (i 0).val
  let c1_i32_194 : BitVec 32 := 1#32
  let v892 : BitVec 32 := Scalar.addi arg0 c1_i32_194
  let v893 : BitVec 32 := Scalar.subi v892 c0_i32_195
  let c1_i32_196 : BitVec 32 := 1#32
  let v895 : BitVec 32 := Scalar.divsi v893 c1_i32_196
  let v896 : BitVec 32 := Scalar.muli v895 c1_i32_196
  let v897 : BitVec 32 := Scalar.addi c0_i32_195 v896
  let v894 : BitVec 32 := Scalar.addi c0_i32_195 v893
  let c1_i32_198 : BitVec 32 := 1#32
  ⟨v897, v894, c1_i32_198⟩
def k0_off52 (i : grid0.Coords) (k0_t14 : Fin (k0_t14_loop i).trips) : Fin 2 → Nat :=
  let c0_i32_195 : BitVec 32 := 0#32
  let arg0 : BitVec 32 := BitVec.ofNat 32 (i 0).val
  let c1_i32_194 : BitVec 32 := 1#32
  let v892 : BitVec 32 := Scalar.addi arg0 c1_i32_194
  let v893 : BitVec 32 := Scalar.subi v892 c0_i32_195
  let c1_i32_196 : BitVec 32 := 1#32
  let v895 : BitVec 32 := Scalar.divsi v893 c1_i32_196
  let v896 : BitVec 32 := Scalar.muli v895 c1_i32_196
  let v897 : BitVec 32 := Scalar.addi c0_i32_195 v896
  let c1_i32_198 : BitVec 32 := 1#32
  let arg7 : BitVec 32 := Scf.iv v897 c1_i32_198 k0_t14
  let c256_i32_532 : BitVec 32 := 256#32
  let v2148 : BitVec 32 := Scalar.muli arg7 c256_i32_532
  let v2149 : Index := Scalar.indexCast v2148
  let c128_533 : Index := 128#32
  ![v2149.toNat, 128]
def k0_off53 (i : grid0.Coords) (k0_t14 : Fin (k0_t14_loop i).trips) : Fin 2 → Nat :=
  let c0_i32_195 : BitVec 32 := 0#32
  let arg0 : BitVec 32 := BitVec.ofNat 32 (i 0).val
  let c1_i32_194 : BitVec 32 := 1#32
  let v892 : BitVec 32 := Scalar.addi arg0 c1_i32_194
  let v893 : BitVec 32 := Scalar.subi v892 c0_i32_195
  let c1_i32_196 : BitVec 32 := 1#32
  let v895 : BitVec 32 := Scalar.divsi v893 c1_i32_196
  let v896 : BitVec 32 := Scalar.muli v895 c1_i32_196
  let v897 : BitVec 32 := Scalar.addi c0_i32_195 v896
  let c1_i32_198 : BitVec 32 := 1#32
  let arg7 : BitVec 32 := Scf.iv v897 c1_i32_198 k0_t14
  let c256_i32_534 : BitVec 32 := 256#32
  let v2151 : BitVec 32 := Scalar.muli arg7 c256_i32_534
  let v2152 : Index := Scalar.indexCast v2151
  let c640_535 : Index := 640#32
  ![v2152.toNat, 640]
def k0_off54 (i : grid0.Coords) (k0_t14 : Fin (k0_t14_loop i).trips) : Fin 3 → Nat :=
  let c0_i32_195 : BitVec 32 := 0#32
  let arg0 : BitVec 32 := BitVec.ofNat 32 (i 0).val
  let c1_i32_194 : BitVec 32 := 1#32
  let v892 : BitVec 32 := Scalar.addi arg0 c1_i32_194
  let v893 : BitVec 32 := Scalar.subi v892 c0_i32_195
  let c1_i32_196 : BitVec 32 := 1#32
  let v895 : BitVec 32 := Scalar.divsi v893 c1_i32_196
  let v896 : BitVec 32 := Scalar.muli v895 c1_i32_196
  let v897 : BitVec 32 := Scalar.addi c0_i32_195 v896
  let c1_i32_198 : BitVec 32 := 1#32
  let arg7 : BitVec 32 := Scf.iv v897 c1_i32_198 k0_t14
  let v2165 : Index := Scalar.indexCast arg7
  let c0_540 : Index := 0#32
  let c0_541 : Index := 0#32
  ![v2165.toNat, 0, 0]
def k0_off55 (i : grid0.Coords) : Fin 2 → Nat :=
  let arg0 : BitVec 32 := BitVec.ofNat 32 (i 0).val
  let c256_i32 : BitVec 32 := 256#32
  let v0 : BitVec 32 := Scalar.muli arg0 c256_i32
  let v904 : Index := Scalar.indexCast v0
  let c3084 : Index := 3084#32
  ![v904.toNat, 3084]
def k0_off56 (i : grid0.Coords) : Fin 2 → Nat :=
  let arg0 : BitVec 32 := BitVec.ofNat 32 (i 0).val
  let c256_i32 : BitVec 32 := 256#32
  let v0 : BitVec 32 := Scalar.muli arg0 c256_i32
  let v915 : Index := Scalar.indexCast v0
  let c3085 : Index := 3085#32
  ![v915.toNat, 3085]
def k0_off57 (i : grid0.Coords) : Fin 2 → Nat :=
  let arg0 : BitVec 32 := BitVec.ofNat 32 (i 0).val
  let c256_i32 : BitVec 32 := 256#32
  let v0 : BitVec 32 := Scalar.muli arg0 c256_i32
  let v927 : Index := Scalar.indexCast v0
  let c3086 : Index := 3086#32
  ![v927.toNat, 3086]
@[reducible] def k0_t15_loop (i : grid0.Coords) : Scf.Loop 32 :=
  let c0_i32_215 : BitVec 32 := 0#32
  let arg0 : BitVec 32 := BitVec.ofNat 32 (i 0).val
  let c1_i32_214 : BitVec 32 := 1#32
  let v946 : BitVec 32 := Scalar.addi arg0 c1_i32_214
  let v947 : BitVec 32 := Scalar.subi v946 c0_i32_215
  let c1_i32_216 : BitVec 32 := 1#32
  let v949 : BitVec 32 := Scalar.divsi v947 c1_i32_216
  let v950 : BitVec 32 := Scalar.muli v949 c1_i32_216
  let v951 : BitVec 32 := Scalar.addi c0_i32_215 v950
  let c1_i32_217 : BitVec 32 := 1#32
  ⟨c0_i32_215, v951, c1_i32_217⟩
def k0_off58 (i : grid0.Coords) (k0_t15 : Fin (k0_t15_loop i).trips) : Fin 2 → Nat :=
  let c0_i32_215 : BitVec 32 := 0#32
  let c1_i32_217 : BitVec 32 := 1#32
  let arg7 : BitVec 32 := Scf.iv c0_i32_215 c1_i32_217 k0_t15
  let c256_i32_532 : BitVec 32 := 256#32
  let v2148 : BitVec 32 := Scalar.muli arg7 c256_i32_532
  let v2149 : Index := Scalar.indexCast v2148
  let c128_533 : Index := 128#32
  ![v2149.toNat, 128]
def k0_off59 (i : grid0.Coords) (k0_t15 : Fin (k0_t15_loop i).trips) : Fin 2 → Nat :=
  let c0_i32_215 : BitVec 32 := 0#32
  let c1_i32_217 : BitVec 32 := 1#32
  let arg7 : BitVec 32 := Scf.iv c0_i32_215 c1_i32_217 k0_t15
  let c256_i32_534 : BitVec 32 := 256#32
  let v2151 : BitVec 32 := Scalar.muli arg7 c256_i32_534
  let v2152 : Index := Scalar.indexCast v2151
  let c640_535 : Index := 640#32
  ![v2152.toNat, 640]
def k0_off60 (i : grid0.Coords) (k0_t15 : Fin (k0_t15_loop i).trips) : Fin 3 → Nat :=
  let c0_i32_215 : BitVec 32 := 0#32
  let c1_i32_217 : BitVec 32 := 1#32
  let arg7 : BitVec 32 := Scf.iv c0_i32_215 c1_i32_217 k0_t15
  let v2165 : Index := Scalar.indexCast arg7
  let c0_540 : Index := 0#32
  let c0_541 : Index := 0#32
  ![v2165.toNat, 0, 0]
@[reducible] def k0_t16_loop (i : grid0.Coords) : Scf.Loop 32 :=
  let c0_i32_215 : BitVec 32 := 0#32
  let arg0 : BitVec 32 := BitVec.ofNat 32 (i 0).val
  let c1_i32_214 : BitVec 32 := 1#32
  let v946 : BitVec 32 := Scalar.addi arg0 c1_i32_214
  let v947 : BitVec 32 := Scalar.subi v946 c0_i32_215
  let c1_i32_216 : BitVec 32 := 1#32
  let v949 : BitVec 32 := Scalar.divsi v947 c1_i32_216
  let v950 : BitVec 32 := Scalar.muli v949 c1_i32_216
  let v951 : BitVec 32 := Scalar.addi c0_i32_215 v950
  let v948 : BitVec 32 := Scalar.addi c0_i32_215 v947
  let c1_i32_218 : BitVec 32 := 1#32
  ⟨v951, v948, c1_i32_218⟩
def k0_off61 (i : grid0.Coords) (k0_t16 : Fin (k0_t16_loop i).trips) : Fin 2 → Nat :=
  let c0_i32_215 : BitVec 32 := 0#32
  let arg0 : BitVec 32 := BitVec.ofNat 32 (i 0).val
  let c1_i32_214 : BitVec 32 := 1#32
  let v946 : BitVec 32 := Scalar.addi arg0 c1_i32_214
  let v947 : BitVec 32 := Scalar.subi v946 c0_i32_215
  let c1_i32_216 : BitVec 32 := 1#32
  let v949 : BitVec 32 := Scalar.divsi v947 c1_i32_216
  let v950 : BitVec 32 := Scalar.muli v949 c1_i32_216
  let v951 : BitVec 32 := Scalar.addi c0_i32_215 v950
  let c1_i32_218 : BitVec 32 := 1#32
  let arg7 : BitVec 32 := Scf.iv v951 c1_i32_218 k0_t16
  let c256_i32_532 : BitVec 32 := 256#32
  let v2148 : BitVec 32 := Scalar.muli arg7 c256_i32_532
  let v2149 : Index := Scalar.indexCast v2148
  let c128_533 : Index := 128#32
  ![v2149.toNat, 128]
def k0_off62 (i : grid0.Coords) (k0_t16 : Fin (k0_t16_loop i).trips) : Fin 2 → Nat :=
  let c0_i32_215 : BitVec 32 := 0#32
  let arg0 : BitVec 32 := BitVec.ofNat 32 (i 0).val
  let c1_i32_214 : BitVec 32 := 1#32
  let v946 : BitVec 32 := Scalar.addi arg0 c1_i32_214
  let v947 : BitVec 32 := Scalar.subi v946 c0_i32_215
  let c1_i32_216 : BitVec 32 := 1#32
  let v949 : BitVec 32 := Scalar.divsi v947 c1_i32_216
  let v950 : BitVec 32 := Scalar.muli v949 c1_i32_216
  let v951 : BitVec 32 := Scalar.addi c0_i32_215 v950
  let c1_i32_218 : BitVec 32 := 1#32
  let arg7 : BitVec 32 := Scf.iv v951 c1_i32_218 k0_t16
  let c256_i32_534 : BitVec 32 := 256#32
  let v2151 : BitVec 32 := Scalar.muli arg7 c256_i32_534
  let v2152 : Index := Scalar.indexCast v2151
  let c640_535 : Index := 640#32
  ![v2152.toNat, 640]
def k0_off63 (i : grid0.Coords) (k0_t16 : Fin (k0_t16_loop i).trips) : Fin 3 → Nat :=
  let c0_i32_215 : BitVec 32 := 0#32
  let arg0 : BitVec 32 := BitVec.ofNat 32 (i 0).val
  let c1_i32_214 : BitVec 32 := 1#32
  let v946 : BitVec 32 := Scalar.addi arg0 c1_i32_214
  let v947 : BitVec 32 := Scalar.subi v946 c0_i32_215
  let c1_i32_216 : BitVec 32 := 1#32
  let v949 : BitVec 32 := Scalar.divsi v947 c1_i32_216
  let v950 : BitVec 32 := Scalar.muli v949 c1_i32_216
  let v951 : BitVec 32 := Scalar.addi c0_i32_215 v950
  let c1_i32_218 : BitVec 32 := 1#32
  let arg7 : BitVec 32 := Scf.iv v951 c1_i32_218 k0_t16
  let v2165 : Index := Scalar.indexCast arg7
  let c0_540 : Index := 0#32
  let c0_541 : Index := 0#32
  ![v2165.toNat, 0, 0]
def k0_off64 (i : grid0.Coords) : Fin 2 → Nat :=
  let arg0 : BitVec 32 := BitVec.ofNat 32 (i 0).val
  let c256_i32 : BitVec 32 := 256#32
  let v0 : BitVec 32 := Scalar.muli arg0 c256_i32
  let v958 : Index := Scalar.indexCast v0
  let c3087 : Index := 3087#32
  ![v958.toNat, 3087]
def k0_off65 (i : grid0.Coords) : Fin 2 → Nat :=
  let arg0 : BitVec 32 := BitVec.ofNat 32 (i 0).val
  let c256_i32 : BitVec 32 := 256#32
  let v0 : BitVec 32 := Scalar.muli arg0 c256_i32
  let v969 : Index := Scalar.indexCast v0
  let c3088 : Index := 3088#32
  ![v969.toNat, 3088]
def k0_off66 (i : grid0.Coords) : Fin 2 → Nat :=
  let arg0 : BitVec 32 := BitVec.ofNat 32 (i 0).val
  let c256_i32 : BitVec 32 := 256#32
  let v0 : BitVec 32 := Scalar.muli arg0 c256_i32
  let v981 : Index := Scalar.indexCast v0
  let c3089 : Index := 3089#32
  ![v981.toNat, 3089]
@[reducible] def k0_t17_loop (i : grid0.Coords) : Scf.Loop 32 :=
  let c0_i32_235 : BitVec 32 := 0#32
  let arg0 : BitVec 32 := BitVec.ofNat 32 (i 0).val
  let c1_i32_234 : BitVec 32 := 1#32
  let v1000 : BitVec 32 := Scalar.addi arg0 c1_i32_234
  let v1001 : BitVec 32 := Scalar.subi v1000 c0_i32_235
  let c1_i32_236 : BitVec 32 := 1#32
  let v1003 : BitVec 32 := Scalar.divsi v1001 c1_i32_236
  let v1004 : BitVec 32 := Scalar.muli v1003 c1_i32_236
  let v1005 : BitVec 32 := Scalar.addi c0_i32_235 v1004
  let c1_i32_237 : BitVec 32 := 1#32
  ⟨c0_i32_235, v1005, c1_i32_237⟩
def k0_off67 (i : grid0.Coords) (k0_t17 : Fin (k0_t17_loop i).trips) : Fin 2 → Nat :=
  let c0_i32_235 : BitVec 32 := 0#32
  let c1_i32_237 : BitVec 32 := 1#32
  let arg7 : BitVec 32 := Scf.iv c0_i32_235 c1_i32_237 k0_t17
  let c256_i32_532 : BitVec 32 := 256#32
  let v2148 : BitVec 32 := Scalar.muli arg7 c256_i32_532
  let v2149 : Index := Scalar.indexCast v2148
  let c128_533 : Index := 128#32
  ![v2149.toNat, 128]
def k0_off68 (i : grid0.Coords) (k0_t17 : Fin (k0_t17_loop i).trips) : Fin 2 → Nat :=
  let c0_i32_235 : BitVec 32 := 0#32
  let c1_i32_237 : BitVec 32 := 1#32
  let arg7 : BitVec 32 := Scf.iv c0_i32_235 c1_i32_237 k0_t17
  let c256_i32_534 : BitVec 32 := 256#32
  let v2151 : BitVec 32 := Scalar.muli arg7 c256_i32_534
  let v2152 : Index := Scalar.indexCast v2151
  let c640_535 : Index := 640#32
  ![v2152.toNat, 640]
def k0_off69 (i : grid0.Coords) (k0_t17 : Fin (k0_t17_loop i).trips) : Fin 3 → Nat :=
  let c0_i32_235 : BitVec 32 := 0#32
  let c1_i32_237 : BitVec 32 := 1#32
  let arg7 : BitVec 32 := Scf.iv c0_i32_235 c1_i32_237 k0_t17
  let v2165 : Index := Scalar.indexCast arg7
  let c0_540 : Index := 0#32
  let c0_541 : Index := 0#32
  ![v2165.toNat, 0, 0]
@[reducible] def k0_t18_loop (i : grid0.Coords) : Scf.Loop 32 :=
  let c0_i32_235 : BitVec 32 := 0#32
  let arg0 : BitVec 32 := BitVec.ofNat 32 (i 0).val
  let c1_i32_234 : BitVec 32 := 1#32
  let v1000 : BitVec 32 := Scalar.addi arg0 c1_i32_234
  let v1001 : BitVec 32 := Scalar.subi v1000 c0_i32_235
  let c1_i32_236 : BitVec 32 := 1#32
  let v1003 : BitVec 32 := Scalar.divsi v1001 c1_i32_236
  let v1004 : BitVec 32 := Scalar.muli v1003 c1_i32_236
  let v1005 : BitVec 32 := Scalar.addi c0_i32_235 v1004
  let v1002 : BitVec 32 := Scalar.addi c0_i32_235 v1001
  let c1_i32_238 : BitVec 32 := 1#32
  ⟨v1005, v1002, c1_i32_238⟩
def k0_off70 (i : grid0.Coords) (k0_t18 : Fin (k0_t18_loop i).trips) : Fin 2 → Nat :=
  let c0_i32_235 : BitVec 32 := 0#32
  let arg0 : BitVec 32 := BitVec.ofNat 32 (i 0).val
  let c1_i32_234 : BitVec 32 := 1#32
  let v1000 : BitVec 32 := Scalar.addi arg0 c1_i32_234
  let v1001 : BitVec 32 := Scalar.subi v1000 c0_i32_235
  let c1_i32_236 : BitVec 32 := 1#32
  let v1003 : BitVec 32 := Scalar.divsi v1001 c1_i32_236
  let v1004 : BitVec 32 := Scalar.muli v1003 c1_i32_236
  let v1005 : BitVec 32 := Scalar.addi c0_i32_235 v1004
  let c1_i32_238 : BitVec 32 := 1#32
  let arg7 : BitVec 32 := Scf.iv v1005 c1_i32_238 k0_t18
  let c256_i32_532 : BitVec 32 := 256#32
  let v2148 : BitVec 32 := Scalar.muli arg7 c256_i32_532
  let v2149 : Index := Scalar.indexCast v2148
  let c128_533 : Index := 128#32
  ![v2149.toNat, 128]
def k0_off71 (i : grid0.Coords) (k0_t18 : Fin (k0_t18_loop i).trips) : Fin 2 → Nat :=
  let c0_i32_235 : BitVec 32 := 0#32
  let arg0 : BitVec 32 := BitVec.ofNat 32 (i 0).val
  let c1_i32_234 : BitVec 32 := 1#32
  let v1000 : BitVec 32 := Scalar.addi arg0 c1_i32_234
  let v1001 : BitVec 32 := Scalar.subi v1000 c0_i32_235
  let c1_i32_236 : BitVec 32 := 1#32
  let v1003 : BitVec 32 := Scalar.divsi v1001 c1_i32_236
  let v1004 : BitVec 32 := Scalar.muli v1003 c1_i32_236
  let v1005 : BitVec 32 := Scalar.addi c0_i32_235 v1004
  let c1_i32_238 : BitVec 32 := 1#32
  let arg7 : BitVec 32 := Scf.iv v1005 c1_i32_238 k0_t18
  let c256_i32_534 : BitVec 32 := 256#32
  let v2151 : BitVec 32 := Scalar.muli arg7 c256_i32_534
  let v2152 : Index := Scalar.indexCast v2151
  let c640_535 : Index := 640#32
  ![v2152.toNat, 640]
def k0_off72 (i : grid0.Coords) (k0_t18 : Fin (k0_t18_loop i).trips) : Fin 3 → Nat :=
  let c0_i32_235 : BitVec 32 := 0#32
  let arg0 : BitVec 32 := BitVec.ofNat 32 (i 0).val
  let c1_i32_234 : BitVec 32 := 1#32
  let v1000 : BitVec 32 := Scalar.addi arg0 c1_i32_234
  let v1001 : BitVec 32 := Scalar.subi v1000 c0_i32_235
  let c1_i32_236 : BitVec 32 := 1#32
  let v1003 : BitVec 32 := Scalar.divsi v1001 c1_i32_236
  let v1004 : BitVec 32 := Scalar.muli v1003 c1_i32_236
  let v1005 : BitVec 32 := Scalar.addi c0_i32_235 v1004
  let c1_i32_238 : BitVec 32 := 1#32
  let arg7 : BitVec 32 := Scf.iv v1005 c1_i32_238 k0_t18
  let v2165 : Index := Scalar.indexCast arg7
  let c0_540 : Index := 0#32
  let c0_541 : Index := 0#32
  ![v2165.toNat, 0, 0]
def k0_off73 (i : grid0.Coords) : Fin 2 → Nat :=
  let arg0 : BitVec 32 := BitVec.ofNat 32 (i 0).val
  let c256_i32 : BitVec 32 := 256#32
  let v0 : BitVec 32 := Scalar.muli arg0 c256_i32
  let v1012 : Index := Scalar.indexCast v0
  let c3090 : Index := 3090#32
  ![v1012.toNat, 3090]
def k0_off74 (i : grid0.Coords) : Fin 2 → Nat :=
  let arg0 : BitVec 32 := BitVec.ofNat 32 (i 0).val
  let c256_i32 : BitVec 32 := 256#32
  let v0 : BitVec 32 := Scalar.muli arg0 c256_i32
  let v1023 : Index := Scalar.indexCast v0
  let c3091 : Index := 3091#32
  ![v1023.toNat, 3091]
def k0_off75 (i : grid0.Coords) : Fin 2 → Nat :=
  let arg0 : BitVec 32 := BitVec.ofNat 32 (i 0).val
  let c256_i32 : BitVec 32 := 256#32
  let v0 : BitVec 32 := Scalar.muli arg0 c256_i32
  let v1035 : Index := Scalar.indexCast v0
  let c3092 : Index := 3092#32
  ![v1035.toNat, 3092]
@[reducible] def k0_t19_loop (i : grid0.Coords) : Scf.Loop 32 :=
  let c0_i32_255 : BitVec 32 := 0#32
  let arg0 : BitVec 32 := BitVec.ofNat 32 (i 0).val
  let c1_i32_254 : BitVec 32 := 1#32
  let v1054 : BitVec 32 := Scalar.addi arg0 c1_i32_254
  let v1055 : BitVec 32 := Scalar.subi v1054 c0_i32_255
  let c1_i32_256 : BitVec 32 := 1#32
  let v1057 : BitVec 32 := Scalar.divsi v1055 c1_i32_256
  let v1058 : BitVec 32 := Scalar.muli v1057 c1_i32_256
  let v1059 : BitVec 32 := Scalar.addi c0_i32_255 v1058
  let c1_i32_257 : BitVec 32 := 1#32
  ⟨c0_i32_255, v1059, c1_i32_257⟩
def k0_off76 (i : grid0.Coords) (k0_t19 : Fin (k0_t19_loop i).trips) : Fin 2 → Nat :=
  let c0_i32_255 : BitVec 32 := 0#32
  let c1_i32_257 : BitVec 32 := 1#32
  let arg7 : BitVec 32 := Scf.iv c0_i32_255 c1_i32_257 k0_t19
  let c256_i32_532 : BitVec 32 := 256#32
  let v2148 : BitVec 32 := Scalar.muli arg7 c256_i32_532
  let v2149 : Index := Scalar.indexCast v2148
  let c128_533 : Index := 128#32
  ![v2149.toNat, 128]
def k0_off77 (i : grid0.Coords) (k0_t19 : Fin (k0_t19_loop i).trips) : Fin 2 → Nat :=
  let c0_i32_255 : BitVec 32 := 0#32
  let c1_i32_257 : BitVec 32 := 1#32
  let arg7 : BitVec 32 := Scf.iv c0_i32_255 c1_i32_257 k0_t19
  let c256_i32_534 : BitVec 32 := 256#32
  let v2151 : BitVec 32 := Scalar.muli arg7 c256_i32_534
  let v2152 : Index := Scalar.indexCast v2151
  let c640_535 : Index := 640#32
  ![v2152.toNat, 640]
def k0_off78 (i : grid0.Coords) (k0_t19 : Fin (k0_t19_loop i).trips) : Fin 3 → Nat :=
  let c0_i32_255 : BitVec 32 := 0#32
  let c1_i32_257 : BitVec 32 := 1#32
  let arg7 : BitVec 32 := Scf.iv c0_i32_255 c1_i32_257 k0_t19
  let v2165 : Index := Scalar.indexCast arg7
  let c0_540 : Index := 0#32
  let c0_541 : Index := 0#32
  ![v2165.toNat, 0, 0]
@[reducible] def k0_t20_loop (i : grid0.Coords) : Scf.Loop 32 :=
  let c0_i32_255 : BitVec 32 := 0#32
  let arg0 : BitVec 32 := BitVec.ofNat 32 (i 0).val
  let c1_i32_254 : BitVec 32 := 1#32
  let v1054 : BitVec 32 := Scalar.addi arg0 c1_i32_254
  let v1055 : BitVec 32 := Scalar.subi v1054 c0_i32_255
  let c1_i32_256 : BitVec 32 := 1#32
  let v1057 : BitVec 32 := Scalar.divsi v1055 c1_i32_256
  let v1058 : BitVec 32 := Scalar.muli v1057 c1_i32_256
  let v1059 : BitVec 32 := Scalar.addi c0_i32_255 v1058
  let v1056 : BitVec 32 := Scalar.addi c0_i32_255 v1055
  let c1_i32_258 : BitVec 32 := 1#32
  ⟨v1059, v1056, c1_i32_258⟩
def k0_off79 (i : grid0.Coords) (k0_t20 : Fin (k0_t20_loop i).trips) : Fin 2 → Nat :=
  let c0_i32_255 : BitVec 32 := 0#32
  let arg0 : BitVec 32 := BitVec.ofNat 32 (i 0).val
  let c1_i32_254 : BitVec 32 := 1#32
  let v1054 : BitVec 32 := Scalar.addi arg0 c1_i32_254
  let v1055 : BitVec 32 := Scalar.subi v1054 c0_i32_255
  let c1_i32_256 : BitVec 32 := 1#32
  let v1057 : BitVec 32 := Scalar.divsi v1055 c1_i32_256
  let v1058 : BitVec 32 := Scalar.muli v1057 c1_i32_256
  let v1059 : BitVec 32 := Scalar.addi c0_i32_255 v1058
  let c1_i32_258 : BitVec 32 := 1#32
  let arg7 : BitVec 32 := Scf.iv v1059 c1_i32_258 k0_t20
  let c256_i32_532 : BitVec 32 := 256#32
  let v2148 : BitVec 32 := Scalar.muli arg7 c256_i32_532
  let v2149 : Index := Scalar.indexCast v2148
  let c128_533 : Index := 128#32
  ![v2149.toNat, 128]
def k0_off80 (i : grid0.Coords) (k0_t20 : Fin (k0_t20_loop i).trips) : Fin 2 → Nat :=
  let c0_i32_255 : BitVec 32 := 0#32
  let arg0 : BitVec 32 := BitVec.ofNat 32 (i 0).val
  let c1_i32_254 : BitVec 32 := 1#32
  let v1054 : BitVec 32 := Scalar.addi arg0 c1_i32_254
  let v1055 : BitVec 32 := Scalar.subi v1054 c0_i32_255
  let c1_i32_256 : BitVec 32 := 1#32
  let v1057 : BitVec 32 := Scalar.divsi v1055 c1_i32_256
  let v1058 : BitVec 32 := Scalar.muli v1057 c1_i32_256
  let v1059 : BitVec 32 := Scalar.addi c0_i32_255 v1058
  let c1_i32_258 : BitVec 32 := 1#32
  let arg7 : BitVec 32 := Scf.iv v1059 c1_i32_258 k0_t20
  let c256_i32_534 : BitVec 32 := 256#32
  let v2151 : BitVec 32 := Scalar.muli arg7 c256_i32_534
  let v2152 : Index := Scalar.indexCast v2151
  let c640_535 : Index := 640#32
  ![v2152.toNat, 640]
def k0_off81 (i : grid0.Coords) (k0_t20 : Fin (k0_t20_loop i).trips) : Fin 3 → Nat :=
  let c0_i32_255 : BitVec 32 := 0#32
  let arg0 : BitVec 32 := BitVec.ofNat 32 (i 0).val
  let c1_i32_254 : BitVec 32 := 1#32
  let v1054 : BitVec 32 := Scalar.addi arg0 c1_i32_254
  let v1055 : BitVec 32 := Scalar.subi v1054 c0_i32_255
  let c1_i32_256 : BitVec 32 := 1#32
  let v1057 : BitVec 32 := Scalar.divsi v1055 c1_i32_256
  let v1058 : BitVec 32 := Scalar.muli v1057 c1_i32_256
  let v1059 : BitVec 32 := Scalar.addi c0_i32_255 v1058
  let c1_i32_258 : BitVec 32 := 1#32
  let arg7 : BitVec 32 := Scf.iv v1059 c1_i32_258 k0_t20
  let v2165 : Index := Scalar.indexCast arg7
  let c0_540 : Index := 0#32
  let c0_541 : Index := 0#32
  ![v2165.toNat, 0, 0]
def k0_off82 (i : grid0.Coords) : Fin 2 → Nat :=
  let arg0 : BitVec 32 := BitVec.ofNat 32 (i 0).val
  let c256_i32 : BitVec 32 := 256#32
  let v0 : BitVec 32 := Scalar.muli arg0 c256_i32
  let v1066 : Index := Scalar.indexCast v0
  let c3093 : Index := 3093#32
  ![v1066.toNat, 3093]
def k0_off83 (i : grid0.Coords) : Fin 2 → Nat :=
  let arg0 : BitVec 32 := BitVec.ofNat 32 (i 0).val
  let c256_i32 : BitVec 32 := 256#32
  let v0 : BitVec 32 := Scalar.muli arg0 c256_i32
  let v1077 : Index := Scalar.indexCast v0
  let c3094 : Index := 3094#32
  ![v1077.toNat, 3094]
def k0_off84 (i : grid0.Coords) : Fin 2 → Nat :=
  let arg0 : BitVec 32 := BitVec.ofNat 32 (i 0).val
  let c256_i32 : BitVec 32 := 256#32
  let v0 : BitVec 32 := Scalar.muli arg0 c256_i32
  let v1089 : Index := Scalar.indexCast v0
  let c3095 : Index := 3095#32
  ![v1089.toNat, 3095]
def k0_off85 (i : grid0.Coords) : Fin 2 → Nat :=
  let arg0 : BitVec 32 := BitVec.ofNat 32 (i 0).val
  let c256_i32 : BitVec 32 := 256#32
  let v0 : BitVec 32 := Scalar.muli arg0 c256_i32
  let v1105 : Index := Scalar.indexCast v0
  let c1024 : Index := 1024#32
  ![v1105.toNat, 1024]
def k0_off86 (i : grid0.Coords) : Fin 2 → Nat :=
  let arg0 : BitVec 32 := BitVec.ofNat 32 (i 0).val
  let c256_i32 : BitVec 32 := 256#32
  let v0 : BitVec 32 := Scalar.muli arg0 c256_i32
  let v1126 : Index := Scalar.indexCast v0
  let c1152 : Index := 1152#32
  ![v1126.toNat, 1152]
def k0_off87 (i : grid0.Coords) : Fin 2 → Nat :=
  let arg0 : BitVec 32 := BitVec.ofNat 32 (i 0).val
  let c256_i32 : BitVec 32 := 256#32
  let v0 : BitVec 32 := Scalar.muli arg0 c256_i32
  let v1147 : Index := Scalar.indexCast v0
  let c1280 : Index := 1280#32
  ![v1147.toNat, 1280]
def k0_off88 (i : grid0.Coords) : Fin 2 → Nat :=
  let arg0 : BitVec 32 := BitVec.ofNat 32 (i 0).val
  let c256_i32 : BitVec 32 := 256#32
  let v0 : BitVec 32 := Scalar.muli arg0 c256_i32
  let v1168 : Index := Scalar.indexCast v0
  let c1408 : Index := 1408#32
  ![v1168.toNat, 1408]
@[reducible] def k0_t21_loop (i : grid0.Coords) : Scf.Loop 32 :=
  let c0_i32_316 : BitVec 32 := 0#32
  let arg0 : BitVec 32 := BitVec.ofNat 32 (i 0).val
  let c1_i32_315 : BitVec 32 := 1#32
  let v1401 : BitVec 32 := Scalar.addi arg0 c1_i32_315
  let v1402 : BitVec 32 := Scalar.subi v1401 c0_i32_316
  let c1_i32_318 : BitVec 32 := 1#32
  let v1404 : BitVec 32 := Scalar.divsi v1402 c1_i32_318
  let v1405 : BitVec 32 := Scalar.muli v1404 c1_i32_318
  let v1406 : BitVec 32 := Scalar.addi c0_i32_316 v1405
  let c1_i32_319 : BitVec 32 := 1#32
  ⟨c0_i32_316, v1406, c1_i32_319⟩
def k0_off89 (i : grid0.Coords) (k0_t21 : Fin (k0_t21_loop i).trips) : Fin 3 → Nat :=
  let c0_i32_316 : BitVec 32 := 0#32
  let c1_i32_319 : BitVec 32 := 1#32
  let arg7 : BitVec 32 := Scf.iv c0_i32_316 c1_i32_319 k0_t21
  let v2184 : Index := Scalar.indexCast arg7
  let c0_543 : Index := 0#32
  let c0_544 : Index := 0#32
  ![v2184.toNat, 0, 0]
@[reducible] def k0_t22_loop (i : grid0.Coords) : Scf.Loop 32 :=
  let c0_i32_316 : BitVec 32 := 0#32
  let arg0 : BitVec 32 := BitVec.ofNat 32 (i 0).val
  let c1_i32_315 : BitVec 32 := 1#32
  let v1401 : BitVec 32 := Scalar.addi arg0 c1_i32_315
  let v1402 : BitVec 32 := Scalar.subi v1401 c0_i32_316
  let c1_i32_318 : BitVec 32 := 1#32
  let v1404 : BitVec 32 := Scalar.divsi v1402 c1_i32_318
  let v1405 : BitVec 32 := Scalar.muli v1404 c1_i32_318
  let v1406 : BitVec 32 := Scalar.addi c0_i32_316 v1405
  let v1403 : BitVec 32 := Scalar.addi c0_i32_316 v1402
  let c1_i32_320 : BitVec 32 := 1#32
  ⟨v1406, v1403, c1_i32_320⟩
def k0_off90 (i : grid0.Coords) (k0_t22 : Fin (k0_t22_loop i).trips) : Fin 3 → Nat :=
  let c0_i32_316 : BitVec 32 := 0#32
  let arg0 : BitVec 32 := BitVec.ofNat 32 (i 0).val
  let c1_i32_315 : BitVec 32 := 1#32
  let v1401 : BitVec 32 := Scalar.addi arg0 c1_i32_315
  let v1402 : BitVec 32 := Scalar.subi v1401 c0_i32_316
  let c1_i32_318 : BitVec 32 := 1#32
  let v1404 : BitVec 32 := Scalar.divsi v1402 c1_i32_318
  let v1405 : BitVec 32 := Scalar.muli v1404 c1_i32_318
  let v1406 : BitVec 32 := Scalar.addi c0_i32_316 v1405
  let c1_i32_320 : BitVec 32 := 1#32
  let arg7 : BitVec 32 := Scf.iv v1406 c1_i32_320 k0_t22
  let v2184 : Index := Scalar.indexCast arg7
  let c0_543 : Index := 0#32
  let c0_544 : Index := 0#32
  ![v2184.toNat, 0, 0]
@[reducible] def k0_t23_loop (i : grid0.Coords) : Scf.Loop 32 :=
  let c0_i32_326 : BitVec 32 := 0#32
  let arg0 : BitVec 32 := BitVec.ofNat 32 (i 0).val
  let c1_i32_325 : BitVec 32 := 1#32
  let v1415 : BitVec 32 := Scalar.addi arg0 c1_i32_325
  let v1416 : BitVec 32 := Scalar.subi v1415 c0_i32_326
  let c1_i32_327 : BitVec 32 := 1#32
  let v1418 : BitVec 32 := Scalar.divsi v1416 c1_i32_327
  let v1419 : BitVec 32 := Scalar.muli v1418 c1_i32_327
  let v1420 : BitVec 32 := Scalar.addi c0_i32_326 v1419
  let c1_i32_328 : BitVec 32 := 1#32
  ⟨c0_i32_326, v1420, c1_i32_328⟩
def k0_off91 (i : grid0.Coords) (k0_t23 : Fin (k0_t23_loop i).trips) : Fin 2 → Nat :=
  let c0_i32_326 : BitVec 32 := 0#32
  let c1_i32_328 : BitVec 32 := 1#32
  let arg7 : BitVec 32 := Scf.iv c0_i32_326 c1_i32_328 k0_t23
  let c256_i32_532 : BitVec 32 := 256#32
  let v2148 : BitVec 32 := Scalar.muli arg7 c256_i32_532
  let v2149 : Index := Scalar.indexCast v2148
  let c256_533 : Index := 256#32
  ![v2149.toNat, 256]
def k0_off92 (i : grid0.Coords) (k0_t23 : Fin (k0_t23_loop i).trips) : Fin 2 → Nat :=
  let c0_i32_326 : BitVec 32 := 0#32
  let c1_i32_328 : BitVec 32 := 1#32
  let arg7 : BitVec 32 := Scf.iv c0_i32_326 c1_i32_328 k0_t23
  let c256_i32_534 : BitVec 32 := 256#32
  let v2151 : BitVec 32 := Scalar.muli arg7 c256_i32_534
  let v2152 : Index := Scalar.indexCast v2151
  let c768_535 : Index := 768#32
  ![v2152.toNat, 768]
def k0_off93 (i : grid0.Coords) (k0_t23 : Fin (k0_t23_loop i).trips) : Fin 3 → Nat :=
  let c0_i32_326 : BitVec 32 := 0#32
  let c1_i32_328 : BitVec 32 := 1#32
  let arg7 : BitVec 32 := Scf.iv c0_i32_326 c1_i32_328 k0_t23
  let v2165 : Index := Scalar.indexCast arg7
  let c0_540 : Index := 0#32
  let c0_541 : Index := 0#32
  ![v2165.toNat, 0, 0]
@[reducible] def k0_t24_loop (i : grid0.Coords) : Scf.Loop 32 :=
  let c0_i32_326 : BitVec 32 := 0#32
  let arg0 : BitVec 32 := BitVec.ofNat 32 (i 0).val
  let c1_i32_325 : BitVec 32 := 1#32
  let v1415 : BitVec 32 := Scalar.addi arg0 c1_i32_325
  let v1416 : BitVec 32 := Scalar.subi v1415 c0_i32_326
  let c1_i32_327 : BitVec 32 := 1#32
  let v1418 : BitVec 32 := Scalar.divsi v1416 c1_i32_327
  let v1419 : BitVec 32 := Scalar.muli v1418 c1_i32_327
  let v1420 : BitVec 32 := Scalar.addi c0_i32_326 v1419
  let v1417 : BitVec 32 := Scalar.addi c0_i32_326 v1416
  let c1_i32_329 : BitVec 32 := 1#32
  ⟨v1420, v1417, c1_i32_329⟩
def k0_off94 (i : grid0.Coords) (k0_t24 : Fin (k0_t24_loop i).trips) : Fin 2 → Nat :=
  let c0_i32_326 : BitVec 32 := 0#32
  let arg0 : BitVec 32 := BitVec.ofNat 32 (i 0).val
  let c1_i32_325 : BitVec 32 := 1#32
  let v1415 : BitVec 32 := Scalar.addi arg0 c1_i32_325
  let v1416 : BitVec 32 := Scalar.subi v1415 c0_i32_326
  let c1_i32_327 : BitVec 32 := 1#32
  let v1418 : BitVec 32 := Scalar.divsi v1416 c1_i32_327
  let v1419 : BitVec 32 := Scalar.muli v1418 c1_i32_327
  let v1420 : BitVec 32 := Scalar.addi c0_i32_326 v1419
  let c1_i32_329 : BitVec 32 := 1#32
  let arg7 : BitVec 32 := Scf.iv v1420 c1_i32_329 k0_t24
  let c256_i32_532 : BitVec 32 := 256#32
  let v2148 : BitVec 32 := Scalar.muli arg7 c256_i32_532
  let v2149 : Index := Scalar.indexCast v2148
  let c256_533 : Index := 256#32
  ![v2149.toNat, 256]
def k0_off95 (i : grid0.Coords) (k0_t24 : Fin (k0_t24_loop i).trips) : Fin 2 → Nat :=
  let c0_i32_326 : BitVec 32 := 0#32
  let arg0 : BitVec 32 := BitVec.ofNat 32 (i 0).val
  let c1_i32_325 : BitVec 32 := 1#32
  let v1415 : BitVec 32 := Scalar.addi arg0 c1_i32_325
  let v1416 : BitVec 32 := Scalar.subi v1415 c0_i32_326
  let c1_i32_327 : BitVec 32 := 1#32
  let v1418 : BitVec 32 := Scalar.divsi v1416 c1_i32_327
  let v1419 : BitVec 32 := Scalar.muli v1418 c1_i32_327
  let v1420 : BitVec 32 := Scalar.addi c0_i32_326 v1419
  let c1_i32_329 : BitVec 32 := 1#32
  let arg7 : BitVec 32 := Scf.iv v1420 c1_i32_329 k0_t24
  let c256_i32_534 : BitVec 32 := 256#32
  let v2151 : BitVec 32 := Scalar.muli arg7 c256_i32_534
  let v2152 : Index := Scalar.indexCast v2151
  let c768_535 : Index := 768#32
  ![v2152.toNat, 768]
def k0_off96 (i : grid0.Coords) (k0_t24 : Fin (k0_t24_loop i).trips) : Fin 3 → Nat :=
  let c0_i32_326 : BitVec 32 := 0#32
  let arg0 : BitVec 32 := BitVec.ofNat 32 (i 0).val
  let c1_i32_325 : BitVec 32 := 1#32
  let v1415 : BitVec 32 := Scalar.addi arg0 c1_i32_325
  let v1416 : BitVec 32 := Scalar.subi v1415 c0_i32_326
  let c1_i32_327 : BitVec 32 := 1#32
  let v1418 : BitVec 32 := Scalar.divsi v1416 c1_i32_327
  let v1419 : BitVec 32 := Scalar.muli v1418 c1_i32_327
  let v1420 : BitVec 32 := Scalar.addi c0_i32_326 v1419
  let c1_i32_329 : BitVec 32 := 1#32
  let arg7 : BitVec 32 := Scf.iv v1420 c1_i32_329 k0_t24
  let v2165 : Index := Scalar.indexCast arg7
  let c0_540 : Index := 0#32
  let c0_541 : Index := 0#32
  ![v2165.toNat, 0, 0]
def k0_off97 (i : grid0.Coords) : Fin 2 → Nat :=
  let arg0 : BitVec 32 := BitVec.ofNat 32 (i 0).val
  let c256_i32 : BitVec 32 := 256#32
  let v0 : BitVec 32 := Scalar.muli arg0 c256_i32
  let v1427 : Index := Scalar.indexCast v0
  let c3096 : Index := 3096#32
  ![v1427.toNat, 3096]
def k0_off98 (i : grid0.Coords) : Fin 2 → Nat :=
  let arg0 : BitVec 32 := BitVec.ofNat 32 (i 0).val
  let c256_i32 : BitVec 32 := 256#32
  let v0 : BitVec 32 := Scalar.muli arg0 c256_i32
  let v1438 : Index := Scalar.indexCast v0
  let c3097 : Index := 3097#32
  ![v1438.toNat, 3097]
def k0_off99 (i : grid0.Coords) : Fin 2 → Nat :=
  let arg0 : BitVec 32 := BitVec.ofNat 32 (i 0).val
  let c256_i32 : BitVec 32 := 256#32
  let v0 : BitVec 32 := Scalar.muli arg0 c256_i32
  let v1450 : Index := Scalar.indexCast v0
  let c3098 : Index := 3098#32
  ![v1450.toNat, 3098]
@[reducible] def k0_t25_loop (i : grid0.Coords) : Scf.Loop 32 :=
  let c0_i32_346 : BitVec 32 := 0#32
  let arg0 : BitVec 32 := BitVec.ofNat 32 (i 0).val
  let c1_i32_345 : BitVec 32 := 1#32
  let v1469 : BitVec 32 := Scalar.addi arg0 c1_i32_345
  let v1470 : BitVec 32 := Scalar.subi v1469 c0_i32_346
  let c1_i32_347 : BitVec 32 := 1#32
  let v1472 : BitVec 32 := Scalar.divsi v1470 c1_i32_347
  let v1473 : BitVec 32 := Scalar.muli v1472 c1_i32_347
  let v1474 : BitVec 32 := Scalar.addi c0_i32_346 v1473
  let c1_i32_348 : BitVec 32 := 1#32
  ⟨c0_i32_346, v1474, c1_i32_348⟩
def k0_off100 (i : grid0.Coords) (k0_t25 : Fin (k0_t25_loop i).trips) : Fin 2 → Nat :=
  let c0_i32_346 : BitVec 32 := 0#32
  let c1_i32_348 : BitVec 32 := 1#32
  let arg7 : BitVec 32 := Scf.iv c0_i32_346 c1_i32_348 k0_t25
  let c256_i32_532 : BitVec 32 := 256#32
  let v2148 : BitVec 32 := Scalar.muli arg7 c256_i32_532
  let v2149 : Index := Scalar.indexCast v2148
  let c256_533 : Index := 256#32
  ![v2149.toNat, 256]
def k0_off101 (i : grid0.Coords) (k0_t25 : Fin (k0_t25_loop i).trips) : Fin 2 → Nat :=
  let c0_i32_346 : BitVec 32 := 0#32
  let c1_i32_348 : BitVec 32 := 1#32
  let arg7 : BitVec 32 := Scf.iv c0_i32_346 c1_i32_348 k0_t25
  let c256_i32_534 : BitVec 32 := 256#32
  let v2151 : BitVec 32 := Scalar.muli arg7 c256_i32_534
  let v2152 : Index := Scalar.indexCast v2151
  let c768_535 : Index := 768#32
  ![v2152.toNat, 768]
def k0_off102 (i : grid0.Coords) (k0_t25 : Fin (k0_t25_loop i).trips) : Fin 3 → Nat :=
  let c0_i32_346 : BitVec 32 := 0#32
  let c1_i32_348 : BitVec 32 := 1#32
  let arg7 : BitVec 32 := Scf.iv c0_i32_346 c1_i32_348 k0_t25
  let v2165 : Index := Scalar.indexCast arg7
  let c0_540 : Index := 0#32
  let c0_541 : Index := 0#32
  ![v2165.toNat, 0, 0]
@[reducible] def k0_t26_loop (i : grid0.Coords) : Scf.Loop 32 :=
  let c0_i32_346 : BitVec 32 := 0#32
  let arg0 : BitVec 32 := BitVec.ofNat 32 (i 0).val
  let c1_i32_345 : BitVec 32 := 1#32
  let v1469 : BitVec 32 := Scalar.addi arg0 c1_i32_345
  let v1470 : BitVec 32 := Scalar.subi v1469 c0_i32_346
  let c1_i32_347 : BitVec 32 := 1#32
  let v1472 : BitVec 32 := Scalar.divsi v1470 c1_i32_347
  let v1473 : BitVec 32 := Scalar.muli v1472 c1_i32_347
  let v1474 : BitVec 32 := Scalar.addi c0_i32_346 v1473
  let v1471 : BitVec 32 := Scalar.addi c0_i32_346 v1470
  let c1_i32_349 : BitVec 32 := 1#32
  ⟨v1474, v1471, c1_i32_349⟩
def k0_off103 (i : grid0.Coords) (k0_t26 : Fin (k0_t26_loop i).trips) : Fin 2 → Nat :=
  let c0_i32_346 : BitVec 32 := 0#32
  let arg0 : BitVec 32 := BitVec.ofNat 32 (i 0).val
  let c1_i32_345 : BitVec 32 := 1#32
  let v1469 : BitVec 32 := Scalar.addi arg0 c1_i32_345
  let v1470 : BitVec 32 := Scalar.subi v1469 c0_i32_346
  let c1_i32_347 : BitVec 32 := 1#32
  let v1472 : BitVec 32 := Scalar.divsi v1470 c1_i32_347
  let v1473 : BitVec 32 := Scalar.muli v1472 c1_i32_347
  let v1474 : BitVec 32 := Scalar.addi c0_i32_346 v1473
  let c1_i32_349 : BitVec 32 := 1#32
  let arg7 : BitVec 32 := Scf.iv v1474 c1_i32_349 k0_t26
  let c256_i32_532 : BitVec 32 := 256#32
  let v2148 : BitVec 32 := Scalar.muli arg7 c256_i32_532
  let v2149 : Index := Scalar.indexCast v2148
  let c256_533 : Index := 256#32
  ![v2149.toNat, 256]
def k0_off104 (i : grid0.Coords) (k0_t26 : Fin (k0_t26_loop i).trips) : Fin 2 → Nat :=
  let c0_i32_346 : BitVec 32 := 0#32
  let arg0 : BitVec 32 := BitVec.ofNat 32 (i 0).val
  let c1_i32_345 : BitVec 32 := 1#32
  let v1469 : BitVec 32 := Scalar.addi arg0 c1_i32_345
  let v1470 : BitVec 32 := Scalar.subi v1469 c0_i32_346
  let c1_i32_347 : BitVec 32 := 1#32
  let v1472 : BitVec 32 := Scalar.divsi v1470 c1_i32_347
  let v1473 : BitVec 32 := Scalar.muli v1472 c1_i32_347
  let v1474 : BitVec 32 := Scalar.addi c0_i32_346 v1473
  let c1_i32_349 : BitVec 32 := 1#32
  let arg7 : BitVec 32 := Scf.iv v1474 c1_i32_349 k0_t26
  let c256_i32_534 : BitVec 32 := 256#32
  let v2151 : BitVec 32 := Scalar.muli arg7 c256_i32_534
  let v2152 : Index := Scalar.indexCast v2151
  let c768_535 : Index := 768#32
  ![v2152.toNat, 768]
def k0_off105 (i : grid0.Coords) (k0_t26 : Fin (k0_t26_loop i).trips) : Fin 3 → Nat :=
  let c0_i32_346 : BitVec 32 := 0#32
  let arg0 : BitVec 32 := BitVec.ofNat 32 (i 0).val
  let c1_i32_345 : BitVec 32 := 1#32
  let v1469 : BitVec 32 := Scalar.addi arg0 c1_i32_345
  let v1470 : BitVec 32 := Scalar.subi v1469 c0_i32_346
  let c1_i32_347 : BitVec 32 := 1#32
  let v1472 : BitVec 32 := Scalar.divsi v1470 c1_i32_347
  let v1473 : BitVec 32 := Scalar.muli v1472 c1_i32_347
  let v1474 : BitVec 32 := Scalar.addi c0_i32_346 v1473
  let c1_i32_349 : BitVec 32 := 1#32
  let arg7 : BitVec 32 := Scf.iv v1474 c1_i32_349 k0_t26
  let v2165 : Index := Scalar.indexCast arg7
  let c0_540 : Index := 0#32
  let c0_541 : Index := 0#32
  ![v2165.toNat, 0, 0]
def k0_off106 (i : grid0.Coords) : Fin 2 → Nat :=
  let arg0 : BitVec 32 := BitVec.ofNat 32 (i 0).val
  let c256_i32 : BitVec 32 := 256#32
  let v0 : BitVec 32 := Scalar.muli arg0 c256_i32
  let v1481 : Index := Scalar.indexCast v0
  let c3099 : Index := 3099#32
  ![v1481.toNat, 3099]
def k0_off107 (i : grid0.Coords) : Fin 2 → Nat :=
  let arg0 : BitVec 32 := BitVec.ofNat 32 (i 0).val
  let c256_i32 : BitVec 32 := 256#32
  let v0 : BitVec 32 := Scalar.muli arg0 c256_i32
  let v1492 : Index := Scalar.indexCast v0
  let c3100 : Index := 3100#32
  ![v1492.toNat, 3100]
def k0_off108 (i : grid0.Coords) : Fin 2 → Nat :=
  let arg0 : BitVec 32 := BitVec.ofNat 32 (i 0).val
  let c256_i32 : BitVec 32 := 256#32
  let v0 : BitVec 32 := Scalar.muli arg0 c256_i32
  let v1504 : Index := Scalar.indexCast v0
  let c3101 : Index := 3101#32
  ![v1504.toNat, 3101]
@[reducible] def k0_t27_loop (i : grid0.Coords) : Scf.Loop 32 :=
  let c0_i32_366 : BitVec 32 := 0#32
  let arg0 : BitVec 32 := BitVec.ofNat 32 (i 0).val
  let c1_i32_365 : BitVec 32 := 1#32
  let v1523 : BitVec 32 := Scalar.addi arg0 c1_i32_365
  let v1524 : BitVec 32 := Scalar.subi v1523 c0_i32_366
  let c1_i32_367 : BitVec 32 := 1#32
  let v1526 : BitVec 32 := Scalar.divsi v1524 c1_i32_367
  let v1527 : BitVec 32 := Scalar.muli v1526 c1_i32_367
  let v1528 : BitVec 32 := Scalar.addi c0_i32_366 v1527
  let c1_i32_368 : BitVec 32 := 1#32
  ⟨c0_i32_366, v1528, c1_i32_368⟩
def k0_off109 (i : grid0.Coords) (k0_t27 : Fin (k0_t27_loop i).trips) : Fin 2 → Nat :=
  let c0_i32_366 : BitVec 32 := 0#32
  let c1_i32_368 : BitVec 32 := 1#32
  let arg7 : BitVec 32 := Scf.iv c0_i32_366 c1_i32_368 k0_t27
  let c256_i32_532 : BitVec 32 := 256#32
  let v2148 : BitVec 32 := Scalar.muli arg7 c256_i32_532
  let v2149 : Index := Scalar.indexCast v2148
  let c256_533 : Index := 256#32
  ![v2149.toNat, 256]
def k0_off110 (i : grid0.Coords) (k0_t27 : Fin (k0_t27_loop i).trips) : Fin 2 → Nat :=
  let c0_i32_366 : BitVec 32 := 0#32
  let c1_i32_368 : BitVec 32 := 1#32
  let arg7 : BitVec 32 := Scf.iv c0_i32_366 c1_i32_368 k0_t27
  let c256_i32_534 : BitVec 32 := 256#32
  let v2151 : BitVec 32 := Scalar.muli arg7 c256_i32_534
  let v2152 : Index := Scalar.indexCast v2151
  let c768_535 : Index := 768#32
  ![v2152.toNat, 768]
def k0_off111 (i : grid0.Coords) (k0_t27 : Fin (k0_t27_loop i).trips) : Fin 3 → Nat :=
  let c0_i32_366 : BitVec 32 := 0#32
  let c1_i32_368 : BitVec 32 := 1#32
  let arg7 : BitVec 32 := Scf.iv c0_i32_366 c1_i32_368 k0_t27
  let v2165 : Index := Scalar.indexCast arg7
  let c0_540 : Index := 0#32
  let c0_541 : Index := 0#32
  ![v2165.toNat, 0, 0]
@[reducible] def k0_t28_loop (i : grid0.Coords) : Scf.Loop 32 :=
  let c0_i32_366 : BitVec 32 := 0#32
  let arg0 : BitVec 32 := BitVec.ofNat 32 (i 0).val
  let c1_i32_365 : BitVec 32 := 1#32
  let v1523 : BitVec 32 := Scalar.addi arg0 c1_i32_365
  let v1524 : BitVec 32 := Scalar.subi v1523 c0_i32_366
  let c1_i32_367 : BitVec 32 := 1#32
  let v1526 : BitVec 32 := Scalar.divsi v1524 c1_i32_367
  let v1527 : BitVec 32 := Scalar.muli v1526 c1_i32_367
  let v1528 : BitVec 32 := Scalar.addi c0_i32_366 v1527
  let v1525 : BitVec 32 := Scalar.addi c0_i32_366 v1524
  let c1_i32_369 : BitVec 32 := 1#32
  ⟨v1528, v1525, c1_i32_369⟩
def k0_off112 (i : grid0.Coords) (k0_t28 : Fin (k0_t28_loop i).trips) : Fin 2 → Nat :=
  let c0_i32_366 : BitVec 32 := 0#32
  let arg0 : BitVec 32 := BitVec.ofNat 32 (i 0).val
  let c1_i32_365 : BitVec 32 := 1#32
  let v1523 : BitVec 32 := Scalar.addi arg0 c1_i32_365
  let v1524 : BitVec 32 := Scalar.subi v1523 c0_i32_366
  let c1_i32_367 : BitVec 32 := 1#32
  let v1526 : BitVec 32 := Scalar.divsi v1524 c1_i32_367
  let v1527 : BitVec 32 := Scalar.muli v1526 c1_i32_367
  let v1528 : BitVec 32 := Scalar.addi c0_i32_366 v1527
  let c1_i32_369 : BitVec 32 := 1#32
  let arg7 : BitVec 32 := Scf.iv v1528 c1_i32_369 k0_t28
  let c256_i32_532 : BitVec 32 := 256#32
  let v2148 : BitVec 32 := Scalar.muli arg7 c256_i32_532
  let v2149 : Index := Scalar.indexCast v2148
  let c256_533 : Index := 256#32
  ![v2149.toNat, 256]
def k0_off113 (i : grid0.Coords) (k0_t28 : Fin (k0_t28_loop i).trips) : Fin 2 → Nat :=
  let c0_i32_366 : BitVec 32 := 0#32
  let arg0 : BitVec 32 := BitVec.ofNat 32 (i 0).val
  let c1_i32_365 : BitVec 32 := 1#32
  let v1523 : BitVec 32 := Scalar.addi arg0 c1_i32_365
  let v1524 : BitVec 32 := Scalar.subi v1523 c0_i32_366
  let c1_i32_367 : BitVec 32 := 1#32
  let v1526 : BitVec 32 := Scalar.divsi v1524 c1_i32_367
  let v1527 : BitVec 32 := Scalar.muli v1526 c1_i32_367
  let v1528 : BitVec 32 := Scalar.addi c0_i32_366 v1527
  let c1_i32_369 : BitVec 32 := 1#32
  let arg7 : BitVec 32 := Scf.iv v1528 c1_i32_369 k0_t28
  let c256_i32_534 : BitVec 32 := 256#32
  let v2151 : BitVec 32 := Scalar.muli arg7 c256_i32_534
  let v2152 : Index := Scalar.indexCast v2151
  let c768_535 : Index := 768#32
  ![v2152.toNat, 768]
def k0_off114 (i : grid0.Coords) (k0_t28 : Fin (k0_t28_loop i).trips) : Fin 3 → Nat :=
  let c0_i32_366 : BitVec 32 := 0#32
  let arg0 : BitVec 32 := BitVec.ofNat 32 (i 0).val
  let c1_i32_365 : BitVec 32 := 1#32
  let v1523 : BitVec 32 := Scalar.addi arg0 c1_i32_365
  let v1524 : BitVec 32 := Scalar.subi v1523 c0_i32_366
  let c1_i32_367 : BitVec 32 := 1#32
  let v1526 : BitVec 32 := Scalar.divsi v1524 c1_i32_367
  let v1527 : BitVec 32 := Scalar.muli v1526 c1_i32_367
  let v1528 : BitVec 32 := Scalar.addi c0_i32_366 v1527
  let c1_i32_369 : BitVec 32 := 1#32
  let arg7 : BitVec 32 := Scf.iv v1528 c1_i32_369 k0_t28
  let v2165 : Index := Scalar.indexCast arg7
  let c0_540 : Index := 0#32
  let c0_541 : Index := 0#32
  ![v2165.toNat, 0, 0]
def k0_off115 (i : grid0.Coords) : Fin 2 → Nat :=
  let arg0 : BitVec 32 := BitVec.ofNat 32 (i 0).val
  let c256_i32 : BitVec 32 := 256#32
  let v0 : BitVec 32 := Scalar.muli arg0 c256_i32
  let v1535 : Index := Scalar.indexCast v0
  let c3102 : Index := 3102#32
  ![v1535.toNat, 3102]
def k0_off116 (i : grid0.Coords) : Fin 2 → Nat :=
  let arg0 : BitVec 32 := BitVec.ofNat 32 (i 0).val
  let c256_i32 : BitVec 32 := 256#32
  let v0 : BitVec 32 := Scalar.muli arg0 c256_i32
  let v1546 : Index := Scalar.indexCast v0
  let c3103 : Index := 3103#32
  ![v1546.toNat, 3103]
def k0_off117 (i : grid0.Coords) : Fin 2 → Nat :=
  let arg0 : BitVec 32 := BitVec.ofNat 32 (i 0).val
  let c256_i32 : BitVec 32 := 256#32
  let v0 : BitVec 32 := Scalar.muli arg0 c256_i32
  let v1558 : Index := Scalar.indexCast v0
  let c3104 : Index := 3104#32
  ![v1558.toNat, 3104]
@[reducible] def k0_t29_loop (i : grid0.Coords) : Scf.Loop 32 :=
  let c0_i32_386 : BitVec 32 := 0#32
  let arg0 : BitVec 32 := BitVec.ofNat 32 (i 0).val
  let c1_i32_385 : BitVec 32 := 1#32
  let v1577 : BitVec 32 := Scalar.addi arg0 c1_i32_385
  let v1578 : BitVec 32 := Scalar.subi v1577 c0_i32_386
  let c1_i32_387 : BitVec 32 := 1#32
  let v1580 : BitVec 32 := Scalar.divsi v1578 c1_i32_387
  let v1581 : BitVec 32 := Scalar.muli v1580 c1_i32_387
  let v1582 : BitVec 32 := Scalar.addi c0_i32_386 v1581
  let c1_i32_388 : BitVec 32 := 1#32
  ⟨c0_i32_386, v1582, c1_i32_388⟩
def k0_off118 (i : grid0.Coords) (k0_t29 : Fin (k0_t29_loop i).trips) : Fin 2 → Nat :=
  let c0_i32_386 : BitVec 32 := 0#32
  let c1_i32_388 : BitVec 32 := 1#32
  let arg7 : BitVec 32 := Scf.iv c0_i32_386 c1_i32_388 k0_t29
  let c256_i32_532 : BitVec 32 := 256#32
  let v2148 : BitVec 32 := Scalar.muli arg7 c256_i32_532
  let v2149 : Index := Scalar.indexCast v2148
  let c256_533 : Index := 256#32
  ![v2149.toNat, 256]
def k0_off119 (i : grid0.Coords) (k0_t29 : Fin (k0_t29_loop i).trips) : Fin 2 → Nat :=
  let c0_i32_386 : BitVec 32 := 0#32
  let c1_i32_388 : BitVec 32 := 1#32
  let arg7 : BitVec 32 := Scf.iv c0_i32_386 c1_i32_388 k0_t29
  let c256_i32_534 : BitVec 32 := 256#32
  let v2151 : BitVec 32 := Scalar.muli arg7 c256_i32_534
  let v2152 : Index := Scalar.indexCast v2151
  let c768_535 : Index := 768#32
  ![v2152.toNat, 768]
def k0_off120 (i : grid0.Coords) (k0_t29 : Fin (k0_t29_loop i).trips) : Fin 3 → Nat :=
  let c0_i32_386 : BitVec 32 := 0#32
  let c1_i32_388 : BitVec 32 := 1#32
  let arg7 : BitVec 32 := Scf.iv c0_i32_386 c1_i32_388 k0_t29
  let v2165 : Index := Scalar.indexCast arg7
  let c0_540 : Index := 0#32
  let c0_541 : Index := 0#32
  ![v2165.toNat, 0, 0]
@[reducible] def k0_t30_loop (i : grid0.Coords) : Scf.Loop 32 :=
  let c0_i32_386 : BitVec 32 := 0#32
  let arg0 : BitVec 32 := BitVec.ofNat 32 (i 0).val
  let c1_i32_385 : BitVec 32 := 1#32
  let v1577 : BitVec 32 := Scalar.addi arg0 c1_i32_385
  let v1578 : BitVec 32 := Scalar.subi v1577 c0_i32_386
  let c1_i32_387 : BitVec 32 := 1#32
  let v1580 : BitVec 32 := Scalar.divsi v1578 c1_i32_387
  let v1581 : BitVec 32 := Scalar.muli v1580 c1_i32_387
  let v1582 : BitVec 32 := Scalar.addi c0_i32_386 v1581
  let v1579 : BitVec 32 := Scalar.addi c0_i32_386 v1578
  let c1_i32_389 : BitVec 32 := 1#32
  ⟨v1582, v1579, c1_i32_389⟩
def k0_off121 (i : grid0.Coords) (k0_t30 : Fin (k0_t30_loop i).trips) : Fin 2 → Nat :=
  let c0_i32_386 : BitVec 32 := 0#32
  let arg0 : BitVec 32 := BitVec.ofNat 32 (i 0).val
  let c1_i32_385 : BitVec 32 := 1#32
  let v1577 : BitVec 32 := Scalar.addi arg0 c1_i32_385
  let v1578 : BitVec 32 := Scalar.subi v1577 c0_i32_386
  let c1_i32_387 : BitVec 32 := 1#32
  let v1580 : BitVec 32 := Scalar.divsi v1578 c1_i32_387
  let v1581 : BitVec 32 := Scalar.muli v1580 c1_i32_387
  let v1582 : BitVec 32 := Scalar.addi c0_i32_386 v1581
  let c1_i32_389 : BitVec 32 := 1#32
  let arg7 : BitVec 32 := Scf.iv v1582 c1_i32_389 k0_t30
  let c256_i32_532 : BitVec 32 := 256#32
  let v2148 : BitVec 32 := Scalar.muli arg7 c256_i32_532
  let v2149 : Index := Scalar.indexCast v2148
  let c256_533 : Index := 256#32
  ![v2149.toNat, 256]
def k0_off122 (i : grid0.Coords) (k0_t30 : Fin (k0_t30_loop i).trips) : Fin 2 → Nat :=
  let c0_i32_386 : BitVec 32 := 0#32
  let arg0 : BitVec 32 := BitVec.ofNat 32 (i 0).val
  let c1_i32_385 : BitVec 32 := 1#32
  let v1577 : BitVec 32 := Scalar.addi arg0 c1_i32_385
  let v1578 : BitVec 32 := Scalar.subi v1577 c0_i32_386
  let c1_i32_387 : BitVec 32 := 1#32
  let v1580 : BitVec 32 := Scalar.divsi v1578 c1_i32_387
  let v1581 : BitVec 32 := Scalar.muli v1580 c1_i32_387
  let v1582 : BitVec 32 := Scalar.addi c0_i32_386 v1581
  let c1_i32_389 : BitVec 32 := 1#32
  let arg7 : BitVec 32 := Scf.iv v1582 c1_i32_389 k0_t30
  let c256_i32_534 : BitVec 32 := 256#32
  let v2151 : BitVec 32 := Scalar.muli arg7 c256_i32_534
  let v2152 : Index := Scalar.indexCast v2151
  let c768_535 : Index := 768#32
  ![v2152.toNat, 768]
def k0_off123 (i : grid0.Coords) (k0_t30 : Fin (k0_t30_loop i).trips) : Fin 3 → Nat :=
  let c0_i32_386 : BitVec 32 := 0#32
  let arg0 : BitVec 32 := BitVec.ofNat 32 (i 0).val
  let c1_i32_385 : BitVec 32 := 1#32
  let v1577 : BitVec 32 := Scalar.addi arg0 c1_i32_385
  let v1578 : BitVec 32 := Scalar.subi v1577 c0_i32_386
  let c1_i32_387 : BitVec 32 := 1#32
  let v1580 : BitVec 32 := Scalar.divsi v1578 c1_i32_387
  let v1581 : BitVec 32 := Scalar.muli v1580 c1_i32_387
  let v1582 : BitVec 32 := Scalar.addi c0_i32_386 v1581
  let c1_i32_389 : BitVec 32 := 1#32
  let arg7 : BitVec 32 := Scf.iv v1582 c1_i32_389 k0_t30
  let v2165 : Index := Scalar.indexCast arg7
  let c0_540 : Index := 0#32
  let c0_541 : Index := 0#32
  ![v2165.toNat, 0, 0]
def k0_off124 (i : grid0.Coords) : Fin 2 → Nat :=
  let arg0 : BitVec 32 := BitVec.ofNat 32 (i 0).val
  let c256_i32 : BitVec 32 := 256#32
  let v0 : BitVec 32 := Scalar.muli arg0 c256_i32
  let v1589 : Index := Scalar.indexCast v0
  let c3105 : Index := 3105#32
  ![v1589.toNat, 3105]
def k0_off125 (i : grid0.Coords) : Fin 2 → Nat :=
  let arg0 : BitVec 32 := BitVec.ofNat 32 (i 0).val
  let c256_i32 : BitVec 32 := 256#32
  let v0 : BitVec 32 := Scalar.muli arg0 c256_i32
  let v1600 : Index := Scalar.indexCast v0
  let c3106 : Index := 3106#32
  ![v1600.toNat, 3106]
def k0_off126 (i : grid0.Coords) : Fin 2 → Nat :=
  let arg0 : BitVec 32 := BitVec.ofNat 32 (i 0).val
  let c256_i32 : BitVec 32 := 256#32
  let v0 : BitVec 32 := Scalar.muli arg0 c256_i32
  let v1612 : Index := Scalar.indexCast v0
  let c3107 : Index := 3107#32
  ![v1612.toNat, 3107]
def k0_off127 (i : grid0.Coords) : Fin 2 → Nat :=
  let arg0 : BitVec 32 := BitVec.ofNat 32 (i 0).val
  let c256_i32 : BitVec 32 := 256#32
  let v0 : BitVec 32 := Scalar.muli arg0 c256_i32
  let v1628 : Index := Scalar.indexCast v0
  let c1536 : Index := 1536#32
  ![v1628.toNat, 1536]
def k0_off128 (i : grid0.Coords) : Fin 2 → Nat :=
  let arg0 : BitVec 32 := BitVec.ofNat 32 (i 0).val
  let c256_i32 : BitVec 32 := 256#32
  let v0 : BitVec 32 := Scalar.muli arg0 c256_i32
  let v1649 : Index := Scalar.indexCast v0
  let c1664 : Index := 1664#32
  ![v1649.toNat, 1664]
def k0_off129 (i : grid0.Coords) : Fin 2 → Nat :=
  let arg0 : BitVec 32 := BitVec.ofNat 32 (i 0).val
  let c256_i32 : BitVec 32 := 256#32
  let v0 : BitVec 32 := Scalar.muli arg0 c256_i32
  let v1670 : Index := Scalar.indexCast v0
  let c1792 : Index := 1792#32
  ![v1670.toNat, 1792]
def k0_off130 (i : grid0.Coords) : Fin 2 → Nat :=
  let arg0 : BitVec 32 := BitVec.ofNat 32 (i 0).val
  let c256_i32 : BitVec 32 := 256#32
  let v0 : BitVec 32 := Scalar.muli arg0 c256_i32
  let v1691 : Index := Scalar.indexCast v0
  let c1920 : Index := 1920#32
  ![v1691.toNat, 1920]
@[reducible] def k0_t31_loop (i : grid0.Coords) : Scf.Loop 32 :=
  let c0_i32_447 : BitVec 32 := 0#32
  let arg0 : BitVec 32 := BitVec.ofNat 32 (i 0).val
  let c1_i32_446 : BitVec 32 := 1#32
  let v1924 : BitVec 32 := Scalar.addi arg0 c1_i32_446
  let v1925 : BitVec 32 := Scalar.subi v1924 c0_i32_447
  let c1_i32_449 : BitVec 32 := 1#32
  let v1927 : BitVec 32 := Scalar.divsi v1925 c1_i32_449
  let v1928 : BitVec 32 := Scalar.muli v1927 c1_i32_449
  let v1929 : BitVec 32 := Scalar.addi c0_i32_447 v1928
  let c1_i32_450 : BitVec 32 := 1#32
  ⟨c0_i32_447, v1929, c1_i32_450⟩
def k0_off131 (i : grid0.Coords) (k0_t31 : Fin (k0_t31_loop i).trips) : Fin 3 → Nat :=
  let c0_i32_447 : BitVec 32 := 0#32
  let c1_i32_450 : BitVec 32 := 1#32
  let arg7 : BitVec 32 := Scf.iv c0_i32_447 c1_i32_450 k0_t31
  let v2184 : Index := Scalar.indexCast arg7
  let c0_543 : Index := 0#32
  let c0_544 : Index := 0#32
  ![v2184.toNat, 0, 0]
@[reducible] def k0_t32_loop (i : grid0.Coords) : Scf.Loop 32 :=
  let c0_i32_447 : BitVec 32 := 0#32
  let arg0 : BitVec 32 := BitVec.ofNat 32 (i 0).val
  let c1_i32_446 : BitVec 32 := 1#32
  let v1924 : BitVec 32 := Scalar.addi arg0 c1_i32_446
  let v1925 : BitVec 32 := Scalar.subi v1924 c0_i32_447
  let c1_i32_449 : BitVec 32 := 1#32
  let v1927 : BitVec 32 := Scalar.divsi v1925 c1_i32_449
  let v1928 : BitVec 32 := Scalar.muli v1927 c1_i32_449
  let v1929 : BitVec 32 := Scalar.addi c0_i32_447 v1928
  let v1926 : BitVec 32 := Scalar.addi c0_i32_447 v1925
  let c1_i32_451 : BitVec 32 := 1#32
  ⟨v1929, v1926, c1_i32_451⟩
def k0_off132 (i : grid0.Coords) (k0_t32 : Fin (k0_t32_loop i).trips) : Fin 3 → Nat :=
  let c0_i32_447 : BitVec 32 := 0#32
  let arg0 : BitVec 32 := BitVec.ofNat 32 (i 0).val
  let c1_i32_446 : BitVec 32 := 1#32
  let v1924 : BitVec 32 := Scalar.addi arg0 c1_i32_446
  let v1925 : BitVec 32 := Scalar.subi v1924 c0_i32_447
  let c1_i32_449 : BitVec 32 := 1#32
  let v1927 : BitVec 32 := Scalar.divsi v1925 c1_i32_449
  let v1928 : BitVec 32 := Scalar.muli v1927 c1_i32_449
  let v1929 : BitVec 32 := Scalar.addi c0_i32_447 v1928
  let c1_i32_451 : BitVec 32 := 1#32
  let arg7 : BitVec 32 := Scf.iv v1929 c1_i32_451 k0_t32
  let v2184 : Index := Scalar.indexCast arg7
  let c0_543 : Index := 0#32
  let c0_544 : Index := 0#32
  ![v2184.toNat, 0, 0]
@[reducible] def k0_t33_loop (i : grid0.Coords) : Scf.Loop 32 :=
  let c0_i32_457 : BitVec 32 := 0#32
  let arg0 : BitVec 32 := BitVec.ofNat 32 (i 0).val
  let c1_i32_456 : BitVec 32 := 1#32
  let v1938 : BitVec 32 := Scalar.addi arg0 c1_i32_456
  let v1939 : BitVec 32 := Scalar.subi v1938 c0_i32_457
  let c1_i32_458 : BitVec 32 := 1#32
  let v1941 : BitVec 32 := Scalar.divsi v1939 c1_i32_458
  let v1942 : BitVec 32 := Scalar.muli v1941 c1_i32_458
  let v1943 : BitVec 32 := Scalar.addi c0_i32_457 v1942
  let c1_i32_459 : BitVec 32 := 1#32
  ⟨c0_i32_457, v1943, c1_i32_459⟩
def k0_off133 (i : grid0.Coords) (k0_t33 : Fin (k0_t33_loop i).trips) : Fin 2 → Nat :=
  let c0_i32_457 : BitVec 32 := 0#32
  let c1_i32_459 : BitVec 32 := 1#32
  let arg7 : BitVec 32 := Scf.iv c0_i32_457 c1_i32_459 k0_t33
  let c256_i32_532 : BitVec 32 := 256#32
  let v2148 : BitVec 32 := Scalar.muli arg7 c256_i32_532
  let v2149 : Index := Scalar.indexCast v2148
  let c384_533 : Index := 384#32
  ![v2149.toNat, 384]
def k0_off134 (i : grid0.Coords) (k0_t33 : Fin (k0_t33_loop i).trips) : Fin 2 → Nat :=
  let c0_i32_457 : BitVec 32 := 0#32
  let c1_i32_459 : BitVec 32 := 1#32
  let arg7 : BitVec 32 := Scf.iv c0_i32_457 c1_i32_459 k0_t33
  let c256_i32_534 : BitVec 32 := 256#32
  let v2151 : BitVec 32 := Scalar.muli arg7 c256_i32_534
  let v2152 : Index := Scalar.indexCast v2151
  let c896_535 : Index := 896#32
  ![v2152.toNat, 896]
def k0_off135 (i : grid0.Coords) (k0_t33 : Fin (k0_t33_loop i).trips) : Fin 3 → Nat :=
  let c0_i32_457 : BitVec 32 := 0#32
  let c1_i32_459 : BitVec 32 := 1#32
  let arg7 : BitVec 32 := Scf.iv c0_i32_457 c1_i32_459 k0_t33
  let v2165 : Index := Scalar.indexCast arg7
  let c0_540 : Index := 0#32
  let c0_541 : Index := 0#32
  ![v2165.toNat, 0, 0]
@[reducible] def k0_t34_loop (i : grid0.Coords) : Scf.Loop 32 :=
  let c0_i32_457 : BitVec 32 := 0#32
  let arg0 : BitVec 32 := BitVec.ofNat 32 (i 0).val
  let c1_i32_456 : BitVec 32 := 1#32
  let v1938 : BitVec 32 := Scalar.addi arg0 c1_i32_456
  let v1939 : BitVec 32 := Scalar.subi v1938 c0_i32_457
  let c1_i32_458 : BitVec 32 := 1#32
  let v1941 : BitVec 32 := Scalar.divsi v1939 c1_i32_458
  let v1942 : BitVec 32 := Scalar.muli v1941 c1_i32_458
  let v1943 : BitVec 32 := Scalar.addi c0_i32_457 v1942
  let v1940 : BitVec 32 := Scalar.addi c0_i32_457 v1939
  let c1_i32_460 : BitVec 32 := 1#32
  ⟨v1943, v1940, c1_i32_460⟩
def k0_off136 (i : grid0.Coords) (k0_t34 : Fin (k0_t34_loop i).trips) : Fin 2 → Nat :=
  let c0_i32_457 : BitVec 32 := 0#32
  let arg0 : BitVec 32 := BitVec.ofNat 32 (i 0).val
  let c1_i32_456 : BitVec 32 := 1#32
  let v1938 : BitVec 32 := Scalar.addi arg0 c1_i32_456
  let v1939 : BitVec 32 := Scalar.subi v1938 c0_i32_457
  let c1_i32_458 : BitVec 32 := 1#32
  let v1941 : BitVec 32 := Scalar.divsi v1939 c1_i32_458
  let v1942 : BitVec 32 := Scalar.muli v1941 c1_i32_458
  let v1943 : BitVec 32 := Scalar.addi c0_i32_457 v1942
  let c1_i32_460 : BitVec 32 := 1#32
  let arg7 : BitVec 32 := Scf.iv v1943 c1_i32_460 k0_t34
  let c256_i32_532 : BitVec 32 := 256#32
  let v2148 : BitVec 32 := Scalar.muli arg7 c256_i32_532
  let v2149 : Index := Scalar.indexCast v2148
  let c384_533 : Index := 384#32
  ![v2149.toNat, 384]
def k0_off137 (i : grid0.Coords) (k0_t34 : Fin (k0_t34_loop i).trips) : Fin 2 → Nat :=
  let c0_i32_457 : BitVec 32 := 0#32
  let arg0 : BitVec 32 := BitVec.ofNat 32 (i 0).val
  let c1_i32_456 : BitVec 32 := 1#32
  let v1938 : BitVec 32 := Scalar.addi arg0 c1_i32_456
  let v1939 : BitVec 32 := Scalar.subi v1938 c0_i32_457
  let c1_i32_458 : BitVec 32 := 1#32
  let v1941 : BitVec 32 := Scalar.divsi v1939 c1_i32_458
  let v1942 : BitVec 32 := Scalar.muli v1941 c1_i32_458
  let v1943 : BitVec 32 := Scalar.addi c0_i32_457 v1942
  let c1_i32_460 : BitVec 32 := 1#32
  let arg7 : BitVec 32 := Scf.iv v1943 c1_i32_460 k0_t34
  let c256_i32_534 : BitVec 32 := 256#32
  let v2151 : BitVec 32 := Scalar.muli arg7 c256_i32_534
  let v2152 : Index := Scalar.indexCast v2151
  let c896_535 : Index := 896#32
  ![v2152.toNat, 896]
def k0_off138 (i : grid0.Coords) (k0_t34 : Fin (k0_t34_loop i).trips) : Fin 3 → Nat :=
  let c0_i32_457 : BitVec 32 := 0#32
  let arg0 : BitVec 32 := BitVec.ofNat 32 (i 0).val
  let c1_i32_456 : BitVec 32 := 1#32
  let v1938 : BitVec 32 := Scalar.addi arg0 c1_i32_456
  let v1939 : BitVec 32 := Scalar.subi v1938 c0_i32_457
  let c1_i32_458 : BitVec 32 := 1#32
  let v1941 : BitVec 32 := Scalar.divsi v1939 c1_i32_458
  let v1942 : BitVec 32 := Scalar.muli v1941 c1_i32_458
  let v1943 : BitVec 32 := Scalar.addi c0_i32_457 v1942
  let c1_i32_460 : BitVec 32 := 1#32
  let arg7 : BitVec 32 := Scf.iv v1943 c1_i32_460 k0_t34
  let v2165 : Index := Scalar.indexCast arg7
  let c0_540 : Index := 0#32
  let c0_541 : Index := 0#32
  ![v2165.toNat, 0, 0]
def k0_off139 (i : grid0.Coords) : Fin 2 → Nat :=
  let arg0 : BitVec 32 := BitVec.ofNat 32 (i 0).val
  let c256_i32 : BitVec 32 := 256#32
  let v0 : BitVec 32 := Scalar.muli arg0 c256_i32
  let v1950 : Index := Scalar.indexCast v0
  let c3108 : Index := 3108#32
  ![v1950.toNat, 3108]
def k0_off140 (i : grid0.Coords) : Fin 2 → Nat :=
  let arg0 : BitVec 32 := BitVec.ofNat 32 (i 0).val
  let c256_i32 : BitVec 32 := 256#32
  let v0 : BitVec 32 := Scalar.muli arg0 c256_i32
  let v1961 : Index := Scalar.indexCast v0
  let c3109 : Index := 3109#32
  ![v1961.toNat, 3109]
def k0_off141 (i : grid0.Coords) : Fin 2 → Nat :=
  let arg0 : BitVec 32 := BitVec.ofNat 32 (i 0).val
  let c256_i32 : BitVec 32 := 256#32
  let v0 : BitVec 32 := Scalar.muli arg0 c256_i32
  let v1973 : Index := Scalar.indexCast v0
  let c3110 : Index := 3110#32
  ![v1973.toNat, 3110]
@[reducible] def k0_t35_loop (i : grid0.Coords) : Scf.Loop 32 :=
  let c0_i32_477 : BitVec 32 := 0#32
  let arg0 : BitVec 32 := BitVec.ofNat 32 (i 0).val
  let c1_i32_476 : BitVec 32 := 1#32
  let v1992 : BitVec 32 := Scalar.addi arg0 c1_i32_476
  let v1993 : BitVec 32 := Scalar.subi v1992 c0_i32_477
  let c1_i32_478 : BitVec 32 := 1#32
  let v1995 : BitVec 32 := Scalar.divsi v1993 c1_i32_478
  let v1996 : BitVec 32 := Scalar.muli v1995 c1_i32_478
  let v1997 : BitVec 32 := Scalar.addi c0_i32_477 v1996
  let c1_i32_479 : BitVec 32 := 1#32
  ⟨c0_i32_477, v1997, c1_i32_479⟩
def k0_off142 (i : grid0.Coords) (k0_t35 : Fin (k0_t35_loop i).trips) : Fin 2 → Nat :=
  let c0_i32_477 : BitVec 32 := 0#32
  let c1_i32_479 : BitVec 32 := 1#32
  let arg7 : BitVec 32 := Scf.iv c0_i32_477 c1_i32_479 k0_t35
  let c256_i32_532 : BitVec 32 := 256#32
  let v2148 : BitVec 32 := Scalar.muli arg7 c256_i32_532
  let v2149 : Index := Scalar.indexCast v2148
  let c384_533 : Index := 384#32
  ![v2149.toNat, 384]
def k0_off143 (i : grid0.Coords) (k0_t35 : Fin (k0_t35_loop i).trips) : Fin 2 → Nat :=
  let c0_i32_477 : BitVec 32 := 0#32
  let c1_i32_479 : BitVec 32 := 1#32
  let arg7 : BitVec 32 := Scf.iv c0_i32_477 c1_i32_479 k0_t35
  let c256_i32_534 : BitVec 32 := 256#32
  let v2151 : BitVec 32 := Scalar.muli arg7 c256_i32_534
  let v2152 : Index := Scalar.indexCast v2151
  let c896_535 : Index := 896#32
  ![v2152.toNat, 896]
def k0_off144 (i : grid0.Coords) (k0_t35 : Fin (k0_t35_loop i).trips) : Fin 3 → Nat :=
  let c0_i32_477 : BitVec 32 := 0#32
  let c1_i32_479 : BitVec 32 := 1#32
  let arg7 : BitVec 32 := Scf.iv c0_i32_477 c1_i32_479 k0_t35
  let v2165 : Index := Scalar.indexCast arg7
  let c0_540 : Index := 0#32
  let c0_541 : Index := 0#32
  ![v2165.toNat, 0, 0]
@[reducible] def k0_t36_loop (i : grid0.Coords) : Scf.Loop 32 :=
  let c0_i32_477 : BitVec 32 := 0#32
  let arg0 : BitVec 32 := BitVec.ofNat 32 (i 0).val
  let c1_i32_476 : BitVec 32 := 1#32
  let v1992 : BitVec 32 := Scalar.addi arg0 c1_i32_476
  let v1993 : BitVec 32 := Scalar.subi v1992 c0_i32_477
  let c1_i32_478 : BitVec 32 := 1#32
  let v1995 : BitVec 32 := Scalar.divsi v1993 c1_i32_478
  let v1996 : BitVec 32 := Scalar.muli v1995 c1_i32_478
  let v1997 : BitVec 32 := Scalar.addi c0_i32_477 v1996
  let v1994 : BitVec 32 := Scalar.addi c0_i32_477 v1993
  let c1_i32_480 : BitVec 32 := 1#32
  ⟨v1997, v1994, c1_i32_480⟩
def k0_off145 (i : grid0.Coords) (k0_t36 : Fin (k0_t36_loop i).trips) : Fin 2 → Nat :=
  let c0_i32_477 : BitVec 32 := 0#32
  let arg0 : BitVec 32 := BitVec.ofNat 32 (i 0).val
  let c1_i32_476 : BitVec 32 := 1#32
  let v1992 : BitVec 32 := Scalar.addi arg0 c1_i32_476
  let v1993 : BitVec 32 := Scalar.subi v1992 c0_i32_477
  let c1_i32_478 : BitVec 32 := 1#32
  let v1995 : BitVec 32 := Scalar.divsi v1993 c1_i32_478
  let v1996 : BitVec 32 := Scalar.muli v1995 c1_i32_478
  let v1997 : BitVec 32 := Scalar.addi c0_i32_477 v1996
  let c1_i32_480 : BitVec 32 := 1#32
  let arg7 : BitVec 32 := Scf.iv v1997 c1_i32_480 k0_t36
  let c256_i32_532 : BitVec 32 := 256#32
  let v2148 : BitVec 32 := Scalar.muli arg7 c256_i32_532
  let v2149 : Index := Scalar.indexCast v2148
  let c384_533 : Index := 384#32
  ![v2149.toNat, 384]
def k0_off146 (i : grid0.Coords) (k0_t36 : Fin (k0_t36_loop i).trips) : Fin 2 → Nat :=
  let c0_i32_477 : BitVec 32 := 0#32
  let arg0 : BitVec 32 := BitVec.ofNat 32 (i 0).val
  let c1_i32_476 : BitVec 32 := 1#32
  let v1992 : BitVec 32 := Scalar.addi arg0 c1_i32_476
  let v1993 : BitVec 32 := Scalar.subi v1992 c0_i32_477
  let c1_i32_478 : BitVec 32 := 1#32
  let v1995 : BitVec 32 := Scalar.divsi v1993 c1_i32_478
  let v1996 : BitVec 32 := Scalar.muli v1995 c1_i32_478
  let v1997 : BitVec 32 := Scalar.addi c0_i32_477 v1996
  let c1_i32_480 : BitVec 32 := 1#32
  let arg7 : BitVec 32 := Scf.iv v1997 c1_i32_480 k0_t36
  let c256_i32_534 : BitVec 32 := 256#32
  let v2151 : BitVec 32 := Scalar.muli arg7 c256_i32_534
  let v2152 : Index := Scalar.indexCast v2151
  let c896_535 : Index := 896#32
  ![v2152.toNat, 896]
def k0_off147 (i : grid0.Coords) (k0_t36 : Fin (k0_t36_loop i).trips) : Fin 3 → Nat :=
  let c0_i32_477 : BitVec 32 := 0#32
  let arg0 : BitVec 32 := BitVec.ofNat 32 (i 0).val
  let c1_i32_476 : BitVec 32 := 1#32
  let v1992 : BitVec 32 := Scalar.addi arg0 c1_i32_476
  let v1993 : BitVec 32 := Scalar.subi v1992 c0_i32_477
  let c1_i32_478 : BitVec 32 := 1#32
  let v1995 : BitVec 32 := Scalar.divsi v1993 c1_i32_478
  let v1996 : BitVec 32 := Scalar.muli v1995 c1_i32_478
  let v1997 : BitVec 32 := Scalar.addi c0_i32_477 v1996
  let c1_i32_480 : BitVec 32 := 1#32
  let arg7 : BitVec 32 := Scf.iv v1997 c1_i32_480 k0_t36
  let v2165 : Index := Scalar.indexCast arg7
  let c0_540 : Index := 0#32
  let c0_541 : Index := 0#32
  ![v2165.toNat, 0, 0]
def k0_off148 (i : grid0.Coords) : Fin 2 → Nat :=
  let arg0 : BitVec 32 := BitVec.ofNat 32 (i 0).val
  let c256_i32 : BitVec 32 := 256#32
  let v0 : BitVec 32 := Scalar.muli arg0 c256_i32
  let v2004 : Index := Scalar.indexCast v0
  let c3111 : Index := 3111#32
  ![v2004.toNat, 3111]
def k0_off149 (i : grid0.Coords) : Fin 2 → Nat :=
  let arg0 : BitVec 32 := BitVec.ofNat 32 (i 0).val
  let c256_i32 : BitVec 32 := 256#32
  let v0 : BitVec 32 := Scalar.muli arg0 c256_i32
  let v2015 : Index := Scalar.indexCast v0
  let c3112 : Index := 3112#32
  ![v2015.toNat, 3112]
def k0_off150 (i : grid0.Coords) : Fin 2 → Nat :=
  let arg0 : BitVec 32 := BitVec.ofNat 32 (i 0).val
  let c256_i32 : BitVec 32 := 256#32
  let v0 : BitVec 32 := Scalar.muli arg0 c256_i32
  let v2027 : Index := Scalar.indexCast v0
  let c3113 : Index := 3113#32
  ![v2027.toNat, 3113]
@[reducible] def k0_t37_loop (i : grid0.Coords) : Scf.Loop 32 :=
  let c0_i32_497 : BitVec 32 := 0#32
  let arg0 : BitVec 32 := BitVec.ofNat 32 (i 0).val
  let c1_i32_496 : BitVec 32 := 1#32
  let v2046 : BitVec 32 := Scalar.addi arg0 c1_i32_496
  let v2047 : BitVec 32 := Scalar.subi v2046 c0_i32_497
  let c1_i32_498 : BitVec 32 := 1#32
  let v2049 : BitVec 32 := Scalar.divsi v2047 c1_i32_498
  let v2050 : BitVec 32 := Scalar.muli v2049 c1_i32_498
  let v2051 : BitVec 32 := Scalar.addi c0_i32_497 v2050
  let c1_i32_499 : BitVec 32 := 1#32
  ⟨c0_i32_497, v2051, c1_i32_499⟩
def k0_off151 (i : grid0.Coords) (k0_t37 : Fin (k0_t37_loop i).trips) : Fin 2 → Nat :=
  let c0_i32_497 : BitVec 32 := 0#32
  let c1_i32_499 : BitVec 32 := 1#32
  let arg7 : BitVec 32 := Scf.iv c0_i32_497 c1_i32_499 k0_t37
  let c256_i32_532 : BitVec 32 := 256#32
  let v2148 : BitVec 32 := Scalar.muli arg7 c256_i32_532
  let v2149 : Index := Scalar.indexCast v2148
  let c384_533 : Index := 384#32
  ![v2149.toNat, 384]
def k0_off152 (i : grid0.Coords) (k0_t37 : Fin (k0_t37_loop i).trips) : Fin 2 → Nat :=
  let c0_i32_497 : BitVec 32 := 0#32
  let c1_i32_499 : BitVec 32 := 1#32
  let arg7 : BitVec 32 := Scf.iv c0_i32_497 c1_i32_499 k0_t37
  let c256_i32_534 : BitVec 32 := 256#32
  let v2151 : BitVec 32 := Scalar.muli arg7 c256_i32_534
  let v2152 : Index := Scalar.indexCast v2151
  let c896_535 : Index := 896#32
  ![v2152.toNat, 896]
def k0_off153 (i : grid0.Coords) (k0_t37 : Fin (k0_t37_loop i).trips) : Fin 3 → Nat :=
  let c0_i32_497 : BitVec 32 := 0#32
  let c1_i32_499 : BitVec 32 := 1#32
  let arg7 : BitVec 32 := Scf.iv c0_i32_497 c1_i32_499 k0_t37
  let v2165 : Index := Scalar.indexCast arg7
  let c0_540 : Index := 0#32
  let c0_541 : Index := 0#32
  ![v2165.toNat, 0, 0]
@[reducible] def k0_t38_loop (i : grid0.Coords) : Scf.Loop 32 :=
  let c0_i32_497 : BitVec 32 := 0#32
  let arg0 : BitVec 32 := BitVec.ofNat 32 (i 0).val
  let c1_i32_496 : BitVec 32 := 1#32
  let v2046 : BitVec 32 := Scalar.addi arg0 c1_i32_496
  let v2047 : BitVec 32 := Scalar.subi v2046 c0_i32_497
  let c1_i32_498 : BitVec 32 := 1#32
  let v2049 : BitVec 32 := Scalar.divsi v2047 c1_i32_498
  let v2050 : BitVec 32 := Scalar.muli v2049 c1_i32_498
  let v2051 : BitVec 32 := Scalar.addi c0_i32_497 v2050
  let v2048 : BitVec 32 := Scalar.addi c0_i32_497 v2047
  let c1_i32_500 : BitVec 32 := 1#32
  ⟨v2051, v2048, c1_i32_500⟩
def k0_off154 (i : grid0.Coords) (k0_t38 : Fin (k0_t38_loop i).trips) : Fin 2 → Nat :=
  let c0_i32_497 : BitVec 32 := 0#32
  let arg0 : BitVec 32 := BitVec.ofNat 32 (i 0).val
  let c1_i32_496 : BitVec 32 := 1#32
  let v2046 : BitVec 32 := Scalar.addi arg0 c1_i32_496
  let v2047 : BitVec 32 := Scalar.subi v2046 c0_i32_497
  let c1_i32_498 : BitVec 32 := 1#32
  let v2049 : BitVec 32 := Scalar.divsi v2047 c1_i32_498
  let v2050 : BitVec 32 := Scalar.muli v2049 c1_i32_498
  let v2051 : BitVec 32 := Scalar.addi c0_i32_497 v2050
  let c1_i32_500 : BitVec 32 := 1#32
  let arg7 : BitVec 32 := Scf.iv v2051 c1_i32_500 k0_t38
  let c256_i32_532 : BitVec 32 := 256#32
  let v2148 : BitVec 32 := Scalar.muli arg7 c256_i32_532
  let v2149 : Index := Scalar.indexCast v2148
  let c384_533 : Index := 384#32
  ![v2149.toNat, 384]
def k0_off155 (i : grid0.Coords) (k0_t38 : Fin (k0_t38_loop i).trips) : Fin 2 → Nat :=
  let c0_i32_497 : BitVec 32 := 0#32
  let arg0 : BitVec 32 := BitVec.ofNat 32 (i 0).val
  let c1_i32_496 : BitVec 32 := 1#32
  let v2046 : BitVec 32 := Scalar.addi arg0 c1_i32_496
  let v2047 : BitVec 32 := Scalar.subi v2046 c0_i32_497
  let c1_i32_498 : BitVec 32 := 1#32
  let v2049 : BitVec 32 := Scalar.divsi v2047 c1_i32_498
  let v2050 : BitVec 32 := Scalar.muli v2049 c1_i32_498
  let v2051 : BitVec 32 := Scalar.addi c0_i32_497 v2050
  let c1_i32_500 : BitVec 32 := 1#32
  let arg7 : BitVec 32 := Scf.iv v2051 c1_i32_500 k0_t38
  let c256_i32_534 : BitVec 32 := 256#32
  let v2151 : BitVec 32 := Scalar.muli arg7 c256_i32_534
  let v2152 : Index := Scalar.indexCast v2151
  let c896_535 : Index := 896#32
  ![v2152.toNat, 896]
def k0_off156 (i : grid0.Coords) (k0_t38 : Fin (k0_t38_loop i).trips) : Fin 3 → Nat :=
  let c0_i32_497 : BitVec 32 := 0#32
  let arg0 : BitVec 32 := BitVec.ofNat 32 (i 0).val
  let c1_i32_496 : BitVec 32 := 1#32
  let v2046 : BitVec 32 := Scalar.addi arg0 c1_i32_496
  let v2047 : BitVec 32 := Scalar.subi v2046 c0_i32_497
  let c1_i32_498 : BitVec 32 := 1#32
  let v2049 : BitVec 32 := Scalar.divsi v2047 c1_i32_498
  let v2050 : BitVec 32 := Scalar.muli v2049 c1_i32_498
  let v2051 : BitVec 32 := Scalar.addi c0_i32_497 v2050
  let c1_i32_500 : BitVec 32 := 1#32
  let arg7 : BitVec 32 := Scf.iv v2051 c1_i32_500 k0_t38
  let v2165 : Index := Scalar.indexCast arg7
  let c0_540 : Index := 0#32
  let c0_541 : Index := 0#32
  ![v2165.toNat, 0, 0]
def k0_off157 (i : grid0.Coords) : Fin 2 → Nat :=
  let arg0 : BitVec 32 := BitVec.ofNat 32 (i 0).val
  let c256_i32 : BitVec 32 := 256#32
  let v0 : BitVec 32 := Scalar.muli arg0 c256_i32
  let v2058 : Index := Scalar.indexCast v0
  let c3114 : Index := 3114#32
  ![v2058.toNat, 3114]
def k0_off158 (i : grid0.Coords) : Fin 2 → Nat :=
  let arg0 : BitVec 32 := BitVec.ofNat 32 (i 0).val
  let c256_i32 : BitVec 32 := 256#32
  let v0 : BitVec 32 := Scalar.muli arg0 c256_i32
  let v2069 : Index := Scalar.indexCast v0
  let c3115 : Index := 3115#32
  ![v2069.toNat, 3115]
def k0_off159 (i : grid0.Coords) : Fin 2 → Nat :=
  let arg0 : BitVec 32 := BitVec.ofNat 32 (i 0).val
  let c256_i32 : BitVec 32 := 256#32
  let v0 : BitVec 32 := Scalar.muli arg0 c256_i32
  let v2081 : Index := Scalar.indexCast v0
  let c3116 : Index := 3116#32
  ![v2081.toNat, 3116]
@[reducible] def k0_t39_loop (i : grid0.Coords) : Scf.Loop 32 :=
  let c0_i32_517 : BitVec 32 := 0#32
  let arg0 : BitVec 32 := BitVec.ofNat 32 (i 0).val
  let c1_i32_516 : BitVec 32 := 1#32
  let v2100 : BitVec 32 := Scalar.addi arg0 c1_i32_516
  let v2101 : BitVec 32 := Scalar.subi v2100 c0_i32_517
  let c1_i32_518 : BitVec 32 := 1#32
  let v2103 : BitVec 32 := Scalar.divsi v2101 c1_i32_518
  let v2104 : BitVec 32 := Scalar.muli v2103 c1_i32_518
  let v2105 : BitVec 32 := Scalar.addi c0_i32_517 v2104
  let c1_i32_519 : BitVec 32 := 1#32
  ⟨c0_i32_517, v2105, c1_i32_519⟩
def k0_off160 (i : grid0.Coords) (k0_t39 : Fin (k0_t39_loop i).trips) : Fin 2 → Nat :=
  let c0_i32_517 : BitVec 32 := 0#32
  let c1_i32_519 : BitVec 32 := 1#32
  let arg7 : BitVec 32 := Scf.iv c0_i32_517 c1_i32_519 k0_t39
  let c256_i32_532 : BitVec 32 := 256#32
  let v2148 : BitVec 32 := Scalar.muli arg7 c256_i32_532
  let v2149 : Index := Scalar.indexCast v2148
  let c384_533 : Index := 384#32
  ![v2149.toNat, 384]
def k0_off161 (i : grid0.Coords) (k0_t39 : Fin (k0_t39_loop i).trips) : Fin 2 → Nat :=
  let c0_i32_517 : BitVec 32 := 0#32
  let c1_i32_519 : BitVec 32 := 1#32
  let arg7 : BitVec 32 := Scf.iv c0_i32_517 c1_i32_519 k0_t39
  let c256_i32_534 : BitVec 32 := 256#32
  let v2151 : BitVec 32 := Scalar.muli arg7 c256_i32_534
  let v2152 : Index := Scalar.indexCast v2151
  let c896_535 : Index := 896#32
  ![v2152.toNat, 896]
def k0_off162 (i : grid0.Coords) (k0_t39 : Fin (k0_t39_loop i).trips) : Fin 3 → Nat :=
  let c0_i32_517 : BitVec 32 := 0#32
  let c1_i32_519 : BitVec 32 := 1#32
  let arg7 : BitVec 32 := Scf.iv c0_i32_517 c1_i32_519 k0_t39
  let v2165 : Index := Scalar.indexCast arg7
  let c0_540 : Index := 0#32
  let c0_541 : Index := 0#32
  ![v2165.toNat, 0, 0]
@[reducible] def k0_t40_loop (i : grid0.Coords) : Scf.Loop 32 :=
  let c0_i32_517 : BitVec 32 := 0#32
  let arg0 : BitVec 32 := BitVec.ofNat 32 (i 0).val
  let c1_i32_516 : BitVec 32 := 1#32
  let v2100 : BitVec 32 := Scalar.addi arg0 c1_i32_516
  let v2101 : BitVec 32 := Scalar.subi v2100 c0_i32_517
  let c1_i32_518 : BitVec 32 := 1#32
  let v2103 : BitVec 32 := Scalar.divsi v2101 c1_i32_518
  let v2104 : BitVec 32 := Scalar.muli v2103 c1_i32_518
  let v2105 : BitVec 32 := Scalar.addi c0_i32_517 v2104
  let v2102 : BitVec 32 := Scalar.addi c0_i32_517 v2101
  let c1_i32_520 : BitVec 32 := 1#32
  ⟨v2105, v2102, c1_i32_520⟩
def k0_off163 (i : grid0.Coords) (k0_t40 : Fin (k0_t40_loop i).trips) : Fin 2 → Nat :=
  let c0_i32_517 : BitVec 32 := 0#32
  let arg0 : BitVec 32 := BitVec.ofNat 32 (i 0).val
  let c1_i32_516 : BitVec 32 := 1#32
  let v2100 : BitVec 32 := Scalar.addi arg0 c1_i32_516
  let v2101 : BitVec 32 := Scalar.subi v2100 c0_i32_517
  let c1_i32_518 : BitVec 32 := 1#32
  let v2103 : BitVec 32 := Scalar.divsi v2101 c1_i32_518
  let v2104 : BitVec 32 := Scalar.muli v2103 c1_i32_518
  let v2105 : BitVec 32 := Scalar.addi c0_i32_517 v2104
  let c1_i32_520 : BitVec 32 := 1#32
  let arg7 : BitVec 32 := Scf.iv v2105 c1_i32_520 k0_t40
  let c256_i32_532 : BitVec 32 := 256#32
  let v2148 : BitVec 32 := Scalar.muli arg7 c256_i32_532
  let v2149 : Index := Scalar.indexCast v2148
  let c384_533 : Index := 384#32
  ![v2149.toNat, 384]
def k0_off164 (i : grid0.Coords) (k0_t40 : Fin (k0_t40_loop i).trips) : Fin 2 → Nat :=
  let c0_i32_517 : BitVec 32 := 0#32
  let arg0 : BitVec 32 := BitVec.ofNat 32 (i 0).val
  let c1_i32_516 : BitVec 32 := 1#32
  let v2100 : BitVec 32 := Scalar.addi arg0 c1_i32_516
  let v2101 : BitVec 32 := Scalar.subi v2100 c0_i32_517
  let c1_i32_518 : BitVec 32 := 1#32
  let v2103 : BitVec 32 := Scalar.divsi v2101 c1_i32_518
  let v2104 : BitVec 32 := Scalar.muli v2103 c1_i32_518
  let v2105 : BitVec 32 := Scalar.addi c0_i32_517 v2104
  let c1_i32_520 : BitVec 32 := 1#32
  let arg7 : BitVec 32 := Scf.iv v2105 c1_i32_520 k0_t40
  let c256_i32_534 : BitVec 32 := 256#32
  let v2151 : BitVec 32 := Scalar.muli arg7 c256_i32_534
  let v2152 : Index := Scalar.indexCast v2151
  let c896_535 : Index := 896#32
  ![v2152.toNat, 896]
def k0_off165 (i : grid0.Coords) (k0_t40 : Fin (k0_t40_loop i).trips) : Fin 3 → Nat :=
  let c0_i32_517 : BitVec 32 := 0#32
  let arg0 : BitVec 32 := BitVec.ofNat 32 (i 0).val
  let c1_i32_516 : BitVec 32 := 1#32
  let v2100 : BitVec 32 := Scalar.addi arg0 c1_i32_516
  let v2101 : BitVec 32 := Scalar.subi v2100 c0_i32_517
  let c1_i32_518 : BitVec 32 := 1#32
  let v2103 : BitVec 32 := Scalar.divsi v2101 c1_i32_518
  let v2104 : BitVec 32 := Scalar.muli v2103 c1_i32_518
  let v2105 : BitVec 32 := Scalar.addi c0_i32_517 v2104
  let c1_i32_520 : BitVec 32 := 1#32
  let arg7 : BitVec 32 := Scf.iv v2105 c1_i32_520 k0_t40
  let v2165 : Index := Scalar.indexCast arg7
  let c0_540 : Index := 0#32
  let c0_541 : Index := 0#32
  ![v2165.toNat, 0, 0]
def k0_off166 (i : grid0.Coords) : Fin 2 → Nat :=
  let arg0 : BitVec 32 := BitVec.ofNat 32 (i 0).val
  let c256_i32 : BitVec 32 := 256#32
  let v0 : BitVec 32 := Scalar.muli arg0 c256_i32
  let v2112 : Index := Scalar.indexCast v0
  let c3117 : Index := 3117#32
  ![v2112.toNat, 3117]
def k0_off167 (i : grid0.Coords) : Fin 2 → Nat :=
  let arg0 : BitVec 32 := BitVec.ofNat 32 (i 0).val
  let c256_i32 : BitVec 32 := 256#32
  let v0 : BitVec 32 := Scalar.muli arg0 c256_i32
  let v2123 : Index := Scalar.indexCast v0
  let c3118 : Index := 3118#32
  ![v2123.toNat, 3118]
def k0_off168 (i : grid0.Coords) : Fin 2 → Nat :=
  let arg0 : BitVec 32 := BitVec.ofNat 32 (i 0).val
  let c256_i32 : BitVec 32 := 256#32
  let v0 : BitVec 32 := Scalar.muli arg0 c256_i32
  let v2135 : Index := Scalar.indexCast v0
  let c3119 : Index := 3119#32
  ![v2135.toNat, 3119]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x3200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "dead" => some ⊥
  | "mask" => some ⊥
  | _ => none
-- ==== RefIdeal.lean ====
abbrev S2048x3200 : Shape := ⟨2, ![2048, 3200]⟩
abbrev S2048x2048 : Shape := ⟨2, ![2048, 2048]⟩
abbrev S2048x16x128 : Shape := ⟨3, ![2048, 16, 128]⟩
abbrev S16x2048x128 : Shape := ⟨3, ![16, 2048, 128]⟩
abbrev S2048x512 : Shape := ⟨2, ![2048, 512]⟩
abbrev S2048x4x128 : Shape := ⟨3, ![2048, 4, 128]⟩
abbrev S4x2048x128 : Shape := ⟨3, ![4, 2048, 128]⟩
abbrev S4x4x2048x128 : Shape := ⟨4, ![4, 4, 2048, 128]⟩
abbrev S2048 : Shape := ⟨1, ![2048]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S4x127x32x128 : Shape := ⟨4, ![4, 127, 32, 128]⟩
abbrev S4x127x128 : Shape := ⟨3, ![4, 127, 128]⟩
abbrev S4x4x2048x127 : Shape := ⟨4, ![4, 4, 2048, 127]⟩
abbrev S1x127 : Shape := ⟨2, ![1, 127]⟩
abbrev S2048x1 : Shape := ⟨2, ![2048, 1]⟩
abbrev S2048x127 : Shape := ⟨2, ![2048, 127]⟩
abbrev S1x1x2048x127 : Shape := ⟨4, ![1, 1, 2048, 127]⟩
abbrev S4x4x2048 : Shape := ⟨3, ![4, 4, 2048]⟩
abbrev S4x4x2048x1 : Shape := ⟨4, ![4, 4, 2048, 1]⟩
abbrev S4x2048x127 : Shape := ⟨3, ![4, 2048, 127]⟩
abbrev S4x2048x32 : Shape := ⟨3, ![4, 2048, 32]⟩
abbrev S2048x32 : Shape := ⟨2, ![2048, 32]⟩
abbrev S1x2048x32 : Shape := ⟨3, ![1, 2048, 32]⟩
abbrev S4x2048x16 : Shape := ⟨3, ![4, 2048, 16]⟩
abbrev S4x2048x1 : Shape := ⟨3, ![4, 2048, 1]⟩
abbrev S4x2048x32x64 : Shape := ⟨4, ![4, 2048, 32, 64]⟩
abbrev S4x2048x2048 : Shape := ⟨3, ![4, 2048, 2048]⟩
abbrev S1x2048 : Shape := ⟨2, ![1, 2048]⟩
abbrev S1x2048x2048 : Shape := ⟨3, ![1, 2048, 2048]⟩
abbrev S4x4x2048x2048 : Shape := ⟨4, ![4, 4, 2048, 2048]⟩
abbrev S4x1x2048x2048 : Shape := ⟨4, ![4, 1, 2048, 2048]⟩
abbrev S1x1x2048x2048 : Shape := ⟨4, ![1, 1, 2048, 2048]⟩
abbrev S2048x48 : Shape := ⟨2, ![2048, 48]⟩
abbrev S2048x16x3 : Shape := ⟨3, ![2048, 16, 3]⟩
abbrev S16x2048x3 : Shape := ⟨3, ![16, 2048, 3]⟩
abbrev S4x4x2048x3 : Shape := ⟨4, ![4, 4, 2048, 3]⟩

abbrev nBuf : Space → Nat
  | .hbm => 274
  | .vmem => 0
  | .smem => 0
  | _ => 0

abbrev hbmTy0_0 (i : Nat) : BufTy := match i % 128 with
  | 0 => ⟨S2048x3200, .f32⟩
  | 1 => ⟨S2048x2048, .f32⟩
  | 2 => ⟨S2048x16x128, .f32⟩
  | 3 => ⟨S16x2048x128, .f32⟩
  | 4 => ⟨S2048x512, .f32⟩
  | 5 => ⟨S2048x4x128, .f32⟩
  | 6 => ⟨S4x2048x128, .f32⟩
  | 7 => ⟨S2048x512, .f32⟩
  | 8 => ⟨S2048x4x128, .f32⟩
  | 9 => ⟨S4x2048x128, .f32⟩
  | 10 => ⟨S4x4x2048x128, .f32⟩
  | 11 => ⟨S2048, .i32⟩
  | 12 => ⟨S2048, .i32⟩
  | 13 => ⟨S127, .i32⟩
  | 14 => ⟨S_, .i32⟩
  | 15 => ⟨S127, .i32⟩
  | 16 => ⟨S127, .i32⟩
  | 17 => ⟨S127x1, .i32⟩
  | 18 => ⟨S32, .i32⟩
  | 19 => ⟨S1x32, .i32⟩
  | 20 => ⟨S127x32, .i32⟩
  | 21 => ⟨S127x32, .i32⟩
  | 22 => ⟨S127x32, .i32⟩
  | 23 => ⟨S_, .i32⟩
  | 24 => ⟨S127x32, .i32⟩
  | 25 => ⟨S127x32, .i1⟩
  | 26 => ⟨S_, .i32⟩
  | 27 => ⟨S127x32, .i32⟩
  | 28 => ⟨S127x32, .i32⟩
  | 29 => ⟨S127x32, .i32⟩
  | 30 => ⟨S127x32x1, .i32⟩
  | 31 => ⟨S4x127x32x128, .f32⟩
  | 32 => ⟨S_, .f32⟩
  | 33 => ⟨S4x127x128, .f32⟩
  | 34 => ⟨S_, .f32⟩
  | 35 => ⟨S4x127x128, .f32⟩
  | 36 => ⟨S4x127x128, .f32⟩
  | 37 => ⟨S_, .i32⟩
  | 38 => ⟨S127x32, .i32⟩
  | 39 => ⟨S127x32, .i1⟩
  | 40 => ⟨S_, .i32⟩
  | 41 => ⟨S127x32, .i32⟩
  | 42 => ⟨S127x32, .i32⟩
  | 43 => ⟨S127x32, .i32⟩
  | 44 => ⟨S127x32x1, .i32⟩
  | 45 => ⟨S4x127x32x128, .f32⟩
  | 46 => ⟨S_, .f32⟩
  | 47 => ⟨S4x127x128, .f32⟩
  | 48 => ⟨S_, .f32⟩
  | 49 => ⟨S4x127x128, .f32⟩
  | 50 => ⟨S4x127x128, .f32⟩
  | 51 => ⟨S4x4x2048x127, .f32⟩
  | 52 => ⟨S_, .f32⟩
  | 53 => ⟨S4x4x2048x127, .f32⟩
  | 54 => ⟨S4x4x2048x127, .f32⟩
  | 55 => ⟨S_, .i32⟩
  | 56 => ⟨S127, .i32⟩
  | 57 => ⟨S127, .i32⟩
  | 58 => ⟨S_, .i32⟩
  | 59 => ⟨S127, .i32⟩
  | 60 => ⟨S127, .i32⟩
  | 61 => ⟨S1x127, .i32⟩
  | 62 => ⟨S2048x1, .i32⟩
  | 63 => ⟨S2048x127, .i32⟩
  | 64 => ⟨S2048x127, .i32⟩
  | 65 => ⟨S2048x127, .i1⟩
  | 66 => ⟨S1x1x2048x127, .i1⟩
  | 67 => ⟨S_, .f32⟩
  | 68 => ⟨S_, .f32⟩
  | 69 => ⟨S4x4x2048x127, .i1⟩
  | 70 => ⟨S4x4x2048x127, .f32⟩
  | 71 => ⟨S4x4x2048x127, .f32⟩
  | 72 => ⟨S1x1x2048x127, .i1⟩
  | 73 => ⟨S_, .f32⟩
  | 74 => ⟨S4x4x2048, .f32⟩
  | 75 => ⟨S_, .f32⟩
  | 76 => ⟨S4x4x2048, .f32⟩
  | 77 => ⟨S4x4x2048, .f32⟩
  | 78 => ⟨S4x4x2048x1, .f32⟩
  | 79 => ⟨S4x4x2048x127, .f32⟩
  | 80 => ⟨S4x4x2048x127, .f32⟩
  | 81 => ⟨S4x4x2048x127, .f32⟩
  | 82 => ⟨S_, .f32⟩
  | 83 => ⟨S4x4x2048, .f32⟩
  | 84 => ⟨S4x4x2048x1, .f32⟩
  | 85 => ⟨S4x4x2048x127, .f32⟩
  | 86 => ⟨S4x4x2048x127, .f32⟩
  | 87 => ⟨S_, .f32⟩
  | 88 => ⟨S_, .f32⟩
  | 89 => ⟨S4x4x2048x127, .i1⟩
  | 90 => ⟨S4x4x2048x127, .f32⟩
  | 91 => ⟨S4x4x2048x127, .f32⟩
  | 92 => ⟨S4x4x2048x128, .f32⟩
  | 93 => ⟨S_, .f32⟩
  | 94 => ⟨S4x2048x127, .f32⟩
  | 95 => ⟨S_, .i32⟩
  | 96 => ⟨S_, .i32⟩
  | 97 => ⟨S127, .i32⟩
  | 98 => ⟨S127, .i32⟩
  | 99 => ⟨S127, .i32⟩
  | 100 => ⟨S_, .i32⟩
  | 101 => ⟨S127, .i32⟩
  | 102 => ⟨S127, .i1⟩
  | 103 => ⟨S127, .i32⟩
  | 104 => ⟨S127, .i32⟩
  | 105 => ⟨S_, .i32⟩
  | 106 => ⟨S127, .i32⟩
  | 107 => ⟨S127, .i1⟩
  | 108 => ⟨S127, .i1⟩
  | 109 => ⟨S_, .i32⟩
  | 110 => ⟨S127, .i32⟩
  | 111 => ⟨S127, .i32⟩
  | 112 => ⟨S127, .i32⟩
  | 113 => ⟨S127x1, .i32⟩
  | 114 => ⟨S32, .i32⟩
  | 115 => ⟨S1x32, .i32⟩
  | 116 => ⟨S127x32, .i32⟩
  | 117 => ⟨S127x32, .i32⟩
  | 118 => ⟨S127x32, .i1⟩
  | 119 => ⟨S127x32, .f32⟩
  | 120 => ⟨S4x2048x32, .f32⟩
  | 121 => ⟨S32, .i32⟩
  | 122 => ⟨S1x32, .i32⟩
  | 123 => ⟨S_, .i32⟩
  | 124 => ⟨S1x32, .i32⟩
  | 125 => ⟨S1x32, .i1⟩
  | 126 => ⟨S_, .i32⟩
  | 127 => ⟨S_, .i32⟩
  | _ => ⟨S2048x3200, .f32⟩

abbrev hbmTy0_1 (i : Nat) : BufTy := match i % 128 with
  | 0 => ⟨S2048, .i32⟩
  | 1 => ⟨S2048, .i32⟩
  | 2 => ⟨S2048, .i32⟩
  | 3 => ⟨S_, .i32⟩
  | 4 => ⟨S2048, .i32⟩
  | 5 => ⟨S2048, .i1⟩
  | 6 => ⟨S2048, .i32⟩
  | 7 => ⟨S2048, .i32⟩
  | 8 => ⟨S_, .i32⟩
  | 9 => ⟨S2048, .i32⟩
  | 10 => ⟨S2048, .i1⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S32, .i32⟩
  | 18 => ⟨S1x32, .i32⟩
  | 19 => ⟨S2048x32, .i32⟩
  | 20 => ⟨S2048x32, .i32⟩
  | 21 => ⟨S2048x32, .i1⟩
  | 22 => ⟨S2048x32, .i1⟩
  | 23 => ⟨S2048x32, .i1⟩
  | 24 => ⟨S32, .i32⟩
  | 25 => ⟨S_, .i32⟩
  | 26 => ⟨S32, .i32⟩
  | 27 => ⟨S32, .i32⟩
  | 28 => ⟨S1x32, .i32⟩
  | 29 => ⟨S2048x1, .i32⟩
  | 30 => ⟨S2048x32, .i32⟩
  | 31 => ⟨S2048x32, .i32⟩
  | 32 => ⟨S2048x32, .i1⟩
  | 33 => ⟨S1x2048x32, .i1⟩
  | 34 => ⟨S1x2048x32, .i1⟩
  | 35 => ⟨S1x2048x32, .f32⟩
  | 36 => ⟨S_, .f32⟩
  | 37 => ⟨S1x2048x32, .f32⟩
  | 38 => ⟨S1x2048x32, .f32⟩
  | 39 => ⟨S4x2048x32, .f32⟩
  | 40 => ⟨S4x2048x32, .f32⟩
  | 41 => ⟨S_, .f32⟩
  | 42 => ⟨S_, .f32⟩
  | 43 => ⟨S4x2048x32, .i1⟩
  | 44 => ⟨S4x2048x32, .f32⟩
  | 45 => ⟨S4x2048x32, .f32⟩
  | 46 => ⟨S4x2048x16, .f32⟩
  | 47 => ⟨S4x2048x16, .i32⟩
  | 48 => ⟨S4x2048x1, .f32⟩
  | 49 => ⟨S4x2048x32, .f32⟩
  | 50 => ⟨S4x2048x32, .i1⟩
  | 51 => ⟨S4x2048x32x64, .i1⟩
  | 52 => ⟨S4x2048x2048, .i1⟩
  | 53 => ⟨S1x2048, .i32⟩
  | 54 => ⟨S2048x1, .i32⟩
  | 55 => ⟨S2048x2048, .i32⟩
  | 56 => ⟨S2048x2048, .i32⟩
  | 57 => ⟨S2048x2048, .i1⟩
  | 58 => ⟨S1x2048x2048, .i1⟩
  | 59 => ⟨S4x2048x2048, .i1⟩
  | 60 => ⟨S4x2048x2048, .i1⟩
  | 61 => ⟨S4x4x2048x2048, .f32⟩
  | 62 => ⟨S_, .f32⟩
  | 63 => ⟨S4x4x2048x2048, .f32⟩
  | 64 => ⟨S4x4x2048x2048, .f32⟩
  | 65 => ⟨S4x1x2048x2048, .i1⟩
  | 66 => ⟨S_, .f32⟩
  | 67 => ⟨S_, .f32⟩
  | 68 => ⟨S4x4x2048x2048, .i1⟩
  | 69 => ⟨S4x4x2048x2048, .f32⟩
  | 70 => ⟨S4x4x2048x2048, .f32⟩
  | 71 => ⟨S_, .f32⟩
  | 72 => ⟨S4x4x2048, .f32⟩
  | 73 => ⟨S_, .f32⟩
  | 74 => ⟨S4x4x2048, .f32⟩
  | 75 => ⟨S4x4x2048, .f32⟩
  | 76 => ⟨S4x4x2048x1, .f32⟩
  | 77 => ⟨S4x4x2048x2048, .f32⟩
  | 78 => ⟨S4x4x2048x2048, .f32⟩
  | 79 => ⟨S4x4x2048x2048, .f32⟩
  | 80 => ⟨S_, .f32⟩
  | 81 => ⟨S4x4x2048, .f32⟩
  | 82 => ⟨S4x4x2048x1, .f32⟩
  | 83 => ⟨S4x4x2048x2048, .f32⟩
  | 84 => ⟨S4x4x2048x2048, .f32⟩
  | 85 => ⟨S4x4x2048x128, .f32⟩
  | 86 => ⟨S1x2048, .i32⟩
  | 87 => ⟨S2048x1, .i32⟩
  | 88 => ⟨S_, .i32⟩
  | 89 => ⟨S2048x1, .i32⟩
  | 90 => ⟨S2048x1, .i32⟩
  | 91 => ⟨S2048x2048, .i32⟩
  | 92 => ⟨S2048x2048, .i32⟩
  | 93 => ⟨S2048x2048, .i1⟩
  | 94 => ⟨S2048x2048, .i1⟩
  | 95 => ⟨S4x4x2048x2048, .f32⟩
  | 96 => ⟨S_, .f32⟩
  | 97 => ⟨S4x4x2048x2048, .f32⟩
  | 98 => ⟨S4x4x2048x2048, .f32⟩
  | 99 => ⟨S1x1x2048x2048, .i1⟩
  | 100 => ⟨S_, .f32⟩
  | 101 => ⟨S_, .f32⟩
  | 102 => ⟨S4x4x2048x2048, .i1⟩
  | 103 => ⟨S4x4x2048x2048, .f32⟩
  | 104 => ⟨S4x4x2048x2048, .f32⟩
  | 105 => ⟨S_, .f32⟩
  | 106 => ⟨S4x4x2048, .f32⟩
  | 107 => ⟨S_, .f32⟩
  | 108 => ⟨S4x4x2048, .f32⟩
  | 109 => ⟨S4x4x2048, .f32⟩
  | 110 => ⟨S4x4x2048x1, .f32⟩
  | 111 => ⟨S4x4x2048x2048, .f32⟩
  | 112 => ⟨S4x4x2048x2048, .f32⟩
  | 113 => ⟨S4x4x2048x2048, .f32⟩
  | 114 => ⟨S_, .f32⟩
  | 115 => ⟨S4x4x2048, .f32⟩
  | 116 => ⟨S4x4x2048x1, .f32⟩
  | 117 => ⟨S4x4x2048x2048, .f32⟩
  | 118 => ⟨S4x4x2048x2048, .f32⟩
  | 119 => ⟨S4x4x2048x128, .f32⟩
  | 120 => ⟨S2048x48, .f32⟩
  | 121 => ⟨S2048x48, .f32⟩
  | 122 => ⟨S2048x48, .f32⟩
  | 123 => ⟨S_, .f32⟩
  | 124 => ⟨S2048x48, .f32⟩
  | 125 => ⟨S2048x48, .f32⟩
  | 126 => ⟨S_, .f32⟩
  | 127 => ⟨S2048x48, .f32⟩
  | _ => ⟨S2048x3200, .f32⟩

abbrev hbmTy0_2 (i : Nat) : BufTy := match i % 128 with
  | 0 => ⟨S2048x48, .f32⟩
  | 1 => ⟨S2048x16x3, .f32⟩
  | 2 => ⟨S16x2048x3, .f32⟩
  | 3 => ⟨S4x4x2048x3, .f32⟩
  | 4 => ⟨S4x4x2048x1, .f32⟩
  | 5 => ⟨S4x4x2048x128, .f32⟩
  | 6 => ⟨S4x4x2048x128, .f32⟩
  | 7 => ⟨S4x4x2048x1, .f32⟩
  | 8 => ⟨S4x4x2048x128, .f32⟩
  | 9 => ⟨S4x4x2048x128, .f32⟩
  | 10 => ⟨S4x4x2048x128, .f32⟩
  | 11 => ⟨S4x4x2048x1, .f32⟩
  | 12 => ⟨S4x4x2048x128, .f32⟩
  | 13 => ⟨S4x4x2048x128, .f32⟩
  | 14 => ⟨S4x4x2048x128, .f32⟩
  | 15 => ⟨S16x2048x128, .f32⟩
  | 16 => ⟨S2048x16x128, .f32⟩
  | 17 => ⟨S2048x2048, .f32⟩
  | _ => ⟨S2048x3200, .f32⟩

abbrev hbmTy (i : Nat) : BufTy := match i / 128 with
  | 0 => hbmTy0_0 i
  | 1 => hbmTy0_1 i
  | 2 => hbmTy0_2 i
  | _ => ⟨S2048x3200, .f32⟩

abbrev bufTy : (tb : Table) → Fin (tcTables nBuf tb) → BufTy
  | .hbm, ⟨i, _⟩ => hbmTy i
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c_0 : Ref sig .tc := ⟨.hbm, 23, rfl⟩
abbrev main_v21 : Ref sig .tc := ⟨.hbm, 24, rfl⟩
abbrev main_v22 : Ref sig .tc := ⟨.hbm, 25, rfl⟩
abbrev main_c_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_c_3 : Ref sig .tc := ⟨.hbm, 37, rfl⟩
abbrev main_v31 : Ref sig .tc := ⟨.hbm, 38, rfl⟩
abbrev main_v32 : Ref sig .tc := ⟨.hbm, 39, rfl⟩
abbrev main_c_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_7 : Ref sig .tc := ⟨.hbm, 52, rfl⟩
abbrev main_v42 : Ref sig .tc := ⟨.hbm, 53, rfl⟩
abbrev main_v43 : Ref sig .tc := ⟨.hbm, 54, rfl⟩
abbrev main_c_8 : Ref sig .tc := ⟨.hbm, 55, rfl⟩
abbrev main_v44 : Ref sig .tc := ⟨.hbm, 56, rfl⟩
abbrev main_v45 : Ref sig .tc := ⟨.hbm, 57, rfl⟩
abbrev main_c_9 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_c_16 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_c_18 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_c : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_0 : Ref sig .tc := ⟨.hbm, 140, rfl⟩
abbrev main_call3_v12 : Ref sig .tc := ⟨.hbm, 141, rfl⟩
abbrev main_call3_v13 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_c_19 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_20 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_21 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_v107 : Ref sig .tc := ⟨.hbm, 173, rfl⟩
abbrev main_values : Ref sig .tc := ⟨.hbm, 174, rfl⟩
abbrev main_indices : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_22 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_23 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_v125 : Ref sig .tc := ⟨.hbm, 198, rfl⟩
abbrev main_cst_24 : Ref sig .tc := ⟨.hbm, 199, rfl⟩
abbrev main_v126 : Ref sig .tc := ⟨.hbm, 200, rfl⟩
abbrev main_cst_25 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_cst_26 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_c_27 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_28 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_29 : Ref sig .tc := ⟨.hbm, 228, rfl⟩
abbrev main_call6_v0 : Ref sig .tc := ⟨.hbm, 229, rfl⟩
abbrev main_call6_v1 : Ref sig .tc := ⟨.hbm, 230, rfl⟩
abbrev main_call6_v2 : Ref sig .tc := ⟨.hbm, 231, rfl⟩
abbrev main_v150 : Ref sig .tc := ⟨.hbm, 232, rfl⟩
abbrev main_cst_30 : Ref sig .tc := ⟨.hbm, 233, rfl⟩
abbrev main_v151 : Ref sig .tc := ⟨.hbm, 234, rfl⟩
abbrev main_cst_31 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_cst_32 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_33 : Ref sig .tc := ⟨.hbm, 251, rfl⟩
abbrev main_v166 : Ref sig .tc := ⟨.hbm, 252, rfl⟩
abbrev main_v167 : Ref sig .tc := ⟨.hbm, 253, rfl⟩
abbrev main_cst_34 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩

abbrev nD : Nat := 1
abbrev τ : Topo := Topo.v7x

variable {F : FTy → Type} [FloatOps F]
-- ==== Proj.lean ====
abbrev S2048x2048 : Shape := ⟨2, ![2048, 2048]⟩
abbrev S2048x3200 : Shape := ⟨2, ![2048, 3200]⟩
abbrev S1x2048 : Shape := ⟨2, ![1, 2048]⟩
abbrev S256x2048 : Shape := ⟨2, ![256, 2048]⟩
abbrev S256x3200 : Shape := ⟨2, ![256, 3200]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x3200, .bf16⟩
  | .hbm, ⟨2, _⟩ => ⟨S1x2048, .f32⟩
  | .hbm, ⟨3, _⟩ => ⟨S2048x3200, .f32⟩
  | .local _ .vmem, ⟨0, _⟩ => ⟨S256x2048, .f32⟩
  | .local _ .vmem, ⟨1, _⟩ => ⟨S256x2048, .f32⟩
  | .local _ .vmem, ⟨2, _⟩ => ⟨S2048x3200, .bf16⟩
  | .local _ .vmem, ⟨3, _⟩ => ⟨S1x2048, .f32⟩
  | .local _ .vmem, ⟨4, _⟩ => ⟨S256x3200, .f32⟩
  | .local _ .vmem, ⟨5, _⟩ => ⟨S256x3200, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S2048x2048 : Shape := ⟨2, ![2048, 2048]⟩
abbrev S2048x3200 : Shape := ⟨2, ![2048, 3200]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3200, .bf16⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x3200, .f32⟩
  | .hbm, ⟨21, _⟩ => ⟨S2048x3200, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Wo.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WoRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Mlp.lean ====
abbrev S2048x2048 : Shape := ⟨2, ![2048, 2048]⟩
abbrev S2048x8192 : Shape := ⟨2, ![2048, 8192]⟩
abbrev S8192x2048 : Shape := ⟨2, ![8192, 2048]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x8192, .bf16⟩
  | .hbm, ⟨3, _⟩ => ⟨S8192x2048, .bf16⟩
  | .hbm, ⟨4, _⟩ => ⟨S2048x2048, .f32⟩
  | .local _ .vmem, ⟨0, _⟩ => ⟨S2048x2048, .bf16⟩
  | .local _ .vmem, ⟨1, _⟩ => ⟨S2048x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S2048x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_9 : BitVec 32 := 0#32
  let v16 : BitVec 1 := Scalar.cmpi .ne v15 c0_i32_9
  v16

def k0_cond2 (i : grid0.Coords) : BitVec 1 :=
  let arg0 : BitVec 32 := BitVec.ofNat 32 (i 0).val
  let c0_i32_10 : BitVec 32 := 0#32
  let v17 : BitVec 1 := Scalar.cmpi .sgt arg0 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg0 : BitVec 32 := BitVec.ofNat 32 (i 0).val
  let c0_i32_22 : BitVec 32 := 0#32
  let v34 : BitVec 1 := Scalar.cmpi .eq arg0 c0_i32_22
  let v35 : BitVec 32 := Scalar.extui v34
  let c0_i32_23 : BitVec 32 := 0#32
  let v36 : BitVec 1 := Scalar.cmpi .ne v35 c0_i32_23
  v36

def k0_cond4 (i : grid0.Coords) : BitVec 1 :=
  let arg0 : BitVec 32 := BitVec.ofNat 32 (i 0).val
  let c0_i32_24 : BitVec 32 := 0#32
  let v37 : BitVec 1 := Scalar.cmpi .sgt arg0 c0_i32_24
  let v38 : BitVec 32 := Scalar.extui v37
  let c0_i32_25 : BitVec 32 := 0#32
  let v39 : BitVec 1 := Scalar.cmpi .ne v38 c0_i32_25
  v39

def k0_cond5 (i : grid0.Coords) : BitVec 1 :=
  let arg0 : BitVec 32 := BitVec.ofNat 32 (i 0).val
  let c0_i32_36 : BitVec 32 := 0#32
  let v54 : BitVec 1 := Scalar.cmpi .eq arg0 c0_i32_36
  let v55 : BitVec 32 := Scalar.extui v54
  let c0_i32_37 : BitVec 32 := 0#32
  let v56 : BitVec 1 := Scalar.cmpi .ne v55 c0_i32_37
  v56

def k0_cond6 (i : grid0.Coords) : BitVec 1 :=
  let arg0 : BitVec 32 := BitVec.ofNat 32 (i 0).val
  let c0_i32_38 : BitVec 32 := 0#32
  let v57 : BitVec 1 := Scalar.cmpi .sgt arg0 c0_i32_38
  let v58 : BitVec 32 := Scalar.extui v57
  let c0_i32_39 : BitVec 32 := 0#32
  let v59 : BitVec 1 := Scalar.cmpi .ne v58 c0_i32_39
  v59

def k0_cond7 (i : grid0.Coords) : BitVec 1 :=
  let arg0 : BitVec 32 := BitVec.ofNat 32 (i 0).val
  let c0_i32_50 : BitVec 32 := 0#32
  let v74 : BitVec 1 := Scalar.cmpi .eq arg0 c0_i32_50
  let v75 : BitVec 32 := Scalar.extui v74
  let c0_i32_51 : BitVec 32 := 0#32
  let v76 : BitVec 1 := Scalar.cmpi .ne v75 c0_i32_51
  v76

def k0_cond8 (i : grid0.Coords) : BitVec 1 :=
  let arg0 : BitVec 32 := BitVec.ofNat 32 (i 0).val
  let c0_i32_52 : BitVec 32 := 0#32
  let v77 : BitVec 1 := Scalar.cmpi .sgt arg0 c0_i32_52
  let v78 : BitVec 32 := Scalar.extui v77
  let c0_i32_53 : BitVec 32 := 0#32
  let v79 : BitVec 1 := Scalar.cmpi .ne v78 c0_i32_53
  v79

def k0_cond9 (i : grid0.Coords) : BitVec 1 :=
  let arg0 : BitVec 32 := BitVec.ofNat 32 (i 0).val
  let c0_i32_64 : BitVec 32 := 0#32
  let v94 : BitVec 1 := Scalar.cmpi .eq arg0 c0_i32_64
  let v95 : BitVec 32 := Scalar.extui v94
  let c0_i32_65 : BitVec 32 := 0#32
  let v96 : BitVec 1 := Scalar.cmpi .ne v95 c0_i32_65
  v96

def k0_cond10 (i : grid0.Coords) : BitVec 1 :=
  let arg0 : BitVec 32 := BitVec.ofNat 32 (i 0).val
  let c0_i32_66 : BitVec 32 := 0#32
  let v97 : BitVec 1 := Scalar.cmpi .sgt arg0 c0_i32_66
  let v98 : BitVec 32 := Scalar.extui v97
  let c0_i32_67 : BitVec 32 := 0#32
  let v99 : BitVec 1 := Scalar.cmpi .ne v98 c0_i32_67
  v99

def k0_cond11 (i : grid0.Coords) : BitVec 1 :=
  let arg0 : BitVec 32 := BitVec.ofNat 32 (i 0).val
  let c0_i32_78 : BitVec 32 := 0#32
  let v114 : BitVec 1 := Scalar.cmpi .eq arg0 c0_i32_78
  let v115 : BitVec 32 := Scalar.extui v114
  let c0_i32_79 : BitVec 32 := 0#32
  let v116 : BitVec 1 := Scalar.cmpi .ne v115 c0_i32_79
  v116

def k0_cond12 (i : grid0.Coords) : BitVec 1 :=
  let arg0 : BitVec 32 := BitVec.ofNat 32 (i 0).val
  let c0_i32_80 : BitVec 32 := 0#32
  let v117 : BitVec 1 := Scalar.cmpi .sgt arg0 c0_i32_80
  let v118 : BitVec 32 := Scalar.extui v117
  let c0_i32_81 : BitVec 32 := 0#32
  let v119 : BitVec 1 := Scalar.cmpi .ne v118 c0_i32_81
  v119

def k0_cond13 (i : grid0.Coords) : BitVec 1 :=
  let arg0 : BitVec 32 := BitVec.ofNat 32 (i 0).val
  let c0_i32_92 : BitVec 32 := 0#32
  let v134 : BitVec 1 := Scalar.cmpi .eq arg0 c0_i32_92
  let v135 : BitVec 32 := Scalar.extui v134
  let c0_i32_93 : BitVec 32 := 0#32
  let v136 : BitVec 1 := Scalar.cmpi .ne v135 c0_i32_93
  v136

def k0_cond14 (i : grid0.Coords) : BitVec 1 :=
  let arg0 : BitVec 32 := BitVec.ofNat 32 (i 0).val
  let c0_i32_94 : BitVec 32 := 0#32
  let v137 : BitVec 1 := Scalar.cmpi .sgt arg0 c0_i32_94
  let v138 : BitVec 32 := Scalar.extui v137
  let c0_i32_95 : BitVec 32 := 0#32
  let v139 : BitVec 1 := Scalar.cmpi .ne v138 c0_i32_95
  v139

def k0_cond15 (i : grid0.Coords) : BitVec 1 :=
  let arg0 : BitVec 32 := BitVec.ofNat 32 (i 0).val
  let c0_i32_106 : BitVec 32 := 0#32
  let v154 : BitVec 1 := Scalar.cmpi .eq arg0 c0_i32_106
  let v155 : BitVec 32 := Scalar.extui v154
  let c0_i32_107 : BitVec 32 := 0#32
  let v156 : BitVec 1 := Scalar.cmpi .ne v155 c0_i32_107
  v156

def k0_cond16 (i : grid0.Coords) : BitVec 1 :=
  let arg0 : BitVec 32 := BitVec.ofNat 32 (i 0).val
  let c0_i32_108 : BitVec 32 := 0#32
  let v157 : BitVec 1 := Scalar.cmpi .sgt arg0 c0_i32_108
  let v158 : BitVec 32 := Scalar.extui v157
  let c0_i32_109 : BitVec 32 := 0#32
  let v159 : BitVec 1 := Scalar.cmpi .ne v158 c0_i32_109
  v159

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MlpRefIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x8192, .bf16⟩
  | .hbm, ⟨3, _⟩ => ⟨S8192x2048, .bf16⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S8192x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Proof.Tile.lean ====
/-
  The key-tile loops of the attention body. One trip loads the key tile, the value tile and the selection slab of its
  tile and updates the two running softmaxes (selected and sliding window), the second under the body's conditional.
  The trip is stated once (`tileProg`), its effect once (`tileStep`), and every head's loop is an instance.
-/
module

public import proofs.«01_k».proof.Proof.Gen.KernelIdeal.Skeleton
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a tile loop carries: maximum, weight sum and weighted values of the selected softmax, then of the window's. -/
abbrev T6 (F : FTy → Type) : Type :=
  FVec F S256x1 .f32 × FVec F S256x1 .f32 × FVec F S256x128 .f32 × FVec F S256x1 .f32 × FVec F S256x1 .f32 × FVec F S256x128 .f32

/-- Trips of the tile loop at point `i`: one per tile up to the query's own. -/
abbrev Tr (i : grid0.Coords) : ℕ := (k0_t3_loop i).trips

/-- The offsets of tile `k`'s rows at column `col` of the cached keys and values. -/
abbrev offT (i : grid0.Coords) (col : ℕ) (k : Fin (Tr i)) : Fin 2 → ℕ :=
  ![(Scalar.indexCast (Scalar.muli (Scf.iv 0#32 1#32 k) 256#32) : Index).toNat, col]

/-- The body's conditional: the tile is no earlier than two before the query's. -/
abbrev nearW (arg0 c0 : BitVec 32) (i : grid0.Coords) (k : Fin (Tr i)) : BitVec 1 :=
  Scalar.cmpi .ne (Scalar.extui (Scalar.cmpi .sge (Scf.iv c0 1#32 k) (Scalar.subi arg0 2#32)) : BitVec 32) 0#32

/-- One trip's effect on what the loop carries. -/
def tileStep (i : grid0.Coords) (arg0 : BitVec 32) (v3 : IVec S256x1 32) (c0 : BitVec 32) (q : FVec F S256x128 .bf16) (k : Fin (Tr i))
    (kt vt : Vec F S256x128 .bf16) (sel : Vec F S1x256x256 .f32) (a : T6 F) : T6 F :=
  let w : FVec F S256x1 .f32 × FVec F S256x1 .f32 × FVec F S256x128 .f32 :=
    if nearW arg0 c0 i k = 1#1 then
      (k0_pay309 v3 a.2.2.2.1 (k0_pay7 i c0 1#32 k) (k0_pay8 i v3 q c0 1#32 k kt),
        k0_pay312 v3 a.2.2.2.1 a.2.2.2.2.1 (k0_pay7 i c0 1#32 k) (k0_pay8 i v3 q c0 1#32 k kt),
        k0_pay313 v3 a.2.2.2.1 a.2.2.2.2.2 vt (k0_pay7 i c0 1#32 k) (k0_pay8 i v3 q c0 1#32 k kt))
    else (a.2.2.2.1, a.2.2.2.2.1, a.2.2.2.2.2)
  (k0_pay10 i v3 q c0 1#32 k a.1 kt sel, k0_pay13 i v3 q c0 1#32 k a.1 a.2.1 kt sel,
    k0_pay307 vt (k0_pay11 i v3 q c0 1#32 k a.1 kt sel) (k0_pay14 i v3 q c0 1#32 k a.1 a.2.2.1 kt sel),
    w.1, w.2.1, w.2.2)

/-- One trip as a program: three loads, the update, the conditional. -/
def tileProg (i : grid0.Coords) (arg3 : Memref sig .tc .vmem S2048x1024 .bf16) (arg6 : Memref sig .tc .vmem S8x256x256 .f32)
    (arg0 : BitVec 32) (v3 : IVec S256x1 32) (c0 : BitVec 32) (q : FVec F S256x128 .bf16)
    (cK cV : ℕ) (hK : ∀ k a, offT i cK k a + S256x128.size a ≤ S2048x1024.size a)
    (hV : ∀ k a, offT i cV k a + S256x128.size a ≤ S2048x1024.size a) (k : Fin (Tr i)) (a : T6 F) :
    Prog (TpuEff nD τ sig (Elt F) Λ₀ .tc) (T6 F) := do
  let kt : Vec F S256x128 .bf16 ← Prog.lift (.load arg3 (Rect.unit (s := S2048x1024) (offT i cK k) S256x128.size (hK k)).toLoadRect (View.loadsAt_vmem h_S256x128))
  let vt : Vec F S256x128 .bf16 ← Prog.lift (.load arg3 (Rect.unit (s := S2048x1024) (offT i cV k) S256x128.size (hV k)).toLoadRect (View.loadsAt_vmem h_S256x128))
  let sel : Vec F S1x256x256 .f32 ← Prog.lift (.load arg6 (Rect.unit (s := S8x256x256) (k0_off9 i k) S1x256x256.size (k0_off9_inb i k)).toLoadRect (View.loadsAt_vmem h_S1x256x256))
  let w : FVec F S256x1 .f32 × FVec F S256x1 .f32 × FVec F S256x128 .f32 ←
    if _h : nearW arg0 c0 i k = 1#1 then
      pure (k0_pay309 v3 a.2.2.2.1 (k0_pay7 i c0 1#32 k) (k0_pay8 i v3 q c0 1#32 k kt),
        k0_pay312 v3 a.2.2.2.1 a.2.2.2.2.1 (k0_pay7 i c0 1#32 k) (k0_pay8 i v3 q c0 1#32 k kt),
        k0_pay313 v3 a.2.2.2.1 a.2.2.2.2.2 vt (k0_pay7 i c0 1#32 k) (k0_pay8 i v3 q c0 1#32 k kt))
    else pure (a.2.2.2.1, a.2.2.2.2.1, a.2.2.2.2.2)
  pure (k0_pay10 i v3 q c0 1#32 k a.1 kt sel, k0_pay13 i v3 q c0 1#32 k a.1 a.2.1 kt sel,
    k0_pay307 vt (k0_pay11 i v3 q c0 1#32 k a.1 kt sel) (k0_pay14 i v3 q c0 1#32 k a.1 a.2.2.1 kt sel),
    w.1, w.2.1, w.2.2)

/-- What the loop carries before trip `n`, the buffers at `f3` and `f6`. -/
def tileIter (i : grid0.Coords) (arg3 : Memref sig .tc .vmem S2048x1024 .bf16) (arg6 : Memref sig .tc .vmem S8x256x256 .f32)
    (arg0 : BitVec 32) (v3 : IVec S256x1 32) (c0 : BitVec 32) (q : FVec F S256x128 .bf16)
    (cK cV : ℕ) (hK : ∀ k a, offT i cK k a + S256x128.size a ≤ S2048x1024.size a)
    (hV : ∀ k a, offT i cV k a + S256x128.size a ≤ S2048x1024.size a)
    (f3 : BufTy.Contents (Elt F) arg3.view.ty) (f6 : BufTy.Contents (Elt F) arg6.view.ty) (init : T6 F) : ℕ → T6 F
  | 0 => init
  | n + 1 => if h : n < Tr i then
      tileStep i arg0 v3 c0 q ⟨n, h⟩
        (arg3.view.readAt (Elt F) (Rect.unit (s := S2048x1024) (offT i cK ⟨n, h⟩) S256x128.size (hK ⟨n, h⟩)).toLoadRect f3)
        (arg3.view.readAt (Elt F) (Rect.unit (s := S2048x1024) (offT i cV ⟨n, h⟩) S256x128.size (hV ⟨n, h⟩)).toLoadRect f3)
        (arg6.view.readAt (Elt F) (Rect.unit (s := S8x256x256) (k0_off9 i ⟨n, h⟩) S1x256x256.size (k0_off9_inb i ⟨n, h⟩)).toLoadRect f6)
        (tileIter i arg3 arg6 arg0 v3 c0 q cK cV hK hV f3 f6 init n)
    else tileIter i arg3 arg6 arg0 v3 c0 q cK cV hK hV f3 f6 init n

/-- The invariant: the two buffers as they were, the carried value the iterate. -/
abbrev tileInv (c : Dev nD) (i : grid0.Coords) (arg3 : Memref sig .tc .vmem S2048x1024 .bf16) (arg6 : Memref sig .tc .vmem S8x256x256 .f32)
    (arg0 : BitVec 32) (v3 : IVec S256x1 32) (c0 : BitVec 32) (q : FVec F S256x128 .bf16)
    (cK cV : ℕ) (hK : ∀ k a, offT i cK k a + S256x128.size a ≤ S2048x1024.size a)
    (hV : ∀ k a, offT i cV k a + S256x128.size a ≤ S2048x1024.size a)
    (f3 : BufTy.Contents (Elt F) arg3.view.ty) (f6 : BufTy.Contents (Elt F) arg6.view.ty) (init : T6 F) (n : ℕ) (a : T6 F) : sProp 𝕄 :=
  iprop((arg3.view.loc (c : Thread nD τ) ↦[arg3.view.set]{fullShare} f3) ∗ (arg6.view.loc (c : Thread nD τ) ↦[arg6.view.set]{fullShare} f6)
    ∗ ⌜a = tileIter i arg3 arg6 arg0 v3 c0 q cK cV hK hV f3 f6 init n⌝)

theorem tile_step (c : Dev nD) (E : Set ℕ) (i : grid0.Coords) (arg3 : Memref sig .tc .vmem S2048x1024 .bf16) (arg6 : Memref sig .tc .vmem S8x256x256 .f32)
    (arg0 : BitVec 32) (v3 : IVec S256x1 32) (c0 : BitVec 32) (q : FVec F S256x128 .bf16)
    (cK cV : ℕ) (hK : ∀ k a, offT i cK k a + S256x128.size a ≤ S2048x1024.size a)
    (hV : ∀ k a, offT i cV k a + S256x128.size a ≤ S2048x1024.size a)
    (f3 : BufTy.Contents (Elt F) arg3.view.ty) (f6 : BufTy.Contents (Elt F) arg6.view.ty) (init : T6 F) (k : Fin (Tr i)) (a : T6 F) :
    tileInv c i arg3 arg6 arg0 v3 c0 q cK cV hK hV f3 f6 init k.val a
      ⊢ wp frame (wpE (defs₀ (F := F)) Variants.none (c : Thread nD τ) none) E (tileProg i arg3 arg6 arg0 v3 c0 q cK cV hK hV k a)
          (tileInv c i arg3 arg6 arg0 v3 c0 q cK cV hK hV f3 f6 init (k.val + 1)) := by
  unfold tileProg tileInv
  iintro ⟨H3, H6, %ha⟩
  subst ha
  by_cases hc : nearW arg0 c0 i k = 1#1
  · sl_exec (disch := exact hc)
    sl_step
    isplitl [H3]; · iexact H3
    isplitl [H6]; · iexact H6
    ipureintro
    rw [tileIter, dif_pos k.isLt]
    unfold tileStep
    rw [if_pos hc]
  · sl_exec (disch := exact hc)
    sl_step
    isplitl [H3]; · iexact H3
    isplitl [H6]; · iexact H6
    ipureintro
    rw [tileIter, dif_pos k.isLt]
    unfold tileStep
    rw [if_neg hc]

/-! ## The selection loop: each tile's slab stored once -/

/-- The slab of a trip: the selected blocks' row mask spread over the trip's 256 key columns. -/
def slabPay (i : grid0.Coords) (sel : FVec F S256x128 .f32) (k : Fin (Tr i)) : FVec F S1x256x256 .f32 :=
  let arg7 : BitVec 32 := Scf.iv 0#32 1#32 k
  let w48 : BitVec 32 := Scalar.muli arg7 256#32
  have w49 : IVec S128x256 32 := iota .tc S128x256 32 [1] iota_S128x256_d1_w32
  have w50 : IVec S128x256 32 := broadcast S128x256 w48
  have w51 : IVec S128x256 32 := addi w50 w49
  have w52 : IVec S128x256 32 := broadcast S128x256 64#32
  have w53 : IVec S128x256 32 := divsi w51 w52
  have w54 : IVec S128x256 32 := broadcast S128x256 0#32
  have w55 : IVec S128x256 1 := cmpi .sgt w51 w54
  have w56 : IVec S128x256 32 := extui 32 w55 natLt_1_32
  have w57 : IVec S128x256 32 := broadcast S128x256 0#32
  have w58 : IVec S128x256 1 := cmpi .slt w51 w57
  have w59 : IVec S128x256 32 := extui 32 w58 natLt_1_32
  have w60 : IVec S128x256 32 := subi w56 w59
  let w61 : BitVec 1 := Scalar.cmpi .sgt 64#32 0#32
  let w62 : BitVec 32 := Scalar.extui w61
  let w63 : BitVec 1 := Scalar.cmpi .slt 64#32 0#32
  let w64 : BitVec 32 := Scalar.extui w63
  let w65 : BitVec 32 := Scalar.subi w62 w64
  have w66 : IVec S128x256 32 := broadcast S128x256 w65
  have w67 : IVec S128x256 1 := cmpi .ne w60 w66
  have w68 : IVec S128x256 32 := broadcast S128x256 64#32
  have w69 : IVec S128x256 32 := remsi w51 w68
  have w70 : IVec S128x256 32 := broadcast S128x256 0#32
  have w71 : IVec S128x256 1 := cmpi .ne w69 w70
  have w72 : IVec S128x256 1 := andi w67 w71
  have w73 : IVec S128x256 32 := broadcast S128x256 1#32
  have w74 : IVec S128x256 32 := subi w53 w73
  have w75 : IVec S128x256 32 := select w72 w74 w53
  have w76 : IVec S128x256 32 := iota .tc S128x256 32 [0] iota_S128x256_d0_w32
  have w77 : IVec S128x256 1 := cmpi .eq w75 w76
  have cst_540 : F .f32 := Scalar.ofBits .f32 0x3F800000#32
  have cst_541 : F .f32 := Scalar.ofBits .f32 0x00000000#32
  have w78 : FVec F S128x256 .f32 := broadcast S128x256 cst_540
  have w79 : FVec F S128x256 .f32 := broadcast S128x256 cst_541
  have w80 : FVec F S128x256 .f32 := select w77 w78 w79
  have w81 : FVec F S256x128 .bf16 := truncf .bf16 sel bitsLt_bf16_f32
  have w82 : FVec F S128x256 .bf16 := truncf .bf16 w80 bitsLt_bf16_f32
  have cst_542 : FVec F S256x256 .f32 := constant S256x256 .f32 0x00000000#32
  have w83 : FVec F S256x256 .f32 := matmul dot_S256x128_S128x256_S256x256_1_0_0_1_n_n none w81 w82 cst_542
  have w87 : FVec F S1x256x256 .f32 := shapeCast S1x256x256 w83 shapeCasts_S256x256_S1x256x256
  w87

/-- One trip: the slab is loaded and stored whole. -/
def slabProg (i : grid0.Coords) (arg6 : Memref sig .tc .vmem S8x256x256 .f32) (pay : Fin (Tr i) → FVec F S1x256x256 .f32)
    (k : Fin (Tr i)) (_a : BitVec 32) : Prog (TpuEff nD τ sig (Elt F) Λ₀ .tc) (BitVec 32) := do
  let _ : Vec F S1x256x256 .f32 ← Prog.lift (.load arg6 (Rect.unit (s := S8x256x256) (k0_off9 i k) S1x256x256.size (k0_off9_inb i k)).toLoadRect (View.loadsAt_vmem h_S1x256x256))
  Prog.lift (.store arg6 (Rect.unit (s := S8x256x256) (k0_off9 i k) S1x256x256.size (k0_off9_inb i k)) (pay k) Finset.univ (View.stores_vmem_bits_univ h_S1x256x256 rfl) (.inl rfl))
  pure 0#32

/-- The slabs of the trips before `n`, last first. -/
def slabs (i : grid0.Coords) (pay : Fin (Tr i) → FVec F S1x256x256 .f32) : ℕ → List (View.Piece (Elt F) S8x256x256 .f32)
  | 0 => []
  | n + 1 => if h : n < Tr i then
      ⟨Rect.unit (s := S8x256x256) (k0_off9 i ⟨n, h⟩) S1x256x256.size (k0_off9_inb i ⟨n, h⟩), pay ⟨n, h⟩⟩ :: slabs i pay n
    else slabs i pay n

/-- The invariant: the slabs of the trips before over the entry contents. -/
abbrev slabInv (c : Dev nD) (i : grid0.Coords) (arg6 : Memref sig .tc .vmem S8x256x256 .f32) (pay : Fin (Tr i) → FVec F S1x256x256 .f32)
    (g6 : BufTy.Contents (Elt F) arg6.view.ty) (n : ℕ) (_a : BitVec 32) : sProp 𝕄 :=
  iprop(∃ f, (arg6.view.loc (c : Thread nD τ) ↦[arg6.view.set]{fullShare} f) ∗ ⌜f = arg6.view.writes (Elt F) g6 (slabs i pay n)⌝)

theorem slab_step (c : Dev nD) (E : Set ℕ) (i : grid0.Coords) (arg6 : Memref sig .tc .vmem S8x256x256 .f32) (pay : Fin (Tr i) → FVec F S1x256x256 .f32)
    (g6 : BufTy.Contents (Elt F) arg6.view.ty) (k : Fin (Tr i)) (a : BitVec 32) :
    slabInv c i arg6 pay g6 k.val a
      ⊢ wp frame (wpE (defs₀ (F := F)) Variants.none (c : Thread nD τ) none) E (slabProg i arg6 pay k a) (slabInv c i arg6 pay g6 (k.val + 1)) := by
  unfold slabProg slabInv
  iintro ⟨%f, H6, %hf⟩
  subst hf
  sl_exec
  sl_step
  iexists _
  isplitl [H6]; · iexact H6
  ipureintro
  rw [slabs, dif_pos k.isLt]

end Cert.KernelIdeal.Attn

end
-- ==== Proof.Loops.lean ====
/-
  The loops of the attention body as the run meets them: each head's tile loop an instance of the one trip of
  `Tile.lean`, each group's selection loop of the one slab trip.
-/
module

public import proofs.«01_k».proof.Proof.Tile
public import proofs.«01_k».proof.Proof.Gen.KernelIdeal.Points
public import Idealize.ShloMosaic.Lib.Exec
public import Idealize.ShloMosaic.Lib.Tactic
public import Idealize.ShloMosaic.Lib.LoopRemainder
public import Idealize.ShloMosaic.Lib.Pipeline.Kit

@[expose] public section

set_option warn.classDefReducibility false
set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Every tile's rows lie in the cached keys and values. -/
theorem offT_inb (i : grid0.Coords) (col : ℕ) (h : col + 128 ≤ 1024) (k : Fin (Tr i)) (a : Fin 2) :
    offT i col k a + S256x128.size a ≤ S2048x1024.size a := by
  have h7 := k0_off7_inb i k a
  match a with
  | ⟨0, _⟩ => exact h7
  | ⟨1, _⟩ => exact h

@[sl_loop] def loop_t1 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v79 : FVec F S256x128 .f32) (v349 : IVec S256x128 1) (v351 : IVec S256x128 1)
    (g6 : BufTy.Contents (Elt F) arg6.view.ty) (init : BitVec 32) :
    LoopInv (M := 𝕄) frame (wpE (defs₀ (F := F)) Variants.none (c : Thread nD τ) none) E (k0_t1_loop i).lb (k0_t1_loop i).ub (k0_t1_loop i).st (k0_t1_ok i) init
      (k0_t1_body (F := F) i arg1 harg1 arg2 harg2 arg3 harg3 arg4 harg4 arg5 harg5 arg6 harg6 arg0 v0 v3 v79 v349 v351) where
  inv := slabInv c i arg6 (slabPay i (k0_pay300 (F := F) v349 v351)) g6
  step k a := slab_step c E i arg6 (slabPay i (k0_pay300 (F := F) v349 v351)) g6 k a

@[sl_loop] def loop_t3 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v79 : FVec F S256x128 .f32) (v349 : IVec S256x128 1) (v351 : IVec S256x128 1) (v364 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t3_loop i).lb (k0_t3_loop i).ub (k0_t3_loop i).st (k0_t3_ok i) init
      (k0_t3_body (F := F) i arg1 harg1 arg2 harg2 arg3 harg3 arg4 harg4 arg5 harg5 arg6 harg6 arg0 v0 v3 v79 v349 v351 v364) where
  inv := tileInv c i arg3 arg6 arg0 v3 0#32 (k0_pay303 v364) 0 512 (offT_inb i 0 (by decide)) (offT_inb i 512 (by decide)) f3 f6 init
  step k a := tile_step c E i arg3 arg6 arg0 v3 0#32 (k0_pay303 v364) 0 512 (offT_inb i 0 (by decide)) (offT_inb i 512 (by decide)) f3 f6 init k a

@[sl_loop] def loop_t5 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v378 : FVec F S256x128 .f32) (v380 : FVec F S256x128 .f32) (v391 : FVec F S256x128 .f32) (v418 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t5_loop i).lb (k0_t5_loop i).ub (k0_t5_loop i).st (k0_t5_ok i) init
      (k0_t5_body (F := F) i arg1 harg1 arg2 harg2 arg3 harg3 arg4 harg4 arg5 harg5 arg6 harg6 arg0 v0 v3 v378 v380 v391 v418) where
  inv := tileInv c i arg3 arg6 arg0 v3 0#32 (k0_pay325 v418) 0 512 (offT_inb i 0 (by decide)) (offT_inb i 512 (by decide)) f3 f6 init
  step k a := tile_step c E i arg3 arg6 arg0 v3 0#32 (k0_pay325 v418) 0 512 (offT_inb i 0 (by decide)) (offT_inb i 512 (by decide)) f3 f6 init k a

@[sl_loop] def loop_t7 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v121 : FVec F S256x128 .f32) (v473 : FVec F S256x128 .bf16) (v474 : FVec F S256x1 .f32) (cst_101 : F .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t7_loop i).lb (k0_t7_loop i).ub (k0_t7_loop i).st (k0_t7_ok i) init
      (k0_t7_body (F := F) i arg1 harg1 arg2 harg2 arg3 harg3 arg4 harg4 arg5 harg5 arg6 harg6 arg0 v0 v3 v121 v473 v474 cst_101) where
  inv := tileInv c i arg3 arg6 arg0 v3 0#32 v473 0 512 (offT_inb i 0 (by decide)) (offT_inb i 512 (by decide)) f3 f6 init
  step k a := tile_step c E i arg3 arg6 arg0 v3 0#32 v473 0 512 (offT_inb i 0 (by decide)) (offT_inb i 512 (by decide)) f3 f6 init k a

@[sl_loop] def loop_t9 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v142 : FVec F S256x128 .f32) (v488 : FVec F S256x128 .f32) (v511 : FVec F S256x128 .f32) (v516 : FVec F S256x1 .f32) (v517 : FVec F S256x1 .f32) (v526 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t9_loop i).lb (k0_t9_loop i).ub (k0_t9_loop i).st (k0_t9_ok i) init
      (k0_t9_body (F := F) i arg1 harg1 arg2 harg2 arg3 harg3 arg4 harg4 arg5 harg5 arg6 harg6 arg0 v0 v3 v142 v488 v511 v516 v517 v526) where
  inv := tileInv c i arg3 arg6 arg0 v3 0#32 (k0_pay368 v526) 0 512 (offT_inb i 0 (by decide)) (offT_inb i 512 (by decide)) f3 f6 init
  step k a := tile_step c E i arg3 arg6 arg0 v3 0#32 (k0_pay368 v526) 0 512 (offT_inb i 0 (by decide)) (offT_inb i 512 (by decide)) f3 f6 init k a

@[sl_loop] def loop_t11 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v55 : IVec S256x128 32) (v709 : FVec F S256x128 .f32) (v860 : IVec S256x128 32) (v862 : FVec F S256x128 .f32)
    (g6 : BufTy.Contents (Elt F) arg6.view.ty) (init : BitVec 32) :
    LoopInv (M := 𝕄) frame (wpE (defs₀ (F := F)) Variants.none (c : Thread nD τ) none) E (k0_t11_loop i).lb (k0_t11_loop i).ub (k0_t11_loop i).st (k0_t11_ok i) init
      (k0_t11_body (F := F) i arg1 harg1 arg2 harg2 arg3 harg3 arg4 harg4 arg5 harg5 arg6 harg6 arg0 v0 v3 v55 v709 v860 v862) where
  inv := slabInv c i arg6 (slabPay i (k0_pay415 v55 v709 v860 v862)) g6
  step k a := slab_step c E i arg6 (slabPay i (k0_pay415 v55 v709 v860 v862)) g6 k a

@[sl_loop] def loop_t13 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v55 : IVec S256x128 32) (v709 : FVec F S256x128 .f32) (v860 : IVec S256x128 32) (v862 : FVec F S256x128 .f32) (v887 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t13_loop i).lb (k0_t13_loop i).ub (k0_t13_loop i).st (k0_t13_ok i) init
      (k0_t13_body (F := F) i arg1 harg1 arg2 harg2 arg3 harg3 arg4 harg4 arg5 harg5 arg6 harg6 arg0 v0 v3 v55 v709 v860 v862 v887) where
  inv := tileInv c i arg3 arg6 arg0 v3 0#32 (k0_pay418 v887) 128 640 (offT_inb i 128 (by decide)) (offT_inb i 640 (by decide)) f3 f6 init
  step k a := tile_step c E i arg3 arg6 arg0 v3 0#32 (k0_pay418 v887) 128 640 (offT_inb i 128 (by decide)) (offT_inb i 640 (by decide)) f3 f6 init k a

@[sl_loop] def loop_t15 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v623 : FVec F S256x128 .f32) (v942 : FVec F S256x128 .bf16) (v943 : FVec F S256x1 .f32) (v944 : FVec F S256x1 .f32) (v945 : FVec F S256x128 .f32) (c1_i32_214 : BitVec 32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t15_loop i).lb (k0_t15_loop i).ub (k0_t15_loop i).st (k0_t15_ok i) init
      (k0_t15_body (F := F) i arg1 harg1 arg2 harg2 arg3 harg3 arg4 harg4 arg5 harg5 arg6 harg6 arg0 v0 v3 v623 v942 v943 v944 v945 c1_i32_214) where
  inv := tileInv c i arg3 arg6 arg0 v3 0#32 v942 128 640 (offT_inb i 128 (by decide)) (offT_inb i 640 (by decide)) f3 f6 init
  step k a := tile_step c E i arg3 arg6 arg0 v3 0#32 v942 128 640 (offT_inb i 128 (by decide)) (offT_inb i 640 (by decide)) f3 f6 init k a

@[sl_loop] def loop_t17 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v644 : FVec F S256x128 .f32) (v957 : FVec F S256x128 .f32) (v980 : FVec F S256x128 .f32) (v989 : FVec F S256x1 .f32) (v995 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t17_loop i).lb (k0_t17_loop i).ub (k0_t17_loop i).st (k0_t17_ok i) init
      (k0_t17_body (F := F) i arg1 harg1 arg2 harg2 arg3 harg3 arg4 harg4 arg5 harg5 arg6 harg6 arg0 v0 v3 v644 v957 v980 v989 v995) where
  inv := tileInv c i arg3 arg6 arg0 v3 0#32 (k0_pay461 v995) 128 640 (offT_inb i 128 (by decide)) (offT_inb i 640 (by decide)) f3 f6 init
  step k a := tile_step c E i arg3 arg6 arg0 v3 0#32 (k0_pay461 v995) 128 640 (offT_inb i 128 (by decide)) (offT_inb i 640 (by decide)) f3 f6 init k a

@[sl_loop] def loop_t19 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1009 : FVec F S256x128 .f32) (v1011 : FVec F S256x128 .f32) (v1022 : FVec F S256x128 .f32) (v1029 : FVec F S256x1 .f32) (cst_244 : F .f32) (v1049 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t19_loop i).lb (k0_t19_loop i).ub (k0_t19_loop i).st (k0_t19_ok i) init
      (k0_t19_body (F := F) i arg1 harg1 arg2 harg2 arg3 harg3 arg4 harg4 arg5 harg5 arg6 harg6 arg0 v0 v3 v1009 v1011 v1022 v1029 cst_244 v1049) where
  inv := tileInv c i arg3 arg6 arg0 v3 0#32 (k0_pay484 v1049) 128 640 (offT_inb i 128 (by decide)) (offT_inb i 640 (by decide)) f3 f6 init
  step k a := tile_step c E i arg3 arg6 arg0 v3 0#32 (k0_pay484 v1049) 128 640 (offT_inb i 128 (by decide)) (offT_inb i 640 (by decide)) f3 f6 init k a

@[sl_loop] def loop_t21 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v55 : IVec S256x128 32) (v1232 : FVec F S256x128 .f32) (v1368 : IVec S256x128 32) (v1371 : IVec S256x128 1)
    (g6 : BufTy.Contents (Elt F) arg6.view.ty) (init : BitVec 32) :
    LoopInv (M := 𝕄) frame (wpE (defs₀ (F := F)) Variants.none (c : Thread nD τ) none) E (k0_t21_loop i).lb (k0_t21_loop i).ub (k0_t21_loop i).st (k0_t21_ok i) init
      (k0_t21_body (F := F) i arg1 harg1 arg2 harg2 arg3 harg3 arg4 harg4 arg5 harg5 arg6 harg6 arg0 v0 v55 v1232 v1368 v1371) where
  inv := slabInv c i arg6 (slabPay i (k0_pay530 v55 v1232 v1368 v1371)) g6
  step k a := slab_step c E i arg6 (slabPay i (k0_pay530 v55 v1232 v1368 v1371)) g6 k a

@[sl_loop] def loop_t23 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1125 : FVec F S256x128 .f32) (v1411 : FVec F S256x128 .bf16) (v1412 : FVec F S256x1 .f32) (v1413 : FVec F S256x1 .f32) (v1414 : FVec F S256x128 .f32) (c0_i32_326 : BitVec 32) (v1416 : BitVec 32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t23_loop i).lb (k0_t23_loop i).ub (k0_t23_loop i).st (k0_t23_ok i) init
      (k0_t23_body (F := F) i arg1 harg1 arg2 harg2 arg3 harg3 arg4 harg4 arg5 harg5 arg6 harg6 arg0 v0 v3 v1125 v1411 v1412 v1413 v1414 c0_i32_326 v1416) where
  inv := tileInv c i arg3 arg6 arg0 v3 c0_i32_326 v1411 256 768 (offT_inb i 256 (by decide)) (offT_inb i 768 (by decide)) f3 f6 init
  step k a := tile_step c E i arg3 arg6 arg0 v3 c0_i32_326 v1411 256 768 (offT_inb i 256 (by decide)) (offT_inb i 768 (by decide)) f3 f6 init k a

@[sl_loop] def loop_t25 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1146 : FVec F S256x128 .f32) (v1461 : FVec F S256x128 .f32) (v1464 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t25_loop i).lb (k0_t25_loop i).ub (k0_t25_loop i).st (k0_t25_ok i) init
      (k0_t25_body (F := F) i arg1 harg1 arg2 harg2 arg3 harg3 arg4 harg4 arg5 harg5 arg6 harg6 arg0 v0 v3 v1146 v1461 v1464) where
  inv := tileInv c i arg3 arg6 arg0 v3 0#32 (k0_pay552 v1464) 256 768 (offT_inb i 256 (by decide)) (offT_inb i 768 (by decide)) f3 f6 init
  step k a := tile_step c E i arg3 arg6 arg0 v3 0#32 (k0_pay552 v1464) 256 768 (offT_inb i 256 (by decide)) (offT_inb i 768 (by decide)) f3 f6 init k a

@[sl_loop] def loop_t27 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1480 : FVec F S256x128 .f32) (v1491 : FVec F S256x128 .f32) (v1502 : FVec F S256x128 .f32) (v1518 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t27_loop i).lb (k0_t27_loop i).ub (k0_t27_loop i).st (k0_t27_ok i) init
      (k0_t27_body (F := F) i arg1 harg1 arg2 harg2 arg3 harg3 arg4 harg4 arg5 harg5 arg6 harg6 arg0 v0 v3 v1480 v1491 v1502 v1518) where
  inv := tileInv c i arg3 arg6 arg0 v3 0#32 (k0_pay574 v1518) 256 768 (offT_inb i 256 (by decide)) (offT_inb i 768 (by decide)) f3 f6 init
  step k a := tile_step c E i arg3 arg6 arg0 v3 0#32 (k0_pay574 v1518) 256 768 (offT_inb i 256 (by decide)) (offT_inb i 768 (by decide)) f3 f6 init k a

@[sl_loop] def loop_t29 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1167 : FVec F S256x128 .f32) (v1532 : FVec F S256x128 .f32) (v1534 : FVec F S256x128 .f32) (v1541 : FVec F S256x1 .f32) (v1542 : FVec F S256x1 .f32) (v1572 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t29_loop i).lb (k0_t29_loop i).ub (k0_t29_loop i).st (k0_t29_ok i) init
      (k0_t29_body (F := F) i arg1 harg1 arg2 harg2 arg3 harg3 arg4 harg4 arg5 harg5 arg6 harg6 arg0 v0 v3 v1167 v1532 v1534 v1541 v1542 v1572) where
  inv := tileInv c i arg3 arg6 arg0 v3 0#32 (k0_pay597 v1572) 256 768 (offT_inb i 256 (by decide)) (offT_inb i 768 (by decide)) f3 f6 init
  step k a := tile_step c E i arg3 arg6 arg0 v3 0#32 (k0_pay597 v1572) 256 768 (offT_inb i 256 (by decide)) (offT_inb i 768 (by decide)) f3 f6 init k a

@[sl_loop] def loop_t31 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v55 : IVec S256x128 32) (v1755 : FVec F S256x128 .f32) (v1876 : IVec S256x128 32) (v1880 : IVec S256x128 32)
    (g6 : BufTy.Contents (Elt F) arg6.view.ty) (init : BitVec 32) :
    LoopInv (M := 𝕄) frame (wpE (defs₀ (F := F)) Variants.none (c : Thread nD τ) none) E (k0_t31_loop i).lb (k0_t31_loop i).ub (k0_t31_loop i).st (k0_t31_ok i) init
      (k0_t31_body (F := F) i arg1 harg1 arg2 harg2 arg3 harg3 arg4 harg4 arg5 harg5 arg6 harg6 arg0 v0 v55 v1755 v1876 v1880) where
  inv := slabInv c i arg6 (slabPay i (k0_pay635 v55 v1755 v1876 v1880)) g6
  step k a := slab_step c E i arg6 (slabPay i (k0_pay635 v55 v1755 v1876 v1880)) g6 k a

@[sl_loop] def loop_t33 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1648 : FVec F S256x128 .f32) (v1933 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t33_loop i).lb (k0_t33_loop i).ub (k0_t33_loop i).st (k0_t33_ok i) init
      (k0_t33_body (F := F) i arg1 harg1 arg2 harg2 arg3 harg3 arg4 harg4 arg5 harg5 arg6 harg6 arg0 v0 v3 v1648 v1933) where
  inv := tileInv c i arg3 arg6 arg0 v3 0#32 (k0_pay638 v1933) 384 896 (offT_inb i 384 (by decide)) (offT_inb i 896 (by decide)) f3 f6 init
  step k a := tile_step c E i arg3 arg6 arg0 v3 0#32 (k0_pay638 v1933) 384 896 (offT_inb i 384 (by decide)) (offT_inb i 896 (by decide)) f3 f6 init k a

@[sl_loop] def loop_t35 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1669 : FVec F S256x128 .f32) (v1949 : FVec F S256x128 .f32) (v1972 : FVec F S256x128 .f32) (v1974 : Vec F S256x1 .f32) (v1987 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t35_loop i).lb (k0_t35_loop i).ub (k0_t35_loop i).st (k0_t35_ok i) init
      (k0_t35_body (F := F) i arg1 harg1 arg2 harg2 arg3 harg3 arg4 harg4 arg5 harg5 arg6 harg6 arg0 v0 v3 v1669 v1949 v1972 v1974 v1987) where
  inv := tileInv c i arg3 arg6 arg0 v3 0#32 (k0_pay659 v1987) 384 896 (offT_inb i 384 (by decide)) (offT_inb i 896 (by decide)) f3 f6 init
  step k a := tile_step c E i arg3 arg6 arg0 v3 0#32 (k0_pay659 v1987) 384 896 (offT_inb i 384 (by decide)) (offT_inb i 896 (by decide)) f3 f6 init k a

@[sl_loop] def loop_t37 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v2001 : FVec F S256x128 .f32) (v2003 : FVec F S256x128 .f32) (v2014 : FVec F S256x128 .f32) (v2041 : Vec F S256x128 .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t37_loop i).lb (k0_t37_loop i).ub (k0_t37_loop i).st (k0_t37_ok i) init
      (k0_t37_body (F := F) i arg1 harg1 arg2 harg2 arg3 harg3 arg4 harg4 arg5 harg5 arg6 harg6 arg0 v0 v3 v2001 v2003 v2014 v2041) where
  inv := tileInv c i arg3 arg6 arg0 v3 0#32 (k0_pay681 v2041) 384 896 (offT_inb i 384 (by decide)) (offT_inb i 896 (by decide)) f3 f6 init
  step k a := tile_step c E i arg3 arg6 arg0 v3 0#32 (k0_pay681 v2041) 384 896 (offT_inb i 384 (by decide)) (offT_inb i 896 (by decide)) f3 f6 init k a

@[sl_loop] def loop_t39 (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (arg0 : BitVec 32) (v0 : BitVec 32) (v3 : IVec S256x1 32) (v1711 : FVec F S256x128 .f32) (v2096 : FVec F S256x128 .bf16) (v2097 : FVec F S256x1 .f32) (cst_514 : F .f32)
    (f3 : BufTy.Contents (Elt F) arg3.view.ty) (f6 : BufTy.Contents (Elt F) arg6.view.ty) (init : T6 F) :
    LoopInv (M := 𝕄) frame (wpE (defs₀ (F := F)) Variants.none (c : Thread nD τ) none) E (k0_t39_loop i).lb (k0_t39_loop i).ub (k0_t39_loop i).st (k0_t39_ok i) init
      (k0_t39_body (F := F) i arg1 harg1 arg2 harg2 arg3 harg3 arg4 harg4 arg5 harg5 arg6 harg6 arg0 v0 v3 v1711 v2096 v2097 cst_514) where
  inv := tileInv c i arg3 arg6 arg0 v3 0#32 v2096 384 896 (offT_inb i 384 (by decide)) (offT_inb i 896 (by decide)) f3 f6 init
  step k a := tile_step c E i arg3 arg6 arg0 v3 0#32 v2096 384 896 (offT_inb i 384 (by decide)) (offT_inb i 896 (by decide)) f3 f6 init k a

end Cert.KernelIdeal.Attn

end
-- ==== Proof.Init.lean ====
/-
  What the first point leaves in the scratch buffers, as functions of the projected rows, and the run of the body's
  first part, which fills them there and finds them filled at every later point.
-/
module

public import proofs.«01_k».proof.Proof.Loops
public import Idealize.ShloMosaic.Lib.WholeRead
public import Idealize.ShloMosaic.Lib.Ring
public import proofs.«01_k».proof.Proof.Gen.KernelIdeal.Frame
public import Idealize.ShloMosaic.Lib.Pipeline.FrameBody

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The box of `x` a load reads. -/
abbrev box {s : Shape} {e : EltTy} (x : s.Idx → Elt F e) (R : Rect s) : R.toLoadRect.shape.Idx → Elt F e := fun j => x (R.toLoadRect.idx j)

theorem readAt_box {s : Shape} {e : EltTy} {m : Memref sig .tc .vmem s e} (h : m.IsWhole) (x : s.Idx → Elt F e) (R : Rect s) :
    m.view.readAt (Elt F) R.toLoadRect (h.unread x) = box x R := funext fun _ => h.readAt_unread x _ _

/-- The keys and values of all groups, as the first point keeps them. -/
def KV (x : Vec F S2048x3200 .f32) : Vec F S2048x1024 .bf16 :=
  k0_pay2 (box x (Rect.unit (s := S2048x3200) ![0, 2048] S2048x1024.size inb_S2048x3200_S2048x1024_0_2048))

/-- The block means of the keys, group after group. -/
def KC (x : Vec F S2048x3200 .f32) : Vec F S512x128 .f32 :=
  View.canon [⟨Rect.unit (s := S512x128) ![384, 0] S128x128.size inb_S512x128_S128x128_384_0, k0_pay268 k0_pay3 (box x (Rect.unit (s := S2048x3200) ![0, 2432] S2048x128.size inb_S2048x3200_S2048x128_0_2432))⟩,
    ⟨Rect.unit (s := S512x128) ![256, 0] S128x128.size inb_S512x128_S128x128_256_0, k0_pay266 k0_pay3 (box x (Rect.unit (s := S2048x3200) ![0, 2304] S2048x128.size inb_S2048x3200_S2048x128_0_2304))⟩,
    ⟨Rect.unit (s := S512x128) ![128, 0] S128x128.size inb_S512x128_S128x128_128_0, k0_pay264 (k0_pay6 (box x (Rect.unit (s := S2048x3200) ![0, 2176] S2048x128.size inb_S2048x3200_S2048x128_0_2176)))⟩,
    ⟨Rect.unit (s := S512x128) ![0, 0] S128x128.size inb_S512x128_S128x128_0_0, k0_pay4 (box x (Rect.unit (s := S2048x3200) ![0, 2048] S2048x128.size inb_S2048x3200_S2048x128_0_2048))⟩]

/-- The block means of the values, group after group. -/
def VC (x : Vec F S2048x3200 .f32) : Vec F S512x128 .f32 :=
  View.canon [⟨Rect.unit (s := S512x128) ![384, 0] S128x128.size inb_S512x128_S128x128_384_0, k0_pay269 k0_pay3 (box x (Rect.unit (s := S2048x3200) ![0, 2944] S2048x128.size inb_S2048x3200_S2048x128_0_2944))⟩,
    ⟨Rect.unit (s := S512x128) ![256, 0] S128x128.size inb_S512x128_S128x128_256_0, k0_pay267 k0_pay3 (box x (Rect.unit (s := S2048x3200) ![0, 2816] S2048x128.size inb_S2048x3200_S2048x128_0_2816))⟩,
    ⟨Rect.unit (s := S512x128) ![128, 0] S128x128.size inb_S512x128_S128x128_128_0, k0_pay265 k0_pay3 (box x (Rect.unit (s := S2048x3200) ![0, 2688] S2048x128.size inb_S2048x3200_S2048x128_0_2688))⟩,
    ⟨Rect.unit (s := S512x128) ![0, 0] S128x128.size inb_S512x128_S128x128_0_0, k0_pay5 (box x (Rect.unit (s := S2048x3200) ![0, 2560] S2048x128.size inb_S2048x3200_S2048x128_0_2560))⟩]

theorem first_iff (i : grid0.Coords) :
    Scalar.cmpi .ne (Scalar.extui (Scalar.cmpi .eq (BitVec.ofNat 32 (i 0).val) 0#32) : BitVec 32) 0#32 = 1#1 ↔ (i 0).val = 0 := by
  have h : ∀ n : Fin 8, Scalar.cmpi .ne (Scalar.extui (Scalar.cmpi .eq (BitVec.ofNat 32 n.val) 0#32) : BitVec 32) 0#32 = 1#1 ↔ n.val = 0 := by decide +kernel
  exact h (i 0)

theorem init_run (c : Dev nD) (E : Set ℕ) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (x : Vec F S2048x3200 .f32) (f3 : BufTy.Contents (Elt F) arg3.view.ty) (f4 : BufTy.Contents (Elt F) arg4.view.ty) (f5 : BufTy.Contents (Elt F) arg5.view.ty)
    (hf : (i 0).val ≠ 0 → f3 = harg3.unread (KV x) ∧ f4 = harg4.unread (KC x) ∧ f5 = harg5.unread (VC x)) (Q : _ → Idealize.SL.BI.sProp 𝕄) :
   iprop((arg1.view.loc (c : Thread nD τ) ↦[arg1.view.set]{fullShare} harg1.unread x) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (iprop((arg1.view.loc (c : Thread nD τ) ↦[arg1.view.set]{fullShare} harg1.unread x) ∗ (arg3.view.loc (c : Thread nD τ) ↦[arg3.view.set]{fullShare} harg3.unread (KV x))
    ∗ (arg4.view.loc (c : Thread nD τ) ↦[arg4.view.set]{fullShare} harg4.unread (KC x)) ∗ (arg5.view.loc (c : Thread nD τ) ↦[arg5.view.set]{fullShare} harg5.unread (VC x)))
      -∗ Q ⟨BitVec.ofNat 32 (i 0).val, Scalar.muli (BitVec.ofNat 32 (i 0).val) 256#32, k0_pay263 i, k0_pay270 i, k0_pay271 (F := F) i, k0_pay272, k0_pay273, k0_pay274⟩))
      ⊢ wp frame (wpE (defs₀ (F := F)) Variants.none (c : Thread nD τ) none) E
        (k0_part34 (F := F) i arg1 harg1 arg2 harg2 arg3 harg3 arg4 harg4 arg5 harg5 arg6 harg6) Q := by
  rw [k0_part34_eq_skeleton]; unfold k0_part34_skel
  iintro ⟨H1, H3, H4, H5, Hk⟩
  by_cases hi : (i 0).val = 0
  · have hc := (first_iff i).mpr hi
    sl_exec! (disch := exact hc)
    sl_step
    rw [show init_run.sl.v0 i = Scalar.muli (BitVec.ofNat 32 (i 0).val) 256#32 from rfl]
    iapply Hk
    isplitl [H1]; · iexact H1
    have e3 : arg3.view.writes (Elt F) arg3.view.junk (init_run.sl.H3_1 arg1 harg1 x) = harg3.unread (KV x) := harg3.eq_unread (by
      sl_unfold_words
      rw [View.read_writes_eq_canon]
      · rw [View.canon_unit_zero (by funext a; fin_cases a <;> rfl)]; unfold KV; rw [readAt_box harg1]; rfl
      · exact fun y => View.cover_of_tiledL _ ![2048, 1024] (by sl_kernel_rfl) y)
    have e4 : arg4.view.writes (Elt F) arg4.view.junk (init_run.sl.H4_4 arg1 harg1 x) = harg4.unread (KC x) := harg4.eq_unread (by
      sl_unfold_words
      rw [View.read_writes_eq_canon]
      · unfold KC; simp only [readAt_box harg1]; rfl
      · exact fun y => View.cover_of_tiledL (s := S512x128) _ ![128, 128] (by sl_kernel_rfl) y)
    have e5 : arg5.view.writes (Elt F) arg5.view.junk (init_run.sl.H5_4 arg1 harg1 x) = harg5.unread (VC x) := harg5.eq_unread (by
      sl_unfold_words
      rw [View.read_writes_eq_canon]
      · unfold VC; simp only [readAt_box harg1]; rfl
      · exact fun y => View.cover_of_tiledL (s := S512x128) _ ![128, 128] (by sl_kernel_rfl) y)
    rw [e3, e4, e5]
    isplitl [H3]; · iexact H3
    isplitl [H4]; · iexact H4
    iexact H5
  · have hc : ¬ _ := fun h => hi ((first_iff i).mp h)
    obtain ⟨rfl, rfl, rfl⟩ := hf hi
    sl_exec (disch := exact hc)
    sl_step
    rw [show init_run.sl.v0_1 i = Scalar.muli (BitVec.ofNat 32 (i 0).val) 256#32 from rfl]
    iapply Hk
    isplitl [H1]; · iexact H1
    isplitl [H3]; · iexact H3
    isplitl [H4]; · iexact H4
    iexact H5

end Cert.KernelIdeal.Attn

end
-- ==== Proof.Body.lean ====
module

public import proofs.«01_k».proof.Proof.Init

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

def bodyRun (c : Dev nD) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (x : Vec F S2048x3200 .f32) (f6 : BufTy.Contents (Elt F) arg6.view.ty) :
  { L : List (View.Piece (Elt F) S256x2048 .f32) // ∀ (E : Set ℕ) (f2 : BufTy.Contents (Elt F) arg2.view.ty) (f3 : BufTy.Contents (Elt F) arg3.view.ty) (f4 : BufTy.Contents (Elt F) arg4.view.ty) (f5 : BufTy.Contents (Elt F) arg5.view.ty)
    (hf : (i 0).val ≠ 0 → f3 = harg3.unread (KV x) ∧ f4 = harg4.unread (KC x) ∧ f5 = harg5.unread (VC x)) (Q : PUnit → Idealize.SL.BI.sProp 𝕄),
   iprop((arg1.view.loc (c : Thread nD τ) ↦[arg1.view.set]{fullShare} harg1.unread x) ∗ (arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
    ∗ (iprop((arg1.view.loc (c : Thread nD τ) ↦[arg1.view.set]{fullShare} harg1.unread x) ∗ (arg2.view.loc (c : Thread nD τ) ↦[arg2.view.set]{fullShare} arg2.view.writes (Elt F) f2 L) ∗ (arg3.view.loc (c : Thread nD τ) ↦[arg3.view.set]{fullShare} harg3.unread (KV x))
    ∗ (arg4.view.loc (c : Thread nD τ) ↦[arg4.view.set]{fullShare} harg4.unread (KC x)) ∗ (arg5.view.loc (c : Thread nD τ) ↦[arg5.view.set]{fullShare} harg5.unread (VC x)) ∗ (∃ f, arg6.view.loc (c : Thread nD τ) ↦[arg6.view.set]{fullShare} f))
      -∗ Q ⟨⟩))
      ⊢ wp frame (wpE (defs₀ (F := F)) Variants.none (c : Thread nD τ) none) E
        (cc0__attn_body (F := F) i arg1 harg1 arg2 harg2 arg3 harg3 arg4 harg4 arg5 harg5 arg6 harg6) Q } := by
  refine ⟨?_, fun E f2 f3 f4 f5 hf Q => ?run⟩
  case run =>
    simp only [cc0__attn_body_eq_skeleton]; unfold cc0__attn_body_skel
    simp only [k0_part74_eq_skeleton, k0_part74_skel]
    rw [wp_bind]
    iintro ⟨H1, H2, H3, H4, H5, H6, Hk⟩
    iapply (init_run c E i arg1 harg1 arg2 harg2 arg3 harg3 arg4 harg4 arg5 harg5 arg6 harg6 x f3 f4 f5 hf _)
    isplitl [H1]; · iexact H1
    isplitl [H3]; · iexact H3
    isplitl [H4]; · iexact H4
    isplitl [H5]; · iexact H5
    iintro ⟨H1, H3, H4, H5⟩
    sl_exec_parts
    sl_step
    iapply Hk
    isplitl [H1]; · iexact H1
    isplitl [H2]; · iexact H2
    isplitl [H3]; · iexact H3
    isplitl [H4]; · iexact H4
    isplitl [H5]; · iexact H5
    iexists _; iexact H6

end Cert.KernelIdeal.Attn

end
-- ==== Proof.Heads.lean ====
/-
  What one query head's output block is, as a function of what the body reads. The sixteen stores of the body are this
  function at their head's loads; the scratch slabs each reads back are the ones its own group stored.
-/
module

public import proofs.«01_k».proof.Proof.Body
public import Idealize.ShloMosaic.Lib.WritesUnit

@[expose] public section

set_option maxRecDepth 16384
set_option maxHeartbeats 40000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The values, of what is loaded -/

/-- The block number of each column. -/
def lane : IVec S256x128 32 := iota .tc S256x128 32 [1] iota_S256x128_d1_w32

/-- The zero-one matrix that sums four compressed blocks into one selection block. -/
def seg : FVec F S128x128 .f32 := k0_pay275 k0_pay272 k0_pay273 k0_pay274

/-- The compressed probabilities of one head. -/
def cmpP (i : grid0.Coords) (kc : Vec F S128x128 .f32) (q : Vec F S256x128 .f32) : FVec F S256x128 .f32 :=
  k0_pay276 (k0_pay270 i) (k0_pay271 i) kc q

/-- The block scores of a group, before forcing. -/
def blockScore (i : grid0.Coords) (kc : Vec F S128x128 .f32) (q : Fin 4 → Vec F S256x128 .f32) : FVec F S256x128 .f32 :=
  matmul dot_S256x128_S128x128_S256x128_1_0_0_1_n_n (some .fp32)
    (addf (addf (addf (addf (broadcast S256x128 (Scalar.ofBits .f32 0x00000000#32)) (cmpP i kc (q 0))) (cmpP i kc (q 1))) (cmpP i kc (q 2))) (cmpP i kc (q 3)))
    seg (constant S256x128 .f32 0x00000000#32)

/-- The scores the ranks compare: the first block and the query's own forced, the blocks not allowed masked. -/
def forced (i : grid0.Coords) (sc : FVec F S256x128 .f32) : FVec F S256x128 .f32 :=
  k0_pay293 lane sc (k0_pay290 (k0_pay263 i) lane) (k0_pay291 lane) (k0_pay292 (k0_pay263 i))

theorem slices_lane (j : ℕ) (hj : j < 32) : S256x128.Slices ![0, j] S256x1 :=
  ⟨rfl, fun a => by fin_cases a <;> simp <;> omega⟩

/-- How many of the first `n` blocks score above each block. -/
def rank (s : FVec F S256x128 .f32) : ∀ n : ℕ, n ≤ 32 → IVec S256x128 32
  | 0, _ => broadcast S256x128 0#32
  | n + 1, h => addi (rank s n (Nat.le_of_succ_le h))
      (extui 32 (cmpf .ogt (broadcastTo S256x128 (extractStridedSlice S256x1 ![0, n] s (slices_lane n h)) broadcasts_S256x1_S256x128) s) natLt_1_32)

/-- The selected blocks of a group, as a zero-one row mask. -/
def selOf (i : grid0.Coords) (kc : Vec F S128x128 .f32) (q : Fin 4 → Vec F S256x128 .f32) : FVec F S256x128 .f32 :=
  k0_pay300 (cmpi .slt (rank (forced i (blockScore i kc q)) 32 (le_refl _)) (broadcast S256x128 16#32)) (k0_pay299 lane)

/-- What a tile loop starts from. -/
def start0 : T6 F := (k0_pay304, k0_pay305, k0_pay306, k0_pay304, k0_pay305, k0_pay306)

/-- One head's output block: the three branches under their gates. -/
def headV (i : grid0.Coords) (kc vc : Vec F S128x128 .f32) (q : Vec F S256x128 .f32) (g : Fin 3 → Vec F S256x1 .f32) (o : T6 F) : FVec F S256x128 .f32 :=
  k0_pay324 (k0_pay321 o.2.1 o.2.2.1) (k0_pay322 o.2.2.2.2.1 o.2.2.2.2.2) (k0_pay323 (k0_pay278 (k0_pay270 i) (k0_pay271 i) kc vc q) (g 0)) (g 1) (g 2)

/-- The tile loop on values. -/
def attnIter (i : grid0.Coords) (q : FVec F S256x128 .bf16) (kt vt : Fin (Tr i) → Vec F S256x128 .bf16) (pay : Fin (Tr i) → FVec F S1x256x256 .f32) : ℕ → T6 F
  | 0 => start0
  | n + 1 => if h : n < Tr i then
      tileStep i (BitVec.ofNat 32 (i 0).val) (k0_pay263 i) 0#32 q ⟨n, h⟩ (kt ⟨n, h⟩) (vt ⟨n, h⟩) (pay ⟨n, h⟩) (attnIter i q kt vt pay n)
    else attnIter i q kt vt pay n

/-! ## The loads -/

/-- The first row of the point's query rows. -/
abbrev rowQ (i : grid0.Coords) : ℕ := (Scalar.indexCast (Scalar.muli (BitVec.ofNat 32 (i 0).val) 256#32) : Index).toNat

theorem rowQ_eq (i : grid0.Coords) : rowQ i = 256 * (i 0).val := by
  have h : ∀ n : Fin 8, (Scalar.indexCast (Scalar.muli (BitVec.ofNat 32 n.val) 256#32) : Index).toNat = 256 * n.val := by decide +kernel
  exact h (i 0)

theorem row_lt (i : grid0.Coords) : 256 * (i 0).val + 256 ≤ 2048 := by
  have h : ∀ n : Fin 8, 256 * n.val + 256 ≤ 2048 := by decide +kernel
  exact h (i 0)

theorem inbQ (i : grid0.Coords) (g j : Fin 4) : ∀ a, (![rowQ i, 128 * (4 * g.val + j.val)] : Fin 2 → ℕ) a + S256x128.size a ≤ S2048x3200.size a := by
  have := row_lt i
  rw [rowQ_eq]
  intro a; fin_cases a <;> simp <;> omega

theorem inbG (i : grid0.Coords) (g j : Fin 4) (e : Fin 3) : ∀ a, (![rowQ i, 3072 + (3 * (4 * g.val + j.val) + e.val)] : Fin 2 → ℕ) a + S256x1.size a ≤ S2048x3200.size a := by
  have := row_lt i
  rw [rowQ_eq]
  intro a; fin_cases a <;> simp <;> omega

theorem inbC (g : Fin 4) : ∀ a, (![128 * g.val, 0] : Fin 2 → ℕ) a + S128x128.size a ≤ S512x128.size a := by
  intro a; fin_cases a <;> simp <;> omega

theorem inbO (g j : Fin 4) : ∀ a, (![0, 128 * (4 * g.val + j.val)] : Fin 2 → ℕ) a + S256x128.size a ≤ S256x2048.size a := by
  intro a; fin_cases a <;> simp <;> omega

theorem trips_eq (i : grid0.Coords) : Tr i = (i 0).val + 1 := by
  have h : ∀ n : Fin 8, Scf.trips 0#32 (Scalar.addi 0#32 (Scalar.muli (Scalar.divsi (Scalar.subi (Scalar.addi (BitVec.ofNat 32 n.val) 1#32) 0#32) 1#32) 1#32)) 1#32 = n.val + 1 := by decide +kernel
  exact h (i 0)

theorem offT_eq (i : grid0.Coords) (col : ℕ) (k : Fin (Tr i)) : offT i col k = ![256 * k.val, col] := by
  have h : ∀ n : Fin 8, (Scalar.indexCast (Scalar.muli (Scf.iv 0#32 1#32 n.val) 256#32) : Index).toNat = 256 * n.val := by decide +kernel
  have hk : k.val < 8 := lt_of_lt_of_le k.isLt (by rw [trips_eq]; exact (i 0).isLt)
  show ![_, _] = _
  rw [h ⟨k.val, hk⟩]

theorem tile_lt (i : grid0.Coords) (k : Fin (Tr i)) : k.val < 8 := lt_of_lt_of_le k.isLt (by rw [trips_eq]; exact (i 0).isLt)

theorem inbT (i : grid0.Coords) (col : ℕ) (hc : col + 128 ≤ 1024) (k : Fin (Tr i)) : ∀ a, offT i col k a + S256x128.size a ≤ S2048x1024.size a := by
  have := tile_lt i k
  rw [offT_eq]
  intro a; fin_cases a <;> simp <;> omega

theorem inbK (i : grid0.Coords) (g : Fin 4) (k : Fin (Tr i)) : ∀ a, offT i (128 * g.val) k a + S256x128.size a ≤ S2048x1024.size a :=
  inbT i _ (by omega) k

theorem inbV (i : grid0.Coords) (g : Fin 4) (k : Fin (Tr i)) : ∀ a, offT i (512 + 128 * g.val) k a + S256x128.size a ≤ S2048x1024.size a :=
  inbT i _ (by omega) k

/-! ## The stores, at the buffers' contents -/

section Buffers

variable (i : grid0.Coords) (arg1 : Memref sig .tc .vmem S2048x3200 .f32) (arg3 : Memref sig .tc .vmem S2048x1024 .bf16)
    (arg4 : Memref sig .tc .vmem S512x128 .f32) (arg5 : Memref sig .tc .vmem S512x128 .f32) (arg6 : Memref sig .tc .vmem S8x256x256 .f32)
    (f1 : BufTy.Contents (Elt F) arg1.view.ty) (f3 : BufTy.Contents (Elt F) arg3.view.ty) (f4 : BufTy.Contents (Elt F) arg4.view.ty) (f5 : BufTy.Contents (Elt F) arg5.view.ty) (f6 : BufTy.Contents (Elt F) arg6.view.ty)

def rdQ (g j : Fin 4) : Vec F S256x128 .f32 := arg1.view.readAt (Elt F) (Rect.unit (s := S2048x3200) ![rowQ i, 128 * (4 * g.val + j.val)] S256x128.size (inbQ i g j)).toLoadRect f1

def rdG (g j : Fin 4) (e : Fin 3) : Vec F S256x1 .f32 := arg1.view.readAt (Elt F) (Rect.unit (s := S2048x3200) ![rowQ i, 3072 + (3 * (4 * g.val + j.val) + e.val)] S256x1.size (inbG i g j e)).toLoadRect f1

def rdC (arg : Memref sig .tc .vmem S512x128 .f32) (f : BufTy.Contents (Elt F) arg.view.ty) (g : Fin 4) : Vec F S128x128 .f32 :=
  arg.view.readAt (Elt F) (Rect.unit (s := S512x128) ![128 * g.val, 0] S128x128.size (inbC g)).toLoadRect f

def selB (g : Fin 4) : FVec F S256x128 .f32 := selOf i (rdC arg4 f4 g) (rdQ i arg1 f1 g)

/-- What the slab scratch has been given, last group first. -/
def slabsB : ℕ → List (View.Piece (Elt F) S8x256x256 .f32)
  | 0 => slabs i (slabPay i (selB i arg1 arg4 f1 f4 0)) (Tr i)
  | g + 1 => slabs i (slabPay i (selB i arg1 arg4 f1 f4 (Fin.ofNat 4 (g + 1)))) (Tr i) ++ slabsB g

def headB (g j : Fin 4) : FVec F S256x128 .f32 :=
  headV i (rdC arg4 f4 g) (rdC arg5 f5 g) (rdQ i arg1 f1 g j) (rdG i arg1 f1 g j)
    (tileIter i arg3 arg6 (BitVec.ofNat 32 (i 0).val) (k0_pay263 i) 0#32 (k0_pay303 (rdQ i arg1 f1 g j)) (128 * g.val) (512 + 128 * g.val) (inbK i g) (inbV i g)
      f3 (arg6.view.writes (Elt F) f6 (slabsB i arg1 arg4 f1 f4 g.val)) start0 (Tr i))

def pieceB (g j : Fin 4) : View.Piece (Elt F) S256x2048 .f32 :=
  ⟨Rect.unit (s := S256x2048) ![0, 128 * (4 * g.val + j.val)] S256x128.size (inbO g j), headB i arg1 arg3 arg4 arg5 arg6 f1 f3 f4 f5 f6 g j⟩

end Buffers

section Pieces

attribute [local irreducible] tileIter slabs View.writes

theorem body_pieces (c : Dev nD) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (x : Vec F S2048x3200 .f32) (f6 : BufTy.Contents (Elt F) arg6.view.ty) :
    let p := pieceB i arg1 arg3 arg4 arg5 arg6 (harg1.unread x) (harg3.unread (KV x)) (harg4.unread (KC x)) (harg5.unread (VC x)) f6
    (bodyRun (F := F) c i arg1 harg1 arg2 harg2 arg3 harg3 arg4 harg4 arg5 harg5 arg6 harg6 x f6).1
      = [p 3 3, p 3 2, p 3 1, p 3 0, p 2 3, p 2 2, p 2 1, p 2 0, p 1 3, p 1 2, p 1 1, p 1 0, p 0 3, p 0 2, p 0 1, p 0 0] := rfl

end Pieces

/-! ## The stores, of the block's input alone -/

theorem off9_eq (i : grid0.Coords) (k : Fin (Tr i)) : k0_off9 i k = ![k.val, 0, 0] := by
  have h : ∀ n : Fin 8, (Scalar.indexCast (Scf.iv 0#32 1#32 n.val) : Index).toNat = n.val := by decide +kernel
  show ![_, _, _] = _
  rw [h ⟨k.val, tile_lt i k⟩]

/-- A slab read back is the one its trip stored, whatever was stored before. -/
theorem readAt_slab (i : grid0.Coords) (arg6 : Memref sig .tc .vmem S8x256x256 .f32) (g6 : BufTy.Contents (Elt F) arg6.view.ty)
    (pay : Fin (Tr i) → FVec F S1x256x256 .f32) (L : List (View.Piece (Elt F) S8x256x256 .f32)) (k : Fin (Tr i)) :
    ∀ n, k.val < n → n ≤ Tr i → arg6.view.readAt (Elt F) (Rect.unit (s := S8x256x256) (k0_off9 i k) S1x256x256.size (k0_off9_inb i k)).toLoadRect
      (arg6.view.writes (Elt F) g6 (slabs i pay n ++ L)) = pay k
  | 0, h, _ => absurd h (Nat.not_lt_zero _)
  | n + 1, h, hn => by
    have hn' : n < Tr i := hn
    rw [slabs, dif_pos hn', List.cons_append]
    funext j
    rcases Nat.lt_succ_iff_lt_or_eq.mp h with h' | h'
    · have ih := congrFun (readAt_slab i arg6 g6 pay L k n h' (Nat.le_of_lt hn')) j
      rw [← ih]
      refine View.read_writes_cons_unit_of_not_mem _ _ _ _ _ _ (off9_eq i ⟨n, hn'⟩) (0 : Fin 3) (Or.inl ?_)
      have h0 : (j (0 : Fin 3)).val < 1 := (j (0 : Fin 3)).isLt
      show k0_off9 i k 0 + 1 * (j (0 : Fin 3)).val < n
      have e : k0_off9 i k 0 = k.val := congrFun (off9_eq i k) 0
      omega
    · obtain ⟨kv, hk⟩ := k
      dsimp only at h'
      subst h'
      exact View.read_writes_cons_emb _ _ _ _ _ j

theorem tileIter_eq (i : grid0.Coords) (arg3 : Memref sig .tc .vmem S2048x1024 .bf16) (arg6 : Memref sig .tc .vmem S8x256x256 .f32) (q : FVec F S256x128 .bf16)
    (cK cV : ℕ) (hK : ∀ k a, offT i cK k a + S256x128.size a ≤ S2048x1024.size a) (hV : ∀ k a, offT i cV k a + S256x128.size a ≤ S2048x1024.size a)
    (f3 : BufTy.Contents (Elt F) arg3.view.ty) (f6 : BufTy.Contents (Elt F) arg6.view.ty) (kt vt : Fin (Tr i) → Vec F S256x128 .bf16) (pay : Fin (Tr i) → FVec F S1x256x256 .f32)
    (hk : ∀ k, arg3.view.readAt (Elt F) (Rect.unit (s := S2048x1024) (offT i cK k) S256x128.size (hK k)).toLoadRect f3 = kt k)
    (hv : ∀ k, arg3.view.readAt (Elt F) (Rect.unit (s := S2048x1024) (offT i cV k) S256x128.size (hV k)).toLoadRect f3 = vt k)
    (hs : ∀ k, arg6.view.readAt (Elt F) (Rect.unit (s := S8x256x256) (k0_off9 i k) S1x256x256.size (k0_off9_inb i k)).toLoadRect f6 = pay k) :
    ∀ n, tileIter i arg3 arg6 (BitVec.ofNat 32 (i 0).val) (k0_pay263 i) 0#32 q cK cV hK hV f3 f6 start0 n = attnIter i q kt vt pay n
  | 0 => rfl
  | n + 1 => by
    rw [tileIter, attnIter]
    split
    · rw [hk, hv, hs, tileIter_eq i arg3 arg6 q cK cV hK hV f3 f6 kt vt pay hk hv hs n]
    · exact tileIter_eq i arg3 arg6 q cK cV hK hV f3 f6 kt vt pay hk hv hs n

section Values

variable (i : grid0.Coords) (x : Vec F S2048x3200 .f32)

/-- Head `(g, j)`'s query rows. -/
def xQ (g j : Fin 4) : Vec F S256x128 .f32 := box x (Rect.unit (s := S2048x3200) ![rowQ i, 128 * (4 * g.val + j.val)] S256x128.size (inbQ i g j))

/-- Head `(g, j)`'s three gate columns. -/
def xG (g j : Fin 4) (e : Fin 3) : Vec F S256x1 .f32 := box x (Rect.unit (s := S2048x3200) ![rowQ i, 3072 + (3 * (4 * g.val + j.val) + e.val)] S256x1.size (inbG i g j e))

/-- Group `g`'s rows of the compressed keys or values. -/
def xC (y : Vec F S512x128 .f32) (g : Fin 4) : Vec F S128x128 .f32 := box y (Rect.unit (s := S512x128) ![128 * g.val, 0] S128x128.size (inbC g))

/-- Group `g`'s key tile. -/
def xK (g : Fin 4) (k : Fin (Tr i)) : Vec F S256x128 .bf16 := box (KV x) (Rect.unit (s := S2048x1024) (offT i (128 * g.val) k) S256x128.size (inbK i g k))

/-- Group `g`'s value tile. -/
def xV (g : Fin 4) (k : Fin (Tr i)) : Vec F S256x128 .bf16 := box (KV x) (Rect.unit (s := S2048x1024) (offT i (512 + 128 * g.val) k) S256x128.size (inbV i g k))

/-- Group `g`'s selected blocks. -/
def xSel (g : Fin 4) : FVec F S256x128 .f32 := selOf i (xC (KC x) g) (xQ i x g)

/-- Head `(g, j)`'s two softmaxes after its tiles. -/
def xT (g j : Fin 4) : T6 F := attnIter i (k0_pay303 (xQ i x g j)) (xK i x g) (xV i x g) (slabPay i (xSel i x g)) (Tr i)

/-- Head `(g, j)`'s output block. -/
def headX (g j : Fin 4) : FVec F S256x128 .f32 := headV i (xC (KC x) g) (xC (VC x) g) (xQ i x g j) (xG i x g j) (xT i x g j)

def pieceX (g j : Fin 4) : View.Piece (Elt F) S256x2048 .f32 :=
  ⟨Rect.unit (s := S256x2048) ![0, 128 * (4 * g.val + j.val)] S256x128.size (inbO g j), headX i x g j⟩

/-- The sixteen stores of a point, last first. -/
def stores : List (View.Piece (Elt F) S256x2048 .f32) :=
  let p := pieceX i x
  [p 3 3, p 3 2, p 3 1, p 3 0, p 2 3, p 2 2, p 2 1, p 2 0, p 1 3, p 1 2, p 1 1, p 1 0, p 0 3, p 0 2, p 0 1, p 0 0]

end Values

section Stores

attribute [local irreducible] tileIter slabs View.writes attnIter slabPay selOf headV

theorem headB_eq (i : grid0.Coords) (arg1 : Memref sig .tc .vmem S2048x3200 .f32) (harg1 : arg1.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32)
    (x : Vec F S2048x3200 .f32) (f6 : BufTy.Contents (Elt F) arg6.view.ty) (g j : Fin 4) :
    headB i arg1 arg3 arg4 arg5 arg6 (harg1.unread x) (harg3.unread (KV x)) (harg4.unread (KC x)) (harg5.unread (VC x)) f6 g j = headX i x g j := by
  have hQ : ∀ g j, rdQ i arg1 (harg1.unread x) g j = xQ i x g j := fun g j => readAt_box harg1 x _
  have hG : rdG i arg1 (harg1.unread x) g j = xG i x g j := funext fun e => readAt_box harg1 x _
  have hC : ∀ g, rdC arg4 (harg4.unread (KC x)) g = xC (KC x) g := fun g => readAt_box harg4 _ _
  have hD : ∀ g, rdC arg5 (harg5.unread (VC x)) g = xC (VC x) g := fun g => readAt_box harg5 _ _
  have hS : selB i arg1 arg4 (harg1.unread x) (harg4.unread (KC x)) g = xSel i x g := by
    unfold selB xSel
    rw [hC, show rdQ i arg1 (harg1.unread x) g = xQ i x g from funext fun j => hQ g j]
  have hsl : ∃ L, slabsB i arg1 arg4 (harg1.unread x) (harg4.unread (KC x)) g.val = slabs i (slabPay i (xSel i x g)) (Tr i) ++ L := by
    rw [← hS]
    match g with
    | 0 => exact ⟨[], (List.append_nil _).symm⟩
    | 1 => exact ⟨_, rfl⟩
    | 2 => exact ⟨_, rfl⟩
    | 3 => exact ⟨_, rfl⟩
  obtain ⟨L, hL⟩ := hsl
  unfold headB headX
  rw [hC, hD, hQ, hG, hL]
  refine congrArg (headV i _ _ _ _) ?_
  unfold xT
  exact tileIter_eq i arg3 arg6 _ _ _ _ _ _ _ _ _ _ (fun k => readAt_box harg3 _ _) (fun k => readAt_box harg3 _ _)
    (fun k => readAt_slab i arg6 f6 _ L k (Tr i) k.isLt (le_refl _)) (Tr i)

theorem body_stores (c : Dev nD) (i : grid0.Coords) (arg1 : Memref sig .tc .vmem S2048x3200 .f32) (harg1 : arg1.IsWhole) (arg2 : Memref sig .tc .vmem S256x2048 .f32) (harg2 : arg2.IsWhole) (arg3 : Memref sig .tc .vmem S2048x1024 .bf16) (harg3 : arg3.IsWhole)
    (arg4 : Memref sig .tc .vmem S512x128 .f32) (harg4 : arg4.IsWhole) (arg5 : Memref sig .tc .vmem S512x128 .f32) (harg5 : arg5.IsWhole) (arg6 : Memref sig .tc .vmem S8x256x256 .f32) (harg6 : arg6.IsWhole)
    (x : Vec F S2048x3200 .f32) (f6 : BufTy.Contents (Elt F) arg6.view.ty) :
    (bodyRun (F := F) c i arg1 harg1 arg2 harg2 arg3 harg3 arg4 harg4 arg5 harg5 arg6 harg6 x f6).1 = stores i x := by
  have hp : ∀ g j, pieceB i arg1 arg3 arg4 arg5 arg6 (harg1.unread x) (harg3.unread (KV x)) (harg4.unread (KC x)) (harg5.unread (VC x)) f6 g j = pieceX i x g j := fun g j => by
    unfold pieceB pieceX
    rw [headB_eq]
  rw [body_pieces]
  simp only [hp]
  rfl

end Stores

end Cert.KernelIdeal.Attn

end
-- ==== Proof.AttnFrame.lean ====
/-
  The attention call's frame: what its scratch buffers carry from the first point on, the body at any point, the run.
-/
module

public import proofs.«01_k».proof.Proof.Heads
public import Idealize.ShloMosaic.Lib.Claim

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The call's input, as the one block the pipeline stages. -/
def input (c : Dev nD) : Vec F S2048x3200 .f32 := iblk m c 0 t0_0

theorem iblk_input (c : Dev nD) (t : Fin cfg0.N) : iblk m c 0 t = input m c := rfl

theorem stores_cover (i : grid0.Coords) (x : Vec F S2048x3200 .f32) (y : S256x2048.Idx) : ∃ p ∈ stores i x, y ∈ p.1.set :=
  View.cover_of_tiledL (s := S256x2048) (stores i x) ![256, 128] (by sl_kernel_rfl) y

/-- The block of the output a point leaves. -/
def outBlk (i : grid0.Coords) (x : Vec F S2048x3200 .f32) : Vec F S256x2048 .f32 := View.canon (stores i x)

/-- The scratch buffers once filled, the slabs forgotten, and the generator register. -/
def held (c : Dev nD) (x : Vec F S2048x3200 .f32) (f6 : BufTy.Contents (Elt F) (Memref.whole cc0_scratch3).view.ty) (f3 : BufTy.Contents (Elt F) (Memref.whole cc0_scratch0).view.ty) (f4 : BufTy.Contents (Elt F) (Memref.whole cc0_scratch1).view.ty) (f5 : BufTy.Contents (Elt F) (Memref.whole cc0_scratch2).view.ty) : Idealize.SL.BI.sProp 𝕄 :=
  iprop(((Memref.whole cc0_scratch0).view.loc (c : Thread nD τ) ↦[(Memref.whole cc0_scratch0).view.set]{fullShare} f3)
    ∗ ((Memref.whole cc0_scratch1).view.loc (c : Thread nD τ) ↦[(Memref.whole cc0_scratch1).view.set]{fullShare} f4)
    ∗ ((Memref.whole cc0_scratch2).view.loc (c : Thread nD τ) ↦[(Memref.whole cc0_scratch2).view.set]{fullShare} f5)
    ∗ ((Memref.whole cc0_scratch3).view.loc (c : Thread nD τ) ↦[(Memref.whole cc0_scratch3).view.set]{fullShare} f6)
    ∗ ∃ r, prngReg c r)

/-- The same with the first three at what the first point fills them with. -/
def filled (c : Dev nD) (x : Vec F S2048x3200 .f32) : Idealize.SL.BI.sProp 𝕄 :=
  iprop(∃ f6, held c x f6 ((Memref.isWhole_whole cc0_scratch0).unread (KV x)) ((Memref.isWhole_whole cc0_scratch1).unread (KC x)) ((Memref.isWhole_whole cc0_scratch2).unread (VC x)))

theorem rest_held (c : Dev nD) (x : Vec F S2048x3200 .f32) : (Pipeline.ΦA spec0 c : Idealize.SL.BI.sProp 𝕄) ⊢ iprop(∃ f6 f3 f4 f5, held c x f6 f3 f4 f5) := by
  unfold Pipeline.ΦA held
  rw [scopedRest0_eq c]
  simp only [Memref.view_whole, View.set_whole]
  iintro ⟨⟨⟨%f3, H3⟩, ⟨%f4, H4⟩, ⟨%f5, H5⟩, ⟨%f6, H6⟩⟩, Hr⟩
  iexists f6, f3, f4, f5
  isplitl [H3]; · iexact H3
  isplitl [H4]; · iexact H4
  isplitl [H5]; · iexact H5
  isplitl [H6]; · iexact H6
  iexact Hr

theorem held_rest (c : Dev nD) (x : Vec F S2048x3200 .f32) : filled c x ⊢ (Pipeline.ΦA spec0 c : Idealize.SL.BI.sProp 𝕄) := by
  unfold Pipeline.ΦA filled held
  rw [scopedRest0_eq c]
  simp only [Memref.view_whole, View.set_whole]
  iintro ⟨%f6, H3, H4, H5, H6, Hr⟩
  isplitr [Hr]
  · isplitl [H3]; · iexists _; iexact H3
    isplitl [H4]; · iexists _; iexact H4
    isplitl [H5]; · iexists _; iexact H5
    iexists _; iexact H6
  · iexact Hr

/-- What the body carries before point `t`. -/
def carried (c : Dev nD) (x : Vec F S2048x3200 .f32) (t : ℕ) : Idealize.SL.BI.sProp 𝕄 :=
  if t = 0 then Pipeline.ΦA spec0 c else filled c x

theorem carried_held (c : Dev nD) (x : Vec F S2048x3200 .f32) (t : ℕ) :
    carried c x t ⊢ (iprop(∃ f6 f3 f4 f5, ⌜t ≠ 0 → f3 = (Memref.isWhole_whole cc0_scratch0).unread (KV x) ∧ f4 = (Memref.isWhole_whole cc0_scratch1).unread (KC x) ∧ f5 = (Memref.isWhole_whole cc0_scratch2).unread (VC x)⌝ ∗ held c x f6 f3 f4 f5) : Idealize.SL.BI.sProp 𝕄) := by
  unfold carried
  by_cases h : t = 0
  · rw [if_pos h]
    refine (rest_held c x).trans ?_
    iintro ⟨%f6, %f3, %f4, %f5, H⟩
    iexists f6, f3, f4, f5
    isplitr
    · ipureintro; exact fun h' => absurd h h'
    · iexact H
  · rw [if_neg h]
    unfold filled
    iintro ⟨%f6, H⟩
    iexists f6, _, _, _
    isplitr
    swap; · iexact H
    ipureintro; exact fun _ => ⟨rfl, rfl, rfl⟩

/-- The proof data: the input window at its block, the output at the point's block, the scratch carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (grid0.coords t) (input m c)
  Φ t := carried c (input m c) t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]

theorem after0_1 (c : Dev nD) (t : Fin cfg0.N) : (dats m 0 c).after 1 t = outBlk (grid0.coords t) (input m c) := by dsimp only [dats]

theorem phi_eq (c : Dev nD) (t : Fin (cfg0.N + 1)) : (dats m 0 c).Φ t = carried c (input m c) t.val := by dsimp only [dats]

theorem before0_0 (c : Dev nD) (t : Fin cfg0.N) (d) : (dats m 0 c).before 0 t d = iblk m c 0 t :=
  before0_0_of m (dats m 0 c) (A_eq m c 0) (after0_0 m c) t d

theorem coords_val (t : Fin cfg0.N) : (grid0.coords t 0).val = t.val := by
  have h : ∀ t : Fin grid0.N, (grid0.coords t 0).val = t.val := by decide +kernel
  exact h t

def bodyPre (c : Dev nD) (t : Fin cfg0.N) : Idealize.SL.BI.sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : Idealize.SL.BI.sProp 𝕄 :=
  iprop((dats m 0 c).Φ t.succ ∗ (dats m 0 c).owesAt () t.succ ∗ (dats m 0 c).leavesExact 0 t ∗ (dats m 0 c).leavesExact 1 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, phi_eq]
  rw [show (dats m 0 c).owesAt () t.succ = (dats m 0 c).owesAt () t.castSucc from rfl]
  rw [show (dats m 0 c).leavesExact 0 t = owns (c : Thread nD τ) (st0_0 t) fullShare ((dats m 0 c).after 0 t) from by
      unfold Dat.leavesExact; rw [show cfg0.idle 0 (grid0.coords t) = false from rfl], after0_0]
  rw [show (dats m 0 c).leavesExact 1 t = owns (c : Thread nD τ) (st0_1 t) fullShare ((dats m 0 c).after 1 t) from by
      unfold Dat.leavesExact; rw [show cfg0.idle 1 (grid0.coords t) = false from rfl], after0_1]
  rw [show carried c (input m c) t.succ.val = filled c (input m c) from if_neg (Nat.succ_ne_zero _)]
  have hc := carried_held (F := F) c (input m c) t.castSucc.val
  rw [iblk_input]
  iintro ⟨HΦ, Ho, ⟨%d0, H1⟩, ⟨%d1, H2⟩⟩
  ihave Hc := hc $$ HΦ
  icases Hc with ⟨%f6, %f3, %f4, %f5, %hf, H⟩
  unfold owns held
  icases H with ⟨H3, H4, H5, H6, Hr⟩
  icases H1 with ⟨%g1, %hg1, H1⟩
  icases H2 with ⟨%g2, %hg2, H2⟩
  obtain rfl := (hstage0_0 ((cfg0.slots t 0).cast nbuf0_0)).eq_unread hg1
  iapply ((bodyRun (F := F) c (grid0.coords t) _ (hstage0_0 ((cfg0.slots t 0).cast nbuf0_0)) _ (hstage0_1 ((cfg0.slots t 1).cast nbuf0_1)) _ (Memref.isWhole_whole _) _ (Memref.isWhole_whole _) _ (Memref.isWhole_whole _) _ (Memref.isWhole_whole _) (input m c) f6).2
    Set.univ g2 f3 f4 f5 (fun h => hf (by rw [coords_val] at h; exact h)) _)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, ⟨%e6, H6⟩⟩
  isplitl [H3 H4 H5 H6 Hr]
  · unfold filled held
    iexists e6
    isplitl [H3]; · iexact H3
    isplitl [H4]; · iexact H4
    isplitl [H5]; · iexact H5
    isplitl [H6]; · iexact H6
    iexact Hr
  isplitl [Ho]; · iexact Ho
  isplitl [H1]
  · iexists _; isplitr
    swap; · iexact H1
    ipureintro; exact hg1
  iexists _; isplitr
  swap; · iexact H2
  ipureintro
  rw [body_stores]
  exact View.read_writes_eq_canon _ _ _ (stores_cover _ _)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => held_rest c (input m c))

theorem run_main : θ_run defs (onTc (τ := τ) (main (F := F))) (s₀ m ρ) (Pipeline.FramePost cfgs (dats m) 0 (V m)) :=
  (θ_run defs _ _).mono (fun _ h => h.1) (run_main_quiescent m ρ)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Claims.lean ====
/-
  The frames of the programs and the rewrites of the ideal pass, in the certificate's words.
-/
module

public import proofs.«01_k».proof.Defs
public import proofs.«01_k».proof.Proof.AttnFrame
public import proofs.«01_k».proof.Proof.Word.AttnFrame
public import proofs.«01_k».proof.Proof.Gen.Kernel
public import proofs.«01_k».proof.Proof.Gen.KernelIdeal
public import proofs.«01_k».proof.Proof.Gen.Pre_finite
public import proofs.«01_k».proof.Proof.Gen.RefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Wo.Frame
public import proofs.«01_k».proof.Proof.Gen.WoIdeal.Frame
public import proofs.«01_k».proof.Proof.Gen.WoRefIdeal.Run
public import proofs.«01_k».proof.Proof.Gen.Mlp.Frame
public import proofs.«01_k».proof.Proof.Gen.MlpIdeal.Frame
public import proofs.«01_k».proof.Proof.Gen.MlpRefIdeal.Run

@[expose] public section

noncomputable section

namespace Cert.Proof

open Idealize.ShloMosaic Idealize.SL.Sem

theorem frame_kernel : Cert.quiescent_Kernel := fun m ρ _ => Cert.Kernel.Attn.frame_run (F := Bits) m ρ

theorem frame_kernelIdeal : Cert.quiescent_KernelIdeal := fun m ρ _ => Cert.KernelIdeal.Attn.frame_run (F := Ideal) m ρ

theorem frame_kernelIdeal_finite : Cert.quiescent_KernelIdeal_pre_finite := fun m ρ _ => Cert.KernelIdeal.Attn.frame_run (F := Ideal) m ρ

theorem frame_ref : Cert.quiescent_RefIdeal := fun m ρ _ =>
  (θ_run Cert.RefIdeal.defs _ _).mono (fun r h => ⟨fun c => (h c).2, sem_eq_zero_of_no_sems (by decide) r.2⟩) (Cert.RefIdeal.Value.run (F := Ideal) m ρ)

theorem frame_ref_finite : Cert.quiescent_RefIdeal_pre_finite := fun m ρ _ => frame_ref m ρ trivial

theorem frame_proj : Cert.quiescent_Proj := fun m ρ _ => Cert.Proj.Gen.frame m ρ

theorem frame_projIdeal : Cert.quiescent_ProjIdeal := fun m ρ _ => Cert.ProjIdeal.Gen.frame m ρ

theorem frame_projRef : Cert.quiescent_ProjRefIdeal := fun m ρ _ =>
  (θ_run Cert.ProjRefIdeal.defs _ _).mono (fun r h => ⟨fun c => (h c).2, sem_eq_zero_of_no_sems (by decide) r.2⟩) (Cert.ProjRefIdeal.Value.run (F := Ideal) m ρ)

theorem frame_wo : Cert.quiescent_Wo := fun m ρ _ => Cert.Wo.Gen.frame m ρ

theorem frame_woIdeal : Cert.quiescent_WoIdeal := fun m ρ _ => Cert.WoIdeal.Gen.frame m ρ

theorem frame_woRef : Cert.quiescent_WoRefIdeal := fun m ρ _ =>
  (θ_run Cert.WoRefIdeal.defs _ _).mono (fun r h => ⟨fun c => (h c).2.2, sem_eq_zero_of_no_sems (by decide) r.2⟩) (Cert.WoRefIdeal.Value.run (F := Ideal) m ρ)

theorem frame_mlp : Cert.quiescent_Mlp := fun m ρ _ => Cert.Mlp.Gen.frame m ρ

theorem frame_mlpIdeal : Cert.quiescent_MlpIdeal := fun m ρ _ => Cert.MlpIdeal.Gen.frame m ρ

theorem frame_mlpRef : Cert.quiescent_MlpRefIdeal := fun m ρ _ =>
  (θ_run Cert.MlpRefIdeal.defs _ _).mono (fun r h => ⟨fun c => (h c).2, sem_eq_zero_of_no_sems (by decide) r.2⟩) (Cert.MlpRefIdeal.Value.run (F := Ideal) m ρ)

theorem preserves_kernel : Cert.preserves_Kernel_KernelIdeal :=
  ⟨IdealRules.named_const.statement Cert.KernelIdeal.κ "mask" .f32 0xCE6E6B28#32 ⊥ rfl, IdealRules.named_const.statement Cert.KernelIdeal.κ "dead" .f32 0xCDEE6B28#32 ⊥ rfl⟩

theorem preserves_proj : Cert.preserves_Proj_ProjIdeal := trivial

theorem preserves_wo : Cert.preserves_Wo_WoIdeal := trivial

theorem preserves_mlp : Cert.preserves_Mlp_MlpIdeal := trivial

end Cert.Proof

end
-- ==== Proof.Online.lean ====
/-
  Softmax over masked scores: a masked score is the bottom element, weights are real, and the running form over tiles
  (maximum, denominator, numerator, rescaled at each tile) ends at the quotient of the whole row's weighted sums.
-/
module

public import Idealize.ShloMosaic.PureOps.Ideal.Laws

@[expose] public section

noncomputable section

namespace Cert.Online

open Idealize.ShloMosaic

/-- The weight of a score: zero where masked. -/
def wt (s : EReal) : ℝ := if s = ⊥ then 0 else Real.exp s.toReal

theorem wt_bot : wt ⊥ = 0 := if_pos rfl

theorem wt_pos {s : EReal} (h : s ≠ ⊥) : 0 < wt s := by rw [wt, if_neg h]; exact Real.exp_pos _

theorem wt_nonneg (s : EReal) : 0 ≤ wt s := by
  by_cases h : s = ⊥
  · rw [h, wt_bot]
  · exact (wt_pos h).le

theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

theorem exp_sub {s : EReal} (hs : s ≠ ⊤) (μ : ℝ) : Ideal.exp (s - (μ : EReal)) = ((wt s * Real.exp (-μ) : ℝ) : EReal) := by
  induction s with
  | bot => rw [wt_bot, zero_mul, EReal.bot_sub]; rfl
  | top => exact absurd rfl hs
  | coe r =>
    rw [← EReal.coe_sub, Ideal.exp_coe, wt, if_neg (EReal.coe_ne_bot r), EReal.toReal_coe, ← Real.exp_add, sub_eq_add_neg]

theorem exp_bot : Ideal.exp ⊥ = 0 := rfl

theorem div_coe {x y : ℝ} (hy : y ≠ 0) : Ideal.div (x : EReal) (y : EReal) = ((x / y : ℝ) : EReal) := by
  rw [Ideal.div, if_neg (by exact_mod_cast hy), ← EReal.coe_inv, ← EReal.coe_mul, div_eq_mul_inv]

section Row

variable {ι : Type*} [Fintype ι] (s : ι → EReal)

theorem sup_ne_top (hs : ∀ i, s i ≠ ⊤) : Finset.univ.sup s ≠ ⊤ := by
  refine ((Finset.sup_lt_iff (f := s) (s := Finset.univ) (a := ⊤) bot_lt_top).mpr fun i _ => (hs i).lt_top).ne

theorem sup_ne_bot {i : ι} (hi : s i ≠ ⊥) : Finset.univ.sup s ≠ ⊥ := fun h =>
  hi (le_bot_iff.mp (h ▸ Finset.le_sup (f := s) (Finset.mem_univ i)))

theorem sup_real (hs : ∀ i, s i ≠ ⊤) {i : ι} (hi : s i ≠ ⊥) : ∃ μ : ℝ, Finset.univ.sup s = (μ : EReal) :=
  ⟨_, (EReal.coe_toReal (sup_ne_top s hs) (sup_ne_bot s hi)).symm⟩

theorem total_pos {i : ι} (hi : s i ≠ ⊥) : 0 < ∑ j, wt (s j) :=
  Finset.sum_pos' (fun j _ => wt_nonneg _) ⟨i, Finset.mem_univ i, wt_pos hi⟩

/-- A row's probability is the quotient of weights, whatever real number was subtracted first. -/
theorem prob (hs : ∀ i, s i ≠ ⊤) {i : ι} (hi : s i ≠ ⊥) (j : ι) :
    Ideal.div (Ideal.exp (s j - Finset.univ.sup s)) (∑ k, Ideal.exp (s k - Finset.univ.sup s)) = ((wt (s j) / ∑ k, wt (s k) : ℝ) : EReal) := by
  obtain ⟨μ, hμ⟩ := sup_real s hs hi
  rw [hμ, exp_sub (hs j), Finset.sum_congr rfl fun k _ => exp_sub (hs k) μ, ← coe_sum, ← Finset.sum_mul,
    div_coe (mul_pos (total_pos s hi) (Real.exp_pos _)).ne', mul_div_mul_right _ _ (Real.exp_pos _).ne']

/-- The weighted mean of a row. -/
def soft (v : ι → ℝ) : ℝ := (∑ k, wt (s k) * v k) / ∑ k, wt (s k)

theorem soft_eq (hs : ∀ i, s i ≠ ⊤) {i : ι} (hi : s i ≠ ⊥) (v : ι → ℝ) :
    ∑ j, Ideal.div (Ideal.exp (s j - Finset.univ.sup s)) (∑ k, Ideal.exp (s k - Finset.univ.sup s)) * (v j : EReal) = ((soft s v : ℝ) : EReal) := by
  rw [soft, Finset.sum_div, coe_sum]
  refine Finset.sum_congr rfl fun j _ => ?_
  rw [prob s hs hi j, ← EReal.coe_mul]
  congr 1; ring

end Row

section Tiles

variable {n : ℕ} (s : ℕ → Fin n → EReal) (v : ℕ → Fin n → ℝ)

/-- The weighted sum over the first tiles. -/
def acc (k : ℕ) : ℝ := ∑ b ∈ Finset.range k, ∑ c, wt (s b c) * v b c

/-- What the running triple is after the first tiles: untouched while everything was masked, and the weighted sums scaled by
    one common factor afterwards. -/
def Inv (k : ℕ) (m l a : EReal) : Prop :=
  (m = ⊥ ∧ l = 0 ∧ a = 0 ∧ ∀ b < k, ∀ c, s b c = ⊥)
    ∨ ∃ μ : ℝ, m = μ ∧ l = ((acc s (fun _ _ => 1) k * Real.exp (-μ) : ℝ) : EReal) ∧ a = ((acc s v k * Real.exp (-μ) : ℝ) : EReal) ∧ ∃ b < k, ∃ c, s b c ≠ ⊥

theorem inv_zero : Inv s v 0 ⊥ 0 0 := .inl ⟨rfl, rfl, rfl, fun b hb => absurd hb (Nat.not_lt_zero b)⟩

theorem acc_succ (k : ℕ) : acc s v (k + 1) = acc s v k + ∑ c, wt (s k c) * v k c := Finset.sum_range_succ _ _

theorem acc_masked (k : ℕ) (h : ∀ b < k, ∀ c, s b c = ⊥) : acc s v k = 0 := by
  refine Finset.sum_eq_zero fun b hb => Finset.sum_eq_zero fun c _ => ?_
  rw [h b (Finset.mem_range.mp hb) c, wt_bot, zero_mul]

theorem inv_skip {k : ℕ} {m l a : EReal} (h : Inv s v k m l a) (hk : ∀ c, s k c = ⊥) : Inv s v (k + 1) m l a := by
  have hz : ∀ w : ℕ → Fin n → ℝ, acc s w (k + 1) = acc s w k := fun w => by
    rw [acc_succ, Finset.sum_eq_zero (fun c _ => by rw [hk c, wt_bot, zero_mul]), add_zero]
  rcases h with ⟨h1, h2, h3, h4⟩ | ⟨μ, h1, h2, h3, b, hb, c, hc⟩
  · refine .inl ⟨h1, h2, h3, fun b hb c => ?_⟩
    rcases Nat.lt_succ_iff_lt_or_eq.mp hb with hb | rfl
    · exact h4 b hb c
    · exact hk c
  · exact .inr ⟨μ, h1, by rw [h2, hz], by rw [h3, hz], b, Nat.lt_succ_of_lt hb, c, hc⟩

theorem inv_step {k : ℕ} {m l a : EReal} (h : Inv s v k m l a) (hs : ∀ c, s k c ≠ ⊤) (L : EReal)
    (hL : max m (Finset.univ.sup (s k)) ≠ ⊥ → L = 1) :
    Inv s v (k + 1) (max m (Finset.univ.sup (s k)))
      (l * Ideal.exp (m - max m (Finset.univ.sup (s k))) + ∑ c, Ideal.exp (s k c - max m (Finset.univ.sup (s k))) * L)
      (a * Ideal.exp (m - max m (Finset.univ.sup (s k))) + ∑ c, Ideal.exp (s k c - max m (Finset.univ.sup (s k))) * L * (v k c : EReal)) := by
  have hmtop : m ≠ ⊤ := by
    rcases h with ⟨h1, _⟩ | ⟨μ, h1, _⟩ <;> rw [h1]
    · exact bot_ne_top
    · exact EReal.coe_ne_top μ
  by_cases hM : max m (Finset.univ.sup (s k)) = ⊥
  · rw [hM]
    obtain ⟨hm, hsup⟩ := max_eq_bot.mp hM
    have hk : ∀ c, s k c = ⊥ := fun c => le_bot_iff.mp (hsup ▸ Finset.le_sup (f := s k) (Finset.mem_univ c))
    rcases h with ⟨h1, h2, h3, h4⟩ | ⟨μ, h1, _⟩
    · have := inv_skip s v (.inl ⟨h1, h2, h3, h4⟩ : Inv s v k m l a) hk
      subst h1 h2 h3
      simpa [hk, exp_bot, EReal.bot_sub] using this
    · exact absurd (h1.symm.trans hm) (EReal.coe_ne_bot μ)
  · rw [hL hM]
    obtain ⟨μ', hμ'⟩ : ∃ μ' : ℝ, max m (Finset.univ.sup (s k)) = μ' :=
      ⟨_, (EReal.coe_toReal (by rcases max_choice m (Finset.univ.sup (s k)) with h | h <;> rw [h]; exacts [hmtop, sup_ne_top _ hs]) hM).symm⟩
    rw [hμ']
    have hlive : ∃ b < k + 1, ∃ c, s b c ≠ ⊥ := by
      by_contra hno
      push Not at hno
      refine hM (max_eq_bot.mpr ⟨?_, ?_⟩)
      · rcases h with ⟨h1, _⟩ | ⟨_, _, _, _, b, hb, c, hc⟩
        · exact h1
        · exact absurd (hno b (Nat.lt_succ_of_lt hb) c) hc
      · exact (Finset.sup_congr rfl fun c _ => hno k (Nat.lt_succ_self k) c).trans (Finset.sup_bot _)
    have key : ∀ (w : ℕ → Fin n → ℝ) (x : EReal), ((m = ⊥ ∧ x = 0 ∧ ∀ b < k, ∀ c, s b c = ⊥) ∨ ∃ μ : ℝ, m = μ ∧ x = ((acc s w k * Real.exp (-μ) : ℝ) : EReal)) →
        x * Ideal.exp (m - (μ' : EReal)) + ∑ c, Ideal.exp (s k c - (μ' : EReal)) * 1 * (w k c : EReal) = ((acc s w (k + 1) * Real.exp (-μ') : ℝ) : EReal) := by
      intro w x hx
      have h2 : ∑ c, Ideal.exp (s k c - (μ' : EReal)) * 1 * (w k c : EReal) = (((∑ c, wt (s k c) * w k c) * Real.exp (-μ') : ℝ) : EReal) := by
        rw [Finset.sum_mul, coe_sum]
        refine Finset.sum_congr rfl fun c _ => ?_
        rw [exp_sub (hs c), mul_one, ← EReal.coe_mul]
        congr 1; ring
      have h1 : x * Ideal.exp (m - (μ' : EReal)) = ((acc s w k * Real.exp (-μ') : ℝ) : EReal) := by
        rcases hx with ⟨_, hx, h4⟩ | ⟨μ, hm, hx⟩
        · rw [hx, zero_mul, acc_masked s w k h4, zero_mul]; rfl
        · rw [hx, hm, ← EReal.coe_sub, Ideal.exp_coe, ← EReal.coe_mul, mul_assoc, ← Real.exp_add]
          congr 3; ring
      rw [h1, h2, ← EReal.coe_add, acc_succ, add_mul]
    refine .inr ⟨μ', rfl, ?_, ?_, hlive⟩
    · rw [← key (fun _ _ => 1) l (h.imp (fun h => ⟨h.1, h.2.1, h.2.2.2⟩) fun ⟨μ, h1, h2, _⟩ => ⟨μ, h1, h2⟩)]
      simp only [EReal.coe_one, mul_one]
    · exact key v a (h.imp (fun h => ⟨h.1, h.2.2.1, h.2.2.2⟩) fun ⟨μ, h1, _, h2, _⟩ => ⟨μ, h1, h2⟩)

theorem inv_skips {k : ℕ} {m l a : EReal} (h : Inv s v k m l a) (K : ℕ) (hK : ∀ b, k ≤ b → b < k + K → ∀ c, s b c = ⊥) : Inv s v (k + K) m l a := by
  induction K with
  | zero => exact h
  | succ K ih => exact inv_skip s v (ih fun b h1 h2 => hK b h1 (by omega)) (hK (k + K) (by omega) (by omega))

theorem inv_final {k : ℕ} {m l a : EReal} (h : Inv s v k m l a) {b : ℕ} (hb : b < k) {c : Fin n} (hc : s b c ≠ ⊥) :
    Ideal.div a l = ((acc s v k / acc s (fun _ _ => 1) k : ℝ) : EReal) := by
  rcases h with ⟨_, _, _, h4⟩ | ⟨μ, _, h2, h3, _⟩
  · exact absurd (h4 b hb c) hc
  · have hpos : 0 < acc s (fun _ _ => 1) k := by
      refine Finset.sum_pos' (fun b _ => Finset.sum_nonneg fun c _ => mul_nonneg (wt_nonneg _) zero_le_one) ⟨b, Finset.mem_range.mpr hb, ?_⟩
      exact Finset.sum_pos' (fun c _ => mul_nonneg (wt_nonneg _) zero_le_one) ⟨c, Finset.mem_univ c, by rw [mul_one]; exact wt_pos hc⟩
    rw [h2, h3, div_coe (mul_pos hpos (Real.exp_pos _)).ne', mul_div_mul_right _ _ (Real.exp_pos _).ne']

/-- Sums over tiles are the sum over the whole row. -/
theorem acc_row {T N : ℕ} (hN : T * n = N) (S : Fin N → EReal) (V : Fin N → ℝ)
    (hS : ∀ (b : Fin T) (c : Fin n) (h : n * b.val + c.val < N), s b.val c = S ⟨n * b.val + c.val, h⟩)
    (hV : ∀ (b : Fin T) (c : Fin n) (h : n * b.val + c.val < N), v b.val c = V ⟨n * b.val + c.val, h⟩) :
    acc s v T = ∑ p, wt (S p) * V p := by
  subst hN
  rw [acc, Finset.sum_range, ← finProdFinEquiv.sum_comp, Fintype.sum_prod_type]
  refine Finset.sum_congr rfl fun b _ => Finset.sum_congr rfl fun c _ => ?_
  have hp : ∀ h, finProdFinEquiv (b, c) = (⟨n * b.val + c.val, h⟩ : Fin (T * n)) := fun h => Fin.ext (by simp [finProdFinEquiv]; omega)
  have hlt : n * b.val + c.val < T * n := by
    have := (finProdFinEquiv (b, c)).isLt
    simp [finProdFinEquiv] at this; omega
  rw [hp hlt, hS b c hlt, hV b c hlt]

end Tiles

end Cert.Online

end
-- ==== Proof.AttnSpec.lean ====
/-
  The attention call's result in real numbers, entry by entry, as a function of the entries it is given: the three branches
  of one query head at one row, and that no softmax row of the selected or the window branch is empty.
-/
module

public import proofs.«01_k».proof.Proof.Online
public import Idealize.ShloMosaic.Lib.Pointwise

@[expose] public section

noncomputable section

namespace Cert.AttnSpec

open Idealize.ShloMosaic Cert.Online

/-- The real number a finite entry is. -/
def entry (x : (⟨2, ![2048, 3200]⟩ : Shape).Idx → EReal) (r c : ℕ) : ℝ :=
  if h : r < 2048 ∧ c < 3200 then (x (ix2 ⟨r, h.1⟩ ⟨c, h.2⟩)).toReal else 0

/-- Every entry is a real number. -/
def Finite (x : (⟨2, ![2048, 3200]⟩ : Shape).Idx → EReal) : Prop := ∀ j, x j ≠ ⊤ ∧ x j ≠ ⊥

theorem entry_eq {x : (⟨2, ![2048, 3200]⟩ : Shape).Idx → EReal} (hx : Finite x) (r : Fin 2048) (c : Fin 3200) :
    x (ix2 r c) = (entry x r.val c.val : EReal) := by
  rw [entry, dif_pos ⟨r.isLt, c.isLt⟩]
  exact (EReal.coe_toReal (hx _).1 (hx _).2).symm

/-- The scale of the scores. -/
def scale : ℝ := (Ideal.ofBits .f32 0x3DB504F3#32).toReal

/-- What a forced block gains. -/
def big : ℝ := (Ideal.ofBits .f32 0x4E6E6B28#32).toReal

theorem scale_eq : Ideal.ofBits .f32 0x3DB504F3#32 = (scale : EReal) := by
  refine (EReal.coe_toReal ?_ ?_).symm <;> simp [Ideal.ofBits, Ideal.ieee, -EReal.coe_mul]

theorem big_eq : Ideal.ofBits .f32 0x4E6E6B28#32 = (big : EReal) := by
  refine (EReal.coe_toReal ?_ ?_).symm <;> simp [Ideal.ofBits, Ideal.ieee, -EReal.coe_mul]

variable (E : ℕ → ℕ → ℝ)

/-- The scaled product of a query row and a key row. -/
def qk (h t p : ℕ) : ℝ := (∑ d : Fin 128, E t (128 * h + d.val) * E p (2048 + 128 * (h / 4) + d.val)) * scale

/-- A value entry. -/
def val (h p d : ℕ) : ℝ := E p (2560 + 128 * (h / 4) + d)

/-- The mean of a block of keys. -/
def kc (g c d : ℕ) : ℝ := (∑ i : Fin 32, E (16 * c + i.val) (2048 + 128 * g + d)) / 32

/-- The mean of a block of values. -/
def vc (g c d : ℕ) : ℝ := (∑ i : Fin 32, E (16 * c + i.val) (2560 + 128 * g + d)) / 32

/-- The compressed branch's scores. -/
def sC (h t c : ℕ) : EReal :=
  if 16 * c + 31 ≤ t then (((∑ d : Fin 128, E t (128 * h + d.val) * kc E (h / 4) c d.val) * scale : ℝ) : EReal) else ⊥

/-- The compressed branch's probabilities. -/
def pC (h t c : ℕ) : ℝ := wt (sC E h t c) / ∑ c' : Fin 127, wt (sC E h t c'.val)

/-- The importance of a compressed block to a group. -/
def imp (g t c : ℕ) : ℝ := ∑ j : Fin 4, pC E (4 * g + j.val) t c

/-- The importance of a selection block. -/
def blk (g t b : ℕ) : ℝ := ∑ c : Fin 127, imp E g t c.val * (if c.val / 4 = b then 1 else 0)

/-- The scores the selection compares. -/
def sco (g t b : ℕ) : EReal :=
  if 64 * b ≤ t then ((blk E g t b + big * (if b = 0 ∨ b = t / 64 then 1 else 0) : ℝ) : EReal) else ⊥

/-- A block is selected when fewer than sixteen blocks score above it. -/
def chosen (g t b : ℕ) : Prop := (Finset.univ.filter fun b' : Fin 32 => sco E g t b < sco E g t b'.val).card < 16

open Classical in
/-- The selected branch's scores. -/
def sS (h t p : ℕ) : EReal := if p ≤ t ∧ chosen E (h / 4) t (p / 64) then (qk E h t p : EReal) else ⊥

/-- The window branch's scores. -/
def sW (h t p : ℕ) : EReal := if p ≤ t ∧ t < p + 512 then (qk E h t p : EReal) else ⊥

/-- A branch's gate. -/
def gate (e h t : ℕ) : ℝ := 1 / (1 + Real.exp (-(E t (3072 + 3 * h + e))))

/-- The compressed branch. -/
def outC (h t d : ℕ) : ℝ := ∑ c : Fin 127, pC E h t c.val * vc E (h / 4) c.val d

/-- The selected branch. -/
def outS (h t d : ℕ) : ℝ := soft (fun p : Fin 2048 => sS E h t p.val) fun p => val E h p.val d

/-- The window branch. -/
def outW (h t d : ℕ) : ℝ := soft (fun p : Fin 2048 => sW E h t p.val) fun p => val E h p.val d

/-- One entry of one query head. -/
def out (h t d : ℕ) : ℝ := gate E 0 h t * outC E h t d + gate E 1 h t * outS E h t d + gate E 2 h t * outW E h t d

theorem sC_ne_top (h t c : ℕ) : sC E h t c ≠ ⊤ := by rw [sC]; split_ifs; exacts [EReal.coe_ne_top _, bot_ne_top]
theorem sS_ne_top (h t p : ℕ) : sS E h t p ≠ ⊤ := by rw [sS]; split_ifs; exacts [EReal.coe_ne_top _, bot_ne_top]
theorem sW_ne_top (h t p : ℕ) : sW E h t p ≠ ⊤ := by rw [sW]; split_ifs; exacts [EReal.coe_ne_top _, bot_ne_top]

theorem sW_live (h t : ℕ) : sW E h t t ≠ ⊥ := by rw [sW, if_pos ⟨le_refl _, by omega⟩]; exact EReal.coe_ne_bot _

/-- The selected branch sees some position: the best block is selected, and starts at a position already reached. -/
theorem sS_live (h t : ℕ) : ∃ p ≤ t, sS E h t p ≠ ⊥ := by
  obtain ⟨b, -, hb⟩ := Finset.exists_max_image (Finset.univ : Finset (Fin 32)) (fun b => sco E (h / 4) t b.val) ⟨0, Finset.mem_univ _⟩
  have h0 : sco E (h / 4) t 0 ≠ ⊥ := by rw [sco, if_pos (by omega)]; exact EReal.coe_ne_bot _
  have hle : 64 * b.val ≤ t := by
    by_contra hno
    have := hb 0 (Finset.mem_univ _)
    rw [show sco E (h / 4) t b.val = ⊥ from if_neg hno] at this
    exact h0 (le_bot_iff.mp this)
  have hch : chosen E (h / 4) t (64 * b.val / 64) := by
    rw [show 64 * b.val / 64 = b.val by omega, chosen, Finset.filter_false_of_mem fun b' hb' => not_lt.mpr (hb b' hb')]
    simp
  refine ⟨64 * b.val, hle, ?_⟩
  rw [sS, if_pos ⟨hle, hch⟩]
  exact EReal.coe_ne_bot _

end Cert.AttnSpec

end
-- ==== Proof.AttnInts.lean ====
/-
  The attention body's integer tables at an index: positions, block numbers, and the comparisons its masks are made of.
-/
module

public import proofs.«01_k».proof.Proof.Heads
public import proofs.«01_k».proof.Proof.AttnSpec
public import Idealize.ShloMosaic.Lib.Pointwise

@[expose] public section

noncomputable section

namespace Cert.KernelIdeal.Attn

open Cert.KernelIdeal Cert.KernelIdeal.Gen
open Idealize.ShloMosaic Idealize.ShloMosaic.TcCoe Idealize.ShloMosaic.Tactic

theorem toInt_nat {a : ℕ} (ha : a < 2 ^ 31) : (BitVec.ofNat 32 a).toInt = (a : ℤ) := by
  have h : (BitVec.ofNat 32 a).toNat = a := by rw [BitVec.toNat_ofNat]; omega
  rw [BitVec.toInt_eq_toNat_of_lt (by rw [h]; omega), h]

theorem sle_nat {a b : ℕ} (ha : a < 2 ^ 31) (hb : b < 2 ^ 31) : IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [toInt_nat ha, toInt_nat hb]
  simp only [Nat.cast_le]

theorem sge_nat {a b : ℕ} (ha : a < 2 ^ 31) (hb : b < 2 ^ 31) : IntOp.cmpi .sge (BitVec.ofNat 32 a) (BitVec.ofNat 32 b) = BitVec.ofBool (decide (b ≤ a)) :=
  sle_nat hb ha

theorem slt_nat {a b : ℕ} (ha : a < 2 ^ 31) (hb : b < 2 ^ 31) : IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_nat ha, toInt_nat hb]
  simp only [Nat.cast_lt]

theorem eq_nat {a b : ℕ} (ha : a < 2 ^ 31) (hb : b < 2 ^ 31) : IntOp.cmpi .eq (BitVec.ofNat 32 a) (BitVec.ofNat 32 b) = BitVec.ofBool (decide (a = b)) := by
  simp only [IntOp.cmpi]
  congr 1
  rw [Bool.eq_iff_iff, beq_iff_eq, decide_eq_true_iff, ← BitVec.toNat_inj, BitVec.toNat_ofNat, BitVec.toNat_ofNat]
  omega

theorem and_bool (a b : Bool) : IntOp.andi (BitVec.ofBool a) (BitVec.ofBool b) = BitVec.ofBool (a && b) := by revert a b; decide
theorem or_bool (a b : Bool) : IntOp.ori (BitVec.ofBool a) (BitVec.ofBool b) = BitVec.ofBool (a || b) := by revert a b; decide

theorem select_bool {α : Type} (p : Bool) (x y : α) : Scalar.select (BitVec.ofBool p) x y = if p = true then x else y := by cases p <;> rfl

/-- A zero-one flag as a number. -/
theorem flag (p : Bool) : (FloatOps.sitofp .f32 (BitVec.setWidth 32 (BitVec.ofBool p)) : Ideal .f32) = (((if p = true then 1 else 0 : ℝ)) : EReal) := by
  cases p
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

theorem mask_bot (w : BitVec 32) : (Named.named κ "mask" w : Ideal .f32) = ⊥ := by
  rfl

theorem dead_bot (w : BitVec 32) : (Named.named κ "dead" w : Ideal .f32) = ⊥ := by
  rfl

/-- The position of row `r` of the point's block. -/
def pos (i : grid0.Coords) (r : ℕ) : ℕ := 256 * (i 0).val + r

theorem pos_lt (i : grid0.Coords) (r : Fin 256) : pos i r.val < 2048 := by
  have := row_lt i
  have := r.isLt
  unfold pos; omega

theorem pay263_apply (i : grid0.Coords) (r : Fin 256) : k0_pay263 i (ix2 r 0) = BitVec.ofNat 32 (pos i r.val) := by
  pointwise [k0_pay263]
  show BitVec.ofNat 32 (i 0).val * BitVec.ofNat 32 256 + _ = _
  rw [← BitVec.ofNat_mul, ← BitVec.ofNat_add, pos, Nat.mul_comm]

theorem pay270_apply (i : grid0.Coords) (r : Fin 256) (c : Fin 128) :
    k0_pay270 i (ix2 r c) = BitVec.ofBool (decide (16 * c.val + 31 ≤ pos i r.val ∧ c.val < 127)) := by
  pointwise [k0_pay270]
  rw [pay263_apply, show (IntOp.subi (IntOp.addi (IntOp.muli (BitVec.ofNat 32 c.val) 16#32) 32#32) 1#32) = BitVec.ofNat 32 (16 * c.val + 31) from ?_,
    sle_nat (by omega) (by have := pos_lt i r; omega), slt_nat (by omega) (by omega), and_bool, Bool.decide_and]
  have h : ∀ n : Fin 128, IntOp.subi (IntOp.addi (IntOp.muli (BitVec.ofNat 32 n.val) 16#32) 32#32) 1#32 = BitVec.ofNat 32 (16 * n.val + 31) := by decide +kernel
  exact h c

theorem lane_apply (r : Fin 256) (c : Fin 128) : lane (ix2 r c) = BitVec.ofNat 32 c.val := by
  pointwise [lane]

/-- The floor division by the block length, as the body writes it. -/
theorem floorDiv : ∀ n : Fin 2048, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32) : BitVec 32)
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) =
    BitVec.ofNat 32 (n.val / 64) := by decide +kernel

/-- The floor division by four. -/
theorem floorDiv4 : ∀ n : Fin 128, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 4#32 0#32) : BitVec 32)
            (Scalar.extui (Scalar.cmpi CmpIPredicate.slt 4#32 0#32))))
        (IntOp.cmpi CmpIPredicate.ne (IntOp.remsi ArithUnit.vector (BitVec.ofNat 32 n.val) 4#32) 0#32))
      (IntOp.subi (IntOp.divsi ArithUnit.vector (BitVec.ofNat 32 n.val) 4#32) 1#32)
      (IntOp.divsi ArithUnit.vector (BitVec.ofNat 32 n.val) 4#32) =
    BitVec.ofNat 32 (n.val / 4) := by decide +kernel

theorem pay292_apply (i : grid0.Coords) (r : Fin 256) : k0_pay292 (k0_pay263 i) (ix2 r 0) = BitVec.ofNat 32 (pos i r.val / 64) := by
  pointwise [k0_pay292]
  rw [pay263_apply]
  generalize hn : pos i r.val = n
  exact floorDiv ⟨n, hn ▸ pos_lt i r⟩

theorem seg_apply (r c : Fin 128) : seg (F := Ideal) (ix2 r c) = (((if r.val / 4 = c.val ∧ r.val < 127 then 1 else 0 : ℝ)) : EReal) := by
  pointwise [seg, k0_pay275, k0_pay272, k0_pay273, k0_pay274]
  rw [floorDiv4 r, eq_nat (by omega) (by omega), slt_nat (by omega) (by omega), and_bool, select_bool, ← Bool.decide_and]
  simp only [decide_eq_true_iff]
  split_ifs <;> simp

theorem thirtysecond : Ideal.ofBits .f32 0x3D000000#32 = ((1 / 32 : ℝ) : EReal) := by
  simp [Ideal.ofBits, Ideal.ieee, -EReal.coe_mul]; norm_num

theorem pay3_apply (r : Fin 128) (c : Fin 2048) : k0_pay3 (F := Ideal) (ix2 r c) = (((if 16 * r.val ≤ c.val ∧ c.val < 16 * r.val + 32 then 1 / 32 else 0 : ℝ)) : EReal) := by
  pointwise [k0_pay3]
  have h : ∀ n : Fin 128, IntOp.muli (BitVec.ofNat 32 n.val) 16#32 = BitVec.ofNat 32 (16 * n.val) := by decide +kernel
  have h' : ∀ n : Fin 128, IntOp.addi (BitVec.ofNat 32 (16 * n.val)) 32#32 = BitVec.ofNat 32 (16 * n.val + 32) := by decide +kernel
  rw [h, h', sge_nat (by omega) (by omega), slt_nat (by omega) (by omega), and_bool, select_bool, ← Bool.decide_and, thirtysecond]
  simp only [decide_eq_true_iff]
  split_ifs <;> simp

theorem tileCol (i : grid0.Coords) (k : Fin (Tr i)) (c : Fin 256) :
    IntOp.addi (Scalar.muli (Scf.iv 0#32 1#32 k.val) 256#32) (BitVec.ofNat 32 c.val) = BitVec.ofNat 32 (256 * k.val + c.val) := by
  have h : ∀ k : Fin 8, Scalar.muli (Scf.iv 0#32 1#32 k.val) 256#32 = BitVec.ofNat 32 (256 * k.val) := by decide +kernel
  have := k.isLt
  have h2 := trips_eq i
  have h3 := row_lt i
  rw [h ⟨k.val, by omega⟩]
  exact (BitVec.ofNat_add _ _).symm

theorem tile_col_lt (i : grid0.Coords) (k : Fin (Tr i)) (c : Fin 256) : 256 * k.val + c.val < 2048 := by
  have := k.isLt
  have h2 := trips_eq i
  have h3 := row_lt i
  omega

/-- A slab's entry is the row mask at the block its column lies in. -/
theorem slab_apply (i : grid0.Coords) (sel : FVec Ideal S256x128 .f32) (k : Fin (Tr i)) (r c : Fin 256) :
    slabPay i sel k (ix3 0 r c) = sel (ix2 r ⟨(256 * k.val + c.val) / 64, by have := tile_col_lt i k c; omega⟩) := by
  have hlt := tile_col_lt i k c
  pointwise [slabPay]
  simp only [tileCol, floorDiv ⟨_, hlt⟩]
  have hb : (256 * k.val + c.val) / 64 < 128 := by omega
  refine (Finset.sum_eq_single (⟨(256 * k.val + c.val) / 64, hb⟩ : Fin 128) (fun b _ hne => ?_) (fun h => absurd (Finset.mem_univ _) h)).trans ?_
  · rw [eq_nat (by omega) (by omega), select_bool, if_neg]
    rw [decide_eq_true_iff]; exact fun h => hne (Fin.ext h.symm)
  · rw [eq_nat (by omega) (by omega), select_bool, if_pos (decide_eq_true rfl)]

theorem near_iff (i : grid0.Coords) (k : Fin (Tr i)) : nearW (BitVec.ofNat 32 (i 0).val) 0#32 i k = 1#1 ↔ (i 0).val ≤ k.val + 2 := by
  have h : ∀ n k : Fin 8, (Scalar.cmpi .ne (Scalar.extui (Scalar.cmpi .sge (Scf.iv 0#32 1#32 k.val) (Scalar.subi (BitVec.ofNat 32 n.val) 2#32)) : BitVec 32) 0#32 = 1#1) ↔ n.val ≤ k.val + 2 := by decide +kernel
  have := k.isLt
  have h2 := trips_eq i
  have h3 := row_lt i
  exact h (i 0) ⟨k.val, by omega⟩

theorem pay7_apply (i : grid0.Coords) (k : Fin (Tr i)) (r c : Fin 256) : k0_pay7 i 0#32 1#32 k (ix2 r c) = BitVec.ofNat 32 (256 * k.val + c.val) := by
  pointwise [k0_pay7]
  exact tileCol i k c

end Cert.KernelIdeal.Attn

end
-- ==== Proof.IdealOps.lean ====
/-
  Vector operations read at an index, at the ideal instance: products, row sums, and the layouts a row statistic passes through.
-/
module

public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.IdealOps

open Idealize.ShloMosaic Idealize.ShloMosaic.ValueIdx

theorem mm_plain {M K N : ℕ} {φ₁ φ₂ : FTy} (prec : Option ContractPrecision) (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c) = ∑ k : Fin K, lhs (ix2 r k) * rhs (ix2 k c) := by
  refine (Ideal.matmul_plain_apply prec lhs rhs _ r c).trans ?_
  rw [constant_apply]; exact (congrArg (· + _) Ideal.ofBits_zero_f32).trans (zero_add _)

theorem mm_transposed {M K N : ℕ} {φ₁ φ₂ : FTy} (prec : Option ContractPrecision) (lhs : FVec Ideal ⟨2, ![M, K]⟩ φ₁) (rhs : FVec Ideal ⟨2, ![N, K]⟩ φ₂) (r : Fin M) (c : Fin N) :
    matmul (DotDims.transposedRhs M K N) prec lhs rhs (constant ⟨2, ![M, N]⟩ .f32 0x00000000#32) (ix2 r c) = ∑ k : Fin K, lhs (ix2 r k) * rhs (ix2 c k) := by
  refine (Ideal.matmul_transposedRhs_apply prec lhs rhs _ r c).trans ?_
  rw [constant_apply]; exact (congrArg (· + _) Ideal.ofBits_zero_f32).trans (zero_add _)

theorem row_sum {M N : ℕ} {φ : FTy} (v : FVec Ideal ⟨2, ![M, N]⟩ φ) (acc : BitVec φ.bits) (h : Shape.Reduces ⟨2, ![M, N]⟩ [1] ⟨1, ![M]⟩) (hφ : FKind.Formats φ)
    (hacc : acc = FKind.add.neutral φ hφ) (r : Fin M) : multiReduction .add [1] ⟨1, ![M]⟩ v acc h hφ hacc (ix1 r) = ∑ k : Fin N, v (ix2 r k) := by
  rw [Ideal.multiReduction_add_single]
  refine Finset.sum_congr rfl fun k _ => congrArg v (funext fun a => Fin.ext ?_)
  match a with
  | ⟨0, _⟩ => rfl
  | ⟨1, _⟩ => rfl

theorem row_max {M N : ℕ} {φ : FTy} (v : FVec Ideal ⟨2, ![M, N]⟩ φ) (acc : BitVec φ.bits) (h : Shape.Reduces ⟨2, ![M, N]⟩ [1] ⟨1, ![M]⟩) (hφ : FKind.Formats φ)
    (hacc : acc = FKind.maximumf.neutral φ hφ) (r : Fin M) :
    multiReduction .maximumf [1] ⟨1, ![M]⟩ v acc h hφ hacc (ix1 r) = (Finset.univ : Finset (Fin N)).fold max (FloatOps.ofBits φ acc) fun k => v (ix2 r k) := by
  rw [Ideal.multiReduction_maximumf_single]
  refine congrArg (fun f => Finset.fold max _ f (Finset.univ : Finset (Fin N))) (funext fun k => congrArg v (funext fun a => Fin.ext ?_))
  match a with
  | ⟨0, _⟩ => rfl
  | ⟨1, _⟩ => rfl

theorem col_cast {M : ℕ} {α : Type} (v : (⟨1, ![M]⟩ : Shape).Idx → α) (h : Shape.ShapeCasts ⟨1, ![M]⟩ ⟨2, ![M, 1]⟩) (r : Fin M) :
    shapeCast ⟨2, ![M, 1]⟩ v h (ix2 r 0) = v (ix1 r) :=
  shapeCast_apply v h _ _ (by rw [Shape.rowMajor_val_two, Shape.rowMajor_val_one]; show r.val = r.val * 1 + 0; omega)

theorem row_spread {M N : ℕ} {α : Type} (v : (⟨2, ![M, 1]⟩ : Shape).Idx → α) (h : Shape.Broadcasts ⟨2, ![M, 1]⟩ ⟨2, ![M, N]⟩) (hM : M ≠ 1) (r : Fin M) (c : Fin N) :
    broadcastTo ⟨2, ![M, N]⟩ v h (ix2 r c) = v (ix2 r 0) :=
  broadcastTo_apply v h _ _ fun a => match a with
    | ⟨0, _⟩ => by show r.val = if M = 1 then 0 else r.val; rw [if_neg hM]
    | ⟨1, _⟩ => by show 0 = if (1 : ℕ) = 1 then 0 else c.val; rw [if_pos rfl]

theorem col_spread {M N : ℕ} {α : Type} (v : (⟨2, ![1, N]⟩ : Shape).Idx → α) (h : Shape.Broadcasts ⟨2, ![1, N]⟩ ⟨2, ![M, N]⟩) (hN : N ≠ 1) (r : Fin M) (c : Fin N) :
    broadcastTo ⟨2, ![M, N]⟩ v h (ix2 r c) = v (ix2 0 c) :=
  broadcastTo_apply v h _ _ fun a => match a with
    | ⟨0, _⟩ => by show 0 = if (1 : ℕ) = 1 then 0 else r.val; rw [if_pos rfl]
    | ⟨1, _⟩ => by show c.val = if N = 1 then 0 else c.val; rw [if_neg hN]

/-- A row's root mean square: what both sides scale a row by. -/
def rms (row : Fin 2048 → EReal) : EReal :=
  Ideal.rsqrt (Ideal.div (∑ k, row k * row k) (Ideal.ofBits .f32 0x45000000#32) + Ideal.ofBits .f32 0x358637BD#32)

end Cert.IdealOps

end
-- ==== Proof.AttnReads.lean ====
/-
  What the attention body loads and prepares, entry by entry: queries, gates, keys, values, and their block means.
-/
module

public import proofs.«01_k».proof.Proof.AttnInts
public import proofs.«01_k».proof.Proof.IdealOps

@[expose] public section

noncomputable section

namespace Cert.KernelIdeal.Attn

open Cert.KernelIdeal Cert.KernelIdeal.Gen
open Idealize.ShloMosaic Idealize.ShloMosaic.TcCoe Idealize.ShloMosaic.Tactic
open Cert.AttnSpec

theorem box2 {M N m n : ℕ} {e : EltTy} (x : (⟨2, ![M, N]⟩ : Shape).Idx → Elt Ideal e) (o : Fin 2 → ℕ)
    (inb : ∀ a, o a + (![m, n] : Fin 2 → ℕ) a ≤ (⟨2, ![M, N]⟩ : Shape).size a) (r : Fin m) (c : Fin n) (R : Fin M) (C : Fin N)
    (hr : o 0 + r.val = R.val) (hc : o 1 + c.val = C.val) :
    box (F := Ideal) (e := e) x (Rect.unit (s := ⟨2, ![M, N]⟩) o ![m, n] inb) (ix2 r c) = x (ix2 R C) := by
  refine congrArg x (funext fun a => Fin.ext ?_)
  fin_cases a
  · simpa [Rect.unit, LoadRect.idx, Rect.toLoadRect] using hr
  · simpa [Rect.unit, LoadRect.idx, Rect.toLoadRect] using hc

variable (i : grid0.Coords) (x : Vec Ideal S2048x3200 .f32) (hx : Finite x)
include hx

theorem xQ_apply (g j : Fin 4) (r : Fin 256) (d : Fin 128) :
    xQ i x g j (ix2 r d) = (entry x (pos i r.val) (128 * (4 * g.val + j.val) + d.val) : EReal) := by
  have hr := pos_lt i r
  have hc : 128 * (4 * g.val + j.val) + d.val < 3200 := by omega
  refine (box2 (e := .f32) x _ (inbQ i g j) r d ⟨pos i r.val, hr⟩ ⟨_, hc⟩ ?_ rfl).trans (entry_eq hx _ _)
  show rowQ i + r.val = pos i r.val
  rw [rowQ_eq, pos]

theorem xG_apply (g j : Fin 4) (e : Fin 3) (r : Fin 256) :
    xG i x g j e (ix2 r 0) = (entry x (pos i r.val) (3072 + 3 * (4 * g.val + j.val) + e.val) : EReal) := by
  have hr := pos_lt i r
  have hc : 3072 + 3 * (4 * g.val + j.val) + e.val < 3200 := by omega
  refine (box2 (e := .f32) x _ (inbG i g j e) r 0 ⟨pos i r.val, hr⟩ ⟨_, hc⟩ ?_ ?_).trans (entry_eq hx _ _)
  · show rowQ i + r.val = pos i r.val
    rw [rowQ_eq, pos]
  · show 3072 + (3 * (4 * g.val + j.val) + e.val) + 0 = 3072 + 3 * (4 * g.val + j.val) + e.val
    omega

theorem KV_apply (r : Fin 2048) (c : Fin 1024) : KV x (ix2 r c) = (entry x r.val (2048 + c.val) : EReal) := by
  pointwise [KV, k0_pay2]
  exact (box2 (e := .f32) x _ inb_S2048x3200_S2048x1024_0_2048 r c r ⟨2048 + c.val, by omega⟩ (Nat.zero_add _) rfl).trans (entry_eq hx _ _)

theorem xK_apply (g : Fin 4) (k : Fin (Tr i)) (r : Fin 256) (d : Fin 128) :
    xK i x g k (ix2 r d) = (entry x (256 * k.val + r.val) (2048 + 128 * g.val + d.val) : EReal) := by
  have hr := tile_col_lt i k r
  refine (box2 (e := .bf16) (KV x) _ (inbK i g k) r d ⟨256 * k.val + r.val, hr⟩ ⟨128 * g.val + d.val, by omega⟩ ?_ rfl).trans ?_
  · exact congrArg (fun f : Fin 2 → ℕ => f 0 + r.val) (offT_eq i _ k)
  · rw [KV_apply x hx]; simp only [← Nat.add_assoc]

theorem xV_apply (g : Fin 4) (k : Fin (Tr i)) (r : Fin 256) (d : Fin 128) :
    xV i x g k (ix2 r d) = (entry x (256 * k.val + r.val) (2560 + 128 * g.val + d.val) : EReal) := by
  have hr := tile_col_lt i k r
  refine (box2 (e := .bf16) (KV x) _ (inbV i g k) r d ⟨256 * k.val + r.val, hr⟩ ⟨512 + 128 * g.val + d.val, by omega⟩ ?_ rfl).trans ?_
  · exact congrArg (fun f : Fin 2 → ℕ => f 0 + r.val) (offT_eq i _ k)
  · rw [KV_apply x hx]; simp only [← Nat.add_assoc]

omit hx in
/-- A product with the averaging matrix is the mean over a block. -/
theorem mean_sum (f : ℕ → ℝ) (c : Fin 128) :
    ∑ r : Fin 2048, ((((if 16 * c.val ≤ r.val ∧ r.val < 16 * c.val + 32 then 1 / 32 else 0 : ℝ)) : EReal) * (f r.val : EReal))
      = (((∑ r ∈ Finset.range 2048, if 16 * c.val ≤ r ∧ r < 16 * c.val + 32 then f r else 0) / 32 : ℝ) : EReal) := by
  rw [Finset.sum_range, Finset.sum_div, Online.coe_sum]
  refine Finset.sum_congr rfl fun r _ => ?_
  rw [← EReal.coe_mul]
  congr 1
  split_ifs <;> ring

omit hx in
theorem mean_block (f : ℕ → ℝ) (c : ℕ) (hc : c < 127) :
    (∑ r ∈ Finset.range 2048, if 16 * c ≤ r ∧ r < 16 * c + 32 then f r else 0) = ∑ k : Fin 32, f (16 * c + k.val) := by
  rw [← Finset.sum_filter, show (Finset.range 2048).filter (fun r => 16 * c ≤ r ∧ r < 16 * c + 32) = Finset.Ico (16 * c) (16 * c + 32) from ?_,
    Finset.sum_Ico_eq_sum_range, Nat.add_sub_cancel_left, Finset.sum_range]
  ext r
  simp only [Finset.mem_filter, Finset.mem_range, Finset.mem_Ico]
  omega

/-- The block means of the keys as the first point keeps them: the last row averages a short block. -/
def keyMean (E : ℕ → ℕ → ℝ) (g c d : ℕ) : ℝ := (∑ r ∈ Finset.range 2048, if 16 * c ≤ r ∧ r < 16 * c + 32 then E r (2048 + 128 * g + d) else 0) / 32

/-- The block means of the values likewise. -/
def valMean (E : ℕ → ℕ → ℝ) (g c d : ℕ) : ℝ := (∑ r ∈ Finset.range 2048, if 16 * c ≤ r ∧ r < 16 * c + 32 then E r (2560 + 128 * g + d) else 0) / 32

omit hx in
theorem keyMean_eq (E : ℕ → ℕ → ℝ) (g c d : ℕ) (hc : c < 127) : keyMean E g c d = kc E g c d := by rw [keyMean, mean_block _ c hc, kc]

omit hx in
theorem valMean_eq (E : ℕ → ℕ → ℝ) (g c d : ℕ) (hc : c < 127) : valMean E g c d = vc E g c d := by rw [valMean, mean_block _ c hc, vc]

theorem meanPay (o : ℕ) (inb : ∀ a, (![0, o] : Fin 2 → ℕ) a + S2048x128.size a ≤ S2048x3200.size a) (ho : o + 128 ≤ 3200) (c d : Fin 128) :
    ∑ r : Fin 2048, k0_pay3 (F := Ideal) (ix2 c r) * box (F := Ideal) (e := .f32) x (Rect.unit (s := S2048x3200) ![0, o] S2048x128.size inb) (ix2 r d)
      = (((∑ r ∈ Finset.range 2048, if 16 * c.val ≤ r ∧ r < 16 * c.val + 32 then entry x r (o + d.val) else 0) / 32 : ℝ) : EReal) := by
  rw [← mean_sum]
  refine Finset.sum_congr rfl fun r _ => ?_
  rw [pay3_apply]
  congr 1
  exact (box2 (e := .f32) x _ inb r d r ⟨o + d.val, by omega⟩ (Nat.zero_add _) rfl).trans (entry_eq hx _ _)

omit hx in
theorem emb2 {M N m n : ℕ} (o : Fin 2 → ℕ) (inb : ∀ a, o a + (![m, n] : Fin 2 → ℕ) a ≤ (⟨2, ![M, N]⟩ : Shape).size a) (r : Fin m) (c : Fin n) :
    ((Rect.unit (s := ⟨2, ![M, N]⟩) o ![m, n] inb).emb (ix2 r c) 0).val = o 0 + r.val
      ∧ ((Rect.unit (s := ⟨2, ![M, N]⟩) o ![m, n] inb).emb (ix2 r c) 1).val = o 1 + c.val := by
  constructor <;> simp [Rect.unit, Rect.emb]

omit hx in
theorem meanAt (f : ℕ → ℕ → ℕ → ℝ) (g o : ℕ) (c d : Fin 128) (inb : ∀ a, (![o, 0] : Fin 2 → ℕ) a + S128x128.size a ≤ S512x128.size a) (ho : o = 128 * g) :
    (f g c.val d.val : EReal) = (f (((Rect.unit (s := S512x128) ![o, 0] S128x128.size inb).emb (ix2 c d) 0).val / 128)
      (((Rect.unit (s := S512x128) ![o, 0] S128x128.size inb).emb (ix2 c d) 0).val % 128) ((Rect.unit (s := S512x128) ![o, 0] S128x128.size inb).emb (ix2 c d) 1).val : EReal) := by
  have h0 : ((Rect.unit (s := S512x128) ![o, 0] S128x128.size inb).emb (ix2 c d) 0).val = o + c.val := (emb2 (M := 512) (N := 128) _ inb c d).1
  have h1 : ((Rect.unit (s := S512x128) ![o, 0] S128x128.size inb).emb (ix2 c d) 1).val = 0 + d.val := (emb2 (M := 512) (N := 128) _ inb c d).2
  rw [h0, h1, ho, show (128 * g + c.val) / 128 = g by omega, show (128 * g + c.val) % 128 = c.val by omega, Nat.zero_add]

theorem KC_apply (y : S512x128.Idx) : KC x y = (keyMean (entry x) ((y 0).val / 128) ((y 0).val % 128) (y 1).val : EReal) := by
  refine View.canon_apply_of_pieces (Val := Elt Ideal) (S := S512x128) (e := .f32) (fun y => show EReal from ((keyMean (entry x) ((y 0).val / 128) ((y 0).val % 128) (y 1).val : ℝ) : EReal)) _ (fun p hp => ?_) y
    (View.cover_of_tiledL (s := S512x128) _ ![128, 128] (by sl_kernel_rfl) y)
  simp only [List.mem_cons, List.not_mem_nil, or_false] at hp
  rcases hp with rfl | rfl | rfl | rfl <;> intro j <;> obtain ⟨c, d, rfl⟩ : ∃ (c d : Fin 128), j = ix2 c d := ⟨j 0, j 1, eq_ix2 j⟩
  · refine Eq.trans ?_ (meanAt (keyMean (entry x)) 3 384 c d inb_S512x128_S128x128_384_0 rfl)
    pointwise [k0_pay268]
    exact meanPay x hx 2432 _ (by omega) c d
  · refine Eq.trans ?_ (meanAt (keyMean (entry x)) 2 256 c d inb_S512x128_S128x128_256_0 rfl)
    pointwise [k0_pay266]
    exact meanPay x hx 2304 _ (by omega) c d
  · refine Eq.trans ?_ (meanAt (keyMean (entry x)) 1 128 c d inb_S512x128_S128x128_128_0 rfl)
    pointwise [k0_pay264, k0_pay6]
    exact meanPay x hx 2176 _ (by omega) c d
  · refine Eq.trans ?_ (meanAt (keyMean (entry x)) 0 0 c d inb_S512x128_S128x128_0_0 rfl)
    pointwise [k0_pay4]
    exact meanPay x hx 2048 _ (by omega) c d

theorem VC_apply (y : S512x128.Idx) : VC x y = (valMean (entry x) ((y 0).val / 128) ((y 0).val % 128) (y 1).val : EReal) := by
  refine View.canon_apply_of_pieces (Val := Elt Ideal) (S := S512x128) (e := .f32) (fun y => show EReal from ((valMean (entry x) ((y 0).val / 128) ((y 0).val % 128) (y 1).val : ℝ) : EReal)) _ (fun p hp => ?_) y
    (View.cover_of_tiledL (s := S512x128) _ ![128, 128] (by sl_kernel_rfl) y)
  simp only [List.mem_cons, List.not_mem_nil, or_false] at hp
  rcases hp with rfl | rfl | rfl | rfl <;> intro j <;> obtain ⟨c, d, rfl⟩ : ∃ (c d : Fin 128), j = ix2 c d := ⟨j 0, j 1, eq_ix2 j⟩
  · refine Eq.trans ?_ (meanAt (valMean (entry x)) 3 384 c d inb_S512x128_S128x128_384_0 rfl)
    pointwise [k0_pay269]
    exact meanPay x hx 2944 _ (by omega) c d
  · refine Eq.trans ?_ (meanAt (valMean (entry x)) 2 256 c d inb_S512x128_S128x128_256_0 rfl)
    pointwise [k0_pay267]
    exact meanPay x hx 2816 _ (by omega) c d
  · refine Eq.trans ?_ (meanAt (valMean (entry x)) 1 128 c d inb_S512x128_S128x128_128_0 rfl)
    pointwise [k0_pay265]
    exact meanPay x hx 2688 _ (by omega) c d
  · refine Eq.trans ?_ (meanAt (valMean (entry x)) 0 0 c d inb_S512x128_S128x128_0_0 rfl)
    pointwise [k0_pay5]
    exact meanPay x hx 2560 _ (by omega) c d

theorem xKC_apply (g : Fin 4) (c d : Fin 128) : xC (KC x) g (ix2 c d) = (keyMean (entry x) g.val c.val d.val : EReal) := by
  refine (box2 (e := .f32) (KC x) _ (inbC g) c d ⟨128 * g.val + c.val, by omega⟩ d rfl (Nat.zero_add _)).trans ((KC_apply x hx _).trans ?_)
  show ((keyMean (entry x) ((128 * g.val + c.val) / 128) ((128 * g.val + c.val) % 128) d.val : ℝ) : EReal) = _
  rw [show (128 * g.val + c.val) / 128 = g.val by omega, show (128 * g.val + c.val) % 128 = c.val by omega]

theorem xVC_apply (g : Fin 4) (c d : Fin 128) : xC (VC x) g (ix2 c d) = (valMean (entry x) g.val c.val d.val : EReal) := by
  refine (box2 (e := .f32) (VC x) _ (inbC g) c d ⟨128 * g.val + c.val, by omega⟩ d rfl (Nat.zero_add _)).trans ((VC_apply x hx _).trans ?_)
  show ((valMean (entry x) ((128 * g.val + c.val) / 128) ((128 * g.val + c.val) % 128) d.val : ℝ) : EReal) = _
  rw [show (128 * g.val + c.val) / 128 = g.val by omega, show (128 * g.val + c.val) % 128 = c.val by omega]

end Cert.KernelIdeal.Attn

end
-- ==== Proof.AttnCmp.lean ====
/-
  The attention body's compressed branch and its block selection, entry by entry.
-/
module

public import proofs.«01_k».proof.Proof.AttnReads

@[expose] public section

noncomputable section

namespace Cert.KernelIdeal.Attn

open Cert.KernelIdeal Cert.KernelIdeal.Gen
open Idealize.ShloMosaic Idealize.ShloMosaic.TcCoe Idealize.ShloMosaic.Tactic
open Cert.AttnSpec Cert.Online

theorem neg_inf : Ideal.ofBits .f32 0xFF800000#32 = ⊥ := by
  simp [Ideal.ofBits, Ideal.ieee]

variable (i : grid0.Coords) (x : Vec Ideal S2048x3200 .f32) (hx : Finite x)

/-- The compressed scores of a row over all the body's columns, the last of which is never visible. -/
def colC (E : ℕ → ℕ → ℝ) (h t : ℕ) (c : Fin 128) : EReal := if c.val < 127 then sC E h t c.val else ⊥

theorem sum_colC (E : ℕ → ℕ → ℝ) (h t : ℕ) : ∑ c : Fin 128, wt (colC E h t c) = ∑ c : Fin 127, wt (sC E h t c.val) := by
  rw [Fin.sum_univ_castSucc]
  refine (congrArg₂ (· + ·) (Finset.sum_congr rfl fun c _ => ?_) ?_).trans (add_zero _)
  · exact congrArg wt (if_pos c.isLt)
  · exact (congrArg wt (if_neg (by simp))).trans wt_bot

theorem colC_ne_top (E : ℕ → ℕ → ℝ) (h t : ℕ) (c : Fin 128) : colC E h t c ≠ ⊤ := by
  rw [colC]; split_ifs; exacts [sC_ne_top E h t _, bot_ne_top]

/-- Probabilities that are zero where masked, whether or not a row has any position left. -/
theorem masked_prob {ι : Type*} [Fintype ι] (s : ι → EReal) (hs : ∀ i, s i ≠ ⊤) (c : ι) :
    Ideal.div (Ideal.exp (s c - Finset.univ.sup s)) (∑ k, Ideal.exp (s k - Finset.univ.sup s)) * (((if s c ≠ ⊥ then 1 else 0 : ℝ)) : EReal)
      = ((wt (s c) / ∑ k, wt (s k) : ℝ) : EReal) := by
  by_cases hc : s c = ⊥
  · rw [if_neg (not_not.mpr hc), hc, wt_bot, zero_div]; exact mul_zero _
  · rw [if_pos hc, prob s hs hc, EReal.coe_one, mul_one]

include hx

theorem score_sum (g j : Fin 4) (r : Fin 256) (c : Fin 128) :
    Scalar.select (k0_pay270 i (ix2 r c)) ((∑ d : Fin 128, xQ i x g j (ix2 r d) * xC (KC x) g (ix2 c d)) * Ideal.ofBits .f32 0x3DB504F3#32) ⊥
      = colC (entry x) (4 * g.val + j.val) (pos i r.val) c := by
  rw [pay270_apply, select_bool, colC, sC, scale_eq]
  by_cases hc : c.val < 127
  · rw [if_pos hc]
    by_cases hv : 16 * c.val + 31 ≤ pos i r.val
    · rw [if_pos hv, if_pos (by simp [hc, hv]), EReal.coe_mul, coe_sum]
      refine congrArg (· * (scale : EReal)) (Finset.sum_congr rfl fun d _ => ?_)
      rw [xQ_apply i x hx, xKC_apply x hx, keyMean_eq _ _ _ _ hc, EReal.coe_mul, show (4 * g.val + j.val) / 4 = g.val by omega]
    · rw [if_neg hv, if_neg (by simp [hv])]
  · rw [if_neg hc, if_neg (by simp [hc])]

theorem colC_live (E : ℕ → ℕ → ℝ) (h t : ℕ) (c : Fin 128) : colC E h t c ≠ ⊥ ↔ (16 * c.val + 31 ≤ t ∧ c.val < 127) := by
  rw [colC, sC]
  split_ifs with h1 h2
  · simp only [ne_eq, EReal.coe_ne_bot, not_false_eq_true, h1, h2, and_self]
  · simp [h2]
  · simp [h1]

theorem cmpP_apply (g j : Fin 4) (r : Fin 256) (c : Fin 128) :
    cmpP i (xC (KC x) g) (xQ i x g j) (ix2 r c) = (((if c.val < 127 then pC (entry x) (4 * g.val + j.val) (pos i r.val) c.val else 0 : ℝ)) : EReal) := by
  pointwise [cmpP, k0_pay276, k0_pay271]
  rw [mask_bot, neg_inf]
  simp only [score_sum i x hx]
  rw [pay270_apply, flag]
  refine Eq.trans ?_ ((masked_prob (colC (entry x) (4 * g.val + j.val) (pos i r.val)) (colC_ne_top _ _ _) c).trans ?_)
  · refine congrArg₂ (· * ·) rfl ?_
    congr 1
    exact if_congr (by rw [colC_live x hx]; exact decide_eq_true_iff) rfl rfl
  · rw [sum_colC]
    congr 1
    by_cases hc : c.val < 127
    · rw [if_pos hc, pC, colC, if_pos hc]
    · rw [if_neg hc, colC, if_neg hc, wt_bot, zero_div]

/-- The compressed branch. -/
theorem outC_apply (g j : Fin 4) (r : Fin 256) (d : Fin 128) :
    k0_pay278 (k0_pay270 i) (k0_pay271 i) (xC (KC x) g) (xC (VC x) g) (xQ i x g j) (ix2 r d)
      = (outC (entry x) (4 * g.val + j.val) (pos i r.val) d.val : EReal) := by
  pointwise [k0_pay278]
  rw [outC, coe_sum, Fin.sum_univ_castSucc]
  refine (congrArg₂ (· + ·) (Finset.sum_congr rfl fun c _ => ?_) ?_).trans (add_zero _)
  · refine (congrArg₂ (· * ·) (cmpP_apply i x hx g j r _) (xVC_apply x hx g _ d)).trans ?_
    rw [if_pos (show (Fin.castSucc c).val < 127 from c.isLt), valMean_eq _ _ _ _ (show (Fin.castSucc c).val < 127 from c.isLt), ← EReal.coe_mul,
      show (4 * g.val + j.val) / 4 = g.val by omega]
    rfl
  · refine (congrArg₂ (· * ·) (cmpP_apply i x hx g j r _) rfl).trans ?_
    rw [if_neg (by simp)]
    exact zero_mul _

theorem blockScore_apply (g : Fin 4) (r : Fin 256) (b : Fin 128) :
    blockScore i (xC (KC x) g) (xQ i x g) (ix2 r b) = (blk (entry x) g.val (pos i r.val) b.val : EReal) := by
  pointwise [blockScore]
  simp only [cmpP_apply i x hx, seg_apply]
  rw [blk, coe_sum, Fin.sum_univ_castSucc]
  refine (congrArg₂ (· + ·) (Finset.sum_congr rfl fun c _ => ?_) ?_).trans (add_zero _)
  · have hc : (Fin.castSucc c).val < 127 := c.isLt
    simp only [if_pos hc, hc, and_true]
    rw [imp, Fin.sum_univ_four, ← EReal.coe_add, ← EReal.coe_add, ← EReal.coe_add, ← EReal.coe_mul]
    rfl
  · simp

theorem forced_apply (g : Fin 4) (r : Fin 256) (b : Fin 128) (hb : b.val < 32) :
    forced i (blockScore i (xC (KC x) g) (xQ i x g)) (ix2 r b) = sco (entry x) g.val (pos i r.val) b.val := by
  have hr := pos_lt i r
  pointwise [forced, k0_pay293, k0_pay290, k0_pay291]
  have h64 : ∀ n : Fin 128, IntOp.muli (BitVec.ofNat 32 n.val) 64#32 = BitVec.ofNat 32 (64 * n.val) := by decide +kernel
  rw [mask_bot, lane_apply, pay263_apply, pay292_apply, h64, sle_nat (by omega) (by omega), slt_nat (by omega) (by omega), eq_nat (by omega) (by omega),
    eq_nat (by omega) (by omega), and_bool, or_bool, select_bool, flag, blockScore_apply i x hx, big_eq, sco]
  by_cases h : 64 * b.val ≤ pos i r.val
  · rw [if_pos h, if_pos (by simp [h, hb]), ← EReal.coe_mul, ← EReal.coe_add]
    simp only [Bool.or_eq_true, decide_eq_true_iff]
  · rw [if_neg h, if_neg (by simp [h])]

omit hx in
theorem rank_apply (s : FVec Ideal S256x128 .f32) (r : Fin 256) (c : Fin 128) (n : ℕ) (hn : n ≤ 32) :
    rank s n hn (ix2 r c) = BitVec.ofNat 32 (∑ b : Fin n, if s (ix2 r c) < s (ix2 r ⟨b.val, by omega⟩) then 1 else 0) := by
  induction n with
  | zero => rfl
  | succ n ih =>
    pointwise [rank]
    rw [ih (Nat.le_of_succ_le hn), Fin.sum_univ_castSucc, BitVec.ofNat_add]
    refine congrArg₂ (· + ·) rfl ?_
    show BitVec.setWidth 32 (BitVec.ofBool (decide (s (ix2 r c) < s (ix2 r ⟨n, by omega⟩)))) = BitVec.ofNat 32 (if s (ix2 r c) < s (ix2 r ⟨n, by omega⟩) then 1 else 0)
    split_ifs with h <;> simp [h]

omit hx in
theorem rank_card (s : FVec Ideal S256x128 .f32) (r : Fin 256) (c : Fin 128) (f : ℕ → EReal) (hc : s (ix2 r c) = f c.val)
    (hs : ∀ b : Fin 32, s (ix2 r ⟨b.val, by omega⟩) = f b.val) :
    rank s 32 (le_refl _) (ix2 r c) = BitVec.ofNat 32 (Finset.univ.filter fun b : Fin 32 => f c.val < f b.val).card := by
  rw [rank_apply, Finset.card_filter]
  refine congrArg _ (Finset.sum_congr rfl fun b _ => ?_)
  rw [hc, hs b]

omit hx in
theorem slt_card (A : Finset (Fin 32)) : IntOp.cmpi .slt (BitVec.ofNat 32 A.card) 16#32 = BitVec.ofBool (decide (A.card < 16)) :=
  slt_nat (b := 16) (by have := (Finset.card_le_univ A).trans_eq (Fintype.card_fin 32); omega) (by omega)

attribute [local irreducible] rank in
omit hx in
theorem selOf_read (kc : Vec Ideal S128x128 .f32) (q : Fin 4 → Vec Ideal S256x128 .f32) (r : Fin 256) (b : Fin 128) :
    selOf i kc q (ix2 r b) = FloatOps.sitofp .f32 (BitVec.setWidth 32 (IntOp.andi (IntOp.cmpi .slt (rank (forced i (blockScore i kc q)) 32 (le_refl _) (ix2 r b)) 16#32)
      (IntOp.cmpi .slt (lane (ix2 r b)) 32#32))) := rfl

open Classical in
theorem selOf_apply (g : Fin 4) (r : Fin 256) (b : Fin 128) (hb : b.val < 32) :
    xSel i x g (ix2 r b) = (((if chosen (entry x) g.val (pos i r.val) b.val then 1 else 0 : ℝ)) : EReal) := by
  refine (selOf_read i _ _ r b).trans ?_
  rw [rank_card _ r b (sco (entry x) g.val (pos i r.val)) (forced_apply i x hx g r b hb) (fun b' => forced_apply i x hx g r ⟨b'.val, by omega⟩ b'.isLt),
    slt_card, lane_apply, slt_nat (by omega) (by omega), and_bool, flag]
  congr 1
  exact if_congr (by simp [hb, chosen]) rfl rfl

end Cert.KernelIdeal.Attn

end
-- ==== Proof.AttnTiles.lean ====
/-
  The attention body's tile loop, entry by entry: each trip is a step of the running softmax, so the loop ends at the
  quotient of the whole row's weighted sums.
-/
module

public import proofs.«01_k».proof.Proof.AttnCmp

@[expose] public section

noncomputable section

namespace Cert.KernelIdeal.Attn

open Cert.KernelIdeal Cert.KernelIdeal.Gen
open Idealize.ShloMosaic Idealize.ShloMosaic.TcCoe Idealize.ShloMosaic.Tactic
open Cert.AttnSpec Cert.Online

variable (i : grid0.Coords)

/-- Whether a running maximum has seen a score, as a number. -/
def seen (M : EReal) : EReal := (((if decide (⊥ < M) = true then 1 else 0 : ℝ)) : EReal)

theorem seen_of_ne {M : EReal} (h : M ≠ ⊥) : seen M = 1 := by
  rw [seen, if_pos (decide_eq_true (bot_lt_iff_ne_bot.mpr h))]; rfl

section Reads

variable (q : FVec Ideal S256x128 .bf16) (k : Fin (Tr i)) (kt vt : Vec Ideal S256x128 .bf16) (sel : Vec Ideal S1x256x256 .f32)
  (m l : FVec Ideal S256x1 .f32) (a : FVec Ideal S256x128 .f32) (v3 : IVec S256x1 32) (p7 : IVec S256x256 32) (p8 : FVec Ideal S256x256 .f32)
  (r : Fin 256) (s : Fin 256 → EReal)

section Selected

variable (h9 : ∀ c, k0_pay9 i v3 q 0#32 1#32 k kt sel (ix2 r c) = s c)
include h9

theorem selMax : k0_pay10 i v3 q 0#32 1#32 k m kt sel (ix2 r 0) = max (m (ix2 r 0)) (Finset.univ.sup s) := by
  pointwise [k0_pay10]
  simp only [h9, neg_inf]
  rfl

theorem selExp (c : Fin 256) : k0_pay11 i v3 q 0#32 1#32 k m kt sel (ix2 r c)
    = Ideal.exp (s c - max (m (ix2 r 0)) (Finset.univ.sup s)) * seen (max (m (ix2 r 0)) (Finset.univ.sup s)) := by
  pointwise [k0_pay11]
  rw [selMax i q k kt sel m v3 r s h9, h9, dead_bot, flag]
  rfl

theorem selDen : k0_pay13 i v3 q 0#32 1#32 k m l kt sel (ix2 r 0)
    = l (ix2 r 0) * Ideal.exp (m (ix2 r 0) - max (m (ix2 r 0)) (Finset.univ.sup s))
      + ∑ c, Ideal.exp (s c - max (m (ix2 r 0)) (Finset.univ.sup s)) * seen (max (m (ix2 r 0)) (Finset.univ.sup s)) := by
  pointwise [k0_pay13, k0_pay12]
  simp only [selMax i q k kt sel m v3 r s h9, selExp i q k kt sel m v3 r s h9]

theorem selNum (d : Fin 128) : k0_pay307 vt (k0_pay11 i v3 q 0#32 1#32 k m kt sel) (k0_pay14 i v3 q 0#32 1#32 k m a kt sel) (ix2 r d)
    = a (ix2 r d) * Ideal.exp (m (ix2 r 0) - max (m (ix2 r 0)) (Finset.univ.sup s))
      + ∑ c, Ideal.exp (s c - max (m (ix2 r 0)) (Finset.univ.sup s)) * seen (max (m (ix2 r 0)) (Finset.univ.sup s)) * vt (ix2 c d) := by
  pointwise [k0_pay307, k0_pay14, k0_pay12]
  simp only [selMax i q k kt sel m v3 r s h9, selExp i q k kt sel m v3 r s h9]

end Selected

section Window

variable (h8 : ∀ c, k0_pay308 v3 p7 p8 (ix2 r c) = s c)
include h8

theorem winMax : k0_pay309 v3 m p7 p8 (ix2 r 0) = max (m (ix2 r 0)) (Finset.univ.sup s) := by
  pointwise [k0_pay309]
  simp only [h8, neg_inf]
  rfl

theorem winExp (c : Fin 256) : k0_pay310 v3 m p7 p8 (ix2 r c)
    = Ideal.exp (s c - max (m (ix2 r 0)) (Finset.univ.sup s)) * seen (max (m (ix2 r 0)) (Finset.univ.sup s)) := by
  pointwise [k0_pay310]
  rw [winMax m v3 p7 p8 r s h8, h8, dead_bot, flag]
  rfl

theorem winDen : k0_pay312 v3 m l p7 p8 (ix2 r 0)
    = l (ix2 r 0) * Ideal.exp (m (ix2 r 0) - max (m (ix2 r 0)) (Finset.univ.sup s))
      + ∑ c, Ideal.exp (s c - max (m (ix2 r 0)) (Finset.univ.sup s)) * seen (max (m (ix2 r 0)) (Finset.univ.sup s)) := by
  pointwise [k0_pay312, k0_pay311]
  simp only [winMax m v3 p7 p8 r s h8, winExp m v3 p7 p8 r s h8]

theorem winNum (d : Fin 128) : k0_pay313 v3 m a vt p7 p8 (ix2 r d)
    = a (ix2 r d) * Ideal.exp (m (ix2 r 0) - max (m (ix2 r 0)) (Finset.univ.sup s))
      + ∑ c, Ideal.exp (s c - max (m (ix2 r 0)) (Finset.univ.sup s)) * seen (max (m (ix2 r 0)) (Finset.univ.sup s)) * vt (ix2 c d) := by
  pointwise [k0_pay313, k0_pay311]
  simp only [winMax m v3 p7 p8 r s h8, winExp m v3 p7 p8 r s h8]

end Window

end Reads

theorem minus512 : ∀ n : Fin 2048, (IntOp.subi (BitVec.ofNat 32 n.val) 512#32).toInt = (n.val : ℤ) - 512 := by decide +kernel

theorem sgt_window {p t : ℕ} (hp : p < 2 ^ 31) (ht : t < 2048) :
    IntOp.cmpi .sgt (BitVec.ofNat 32 p) (IntOp.subi (BitVec.ofNat 32 t) 512#32) = BitVec.ofBool (decide (t < p + 512)) := by
  show BitVec.ofBool (decide ((IntOp.subi (BitVec.ofNat 32 t) 512#32).toInt < (BitVec.ofNat 32 p).toInt)) = _
  rw [toInt_nat hp, minus512 ⟨t, ht⟩]
  congr 1
  rw [decide_eq_decide]
  show (t : ℤ) - 512 < (p : ℤ) ↔ t < p + 512
  omega

theorem half : Ideal.ofBits .f32 0x3F000000#32 = ((1 / 2 : ℝ) : EReal) := by
  simp [Ideal.ofBits, Ideal.ieee, -EReal.coe_mul]; norm_num

variable (x : Vec Ideal S2048x3200 .f32) (hx : Finite x)

/-- The selected branch's scores, tile by tile. -/
def tS (E : ℕ → ℕ → ℝ) (h t b : ℕ) (c : Fin 256) : EReal := sS E h t (256 * b + c.val)

/-- The window branch's scores, tile by tile. -/
def tW (E : ℕ → ℕ → ℝ) (h t b : ℕ) (c : Fin 256) : EReal := sW E h t (256 * b + c.val)

/-- One value column, tile by tile. -/
def tV (E : ℕ → ℕ → ℝ) (h d b : ℕ) (c : Fin 256) : ℝ := val E h (256 * b + c.val) d

include hx

theorem base_apply (g j : Fin 4) (k : Fin (Tr i)) (r c : Fin 256) :
    k0_pay8 i (k0_pay263 i) (k0_pay303 (xQ i x g j)) 0#32 1#32 k (xK i x g k) (ix2 r c)
      = if 256 * k.val + c.val ≤ pos i r.val then (qk (entry x) (4 * g.val + j.val) (pos i r.val) (256 * k.val + c.val) : EReal) else ⊥ := by
  have hc := tile_col_lt i k c
  have hr := pos_lt i r
  pointwise [k0_pay8, k0_pay303]
  rw [pay7_apply, pay263_apply, sle_nat (by omega) (by omega), select_bool, mask_bot, scale_eq]
  simp only [decide_eq_true_iff]
  refine if_congr Iff.rfl ?_ rfl
  rw [qk, EReal.coe_mul, coe_sum]
  refine congrArg (· * (scale : EReal)) (Finset.sum_congr rfl fun d _ => ?_)
  rw [xQ_apply i x hx, xK_apply i x hx, EReal.coe_mul, show (4 * g.val + j.val) / 4 = g.val by omega]

theorem sel_scores (g j : Fin 4) (k : Fin (Tr i)) (r c : Fin 256) :
    k0_pay9 i (k0_pay263 i) (k0_pay303 (xQ i x g j)) 0#32 1#32 k (xK i x g k) (slabPay i (xSel i x g) k) (ix2 r c)
      = tS (entry x) (4 * g.val + j.val) (pos i r.val) k.val c := by
  classical
  have hc := tile_col_lt i k c
  pointwise [k0_pay9]
  rw [slab_apply, selOf_apply i x hx g r _ (by show (256 * k.val + c.val) / 64 < 32; omega), base_apply i x hx, mask_bot, half, tS, sS,
    show (4 * g.val + j.val) / 4 = g.val by omega]
  by_cases h1 : chosen (entry x) g.val (pos i r.val) ((256 * k.val + c.val) / 64)
  · rw [if_pos (by rw [if_pos h1]; exact_mod_cast (by norm_num : (1 / 2 : ℝ) < 1))]
    exact if_congr (by simp [h1]) rfl rfl
  · rw [if_neg (by rw [if_neg h1]; exact_mod_cast (by norm_num : ¬(1 / 2 : ℝ) < 0)), if_neg (fun h => h1 h.2)]

theorem win_scores (g j : Fin 4) (k : Fin (Tr i)) (r c : Fin 256) :
    k0_pay308 (k0_pay263 i) (k0_pay7 i 0#32 1#32 k) (k0_pay8 i (k0_pay263 i) (k0_pay303 (xQ i x g j)) 0#32 1#32 k (xK i x g k)) (ix2 r c)
      = tW (entry x) (4 * g.val + j.val) (pos i r.val) k.val c := by
  have hc := tile_col_lt i k c
  have hr := pos_lt i r
  pointwise [k0_pay308]
  rw [pay7_apply, pay263_apply, sgt_window (by omega) hr, select_bool, base_apply i x hx, mask_bot, tW, sW, ← ite_and]
  exact if_congr (by rw [decide_eq_true_iff, and_comm]) rfl rfl

/-- After `n` trips the loop carries the running softmaxes of the first `n` tiles. -/
theorem tiles_inv (g j : Fin 4) (r : Fin 256) (d : Fin 128) (n : ℕ) (hn : n ≤ Tr i) (T : T6 Ideal)
    (hT : T = attnIter i (k0_pay303 (xQ i x g j)) (xK i x g) (xV i x g) (slabPay i (xSel i x g)) n) :
    Inv (tS (entry x) (4 * g.val + j.val) (pos i r.val)) (tV (entry x) (4 * g.val + j.val) d.val) n (T.1 (ix2 r 0)) (T.2.1 (ix2 r 0)) (T.2.2.1 (ix2 r d))
      ∧ Inv (tW (entry x) (4 * g.val + j.val) (pos i r.val)) (tV (entry x) (4 * g.val + j.val) d.val) n (T.2.2.2.1 (ix2 r 0)) (T.2.2.2.2.1 (ix2 r 0)) (T.2.2.2.2.2 (ix2 r d)) := by
  induction n generalizing T with
  | zero =>
    subst hT
    have h4 : k0_pay304 (F := Ideal) (ix2 r 0) = ⊥ := by pointwise [k0_pay304]; exact mask_bot _
    have h5 : k0_pay305 (F := Ideal) (ix2 r 0) = 0 := by pointwise [k0_pay305]
    have h6 : k0_pay306 (F := Ideal) (ix2 r d) = 0 := by pointwise [k0_pay306]
    constructor
    · show Inv _ _ 0 (k0_pay304 (F := Ideal) (ix2 r 0)) (k0_pay305 (F := Ideal) (ix2 r 0)) (k0_pay306 (F := Ideal) (ix2 r d))
      rw [h4, h5, h6]; exact inv_zero _ _
    · show Inv _ _ 0 (k0_pay304 (F := Ideal) (ix2 r 0)) (k0_pay305 (F := Ideal) (ix2 r 0)) (k0_pay306 (F := Ideal) (ix2 r d))
      rw [h4, h5, h6]; exact inv_zero _ _
  | succ n ih =>
    have hlt : n < Tr i := hn
    obtain ⟨i1, i2⟩ := ih hlt.le _ rfl
    generalize hA : attnIter i (k0_pay303 (xQ i x g j)) (xK i x g) (xV i x g) (slabPay i (xSel i x g)) n = A at i1 i2
    have hT' : T = tileStep i (BitVec.ofNat 32 (i 0).val) (k0_pay263 i) 0#32 (k0_pay303 (xQ i x g j)) ⟨n, hlt⟩ (xK i x g ⟨n, hlt⟩) (xV i x g ⟨n, hlt⟩) (slabPay i (xSel i x g) ⟨n, hlt⟩) A := by
      rw [hT, attnIter, dif_pos hlt, hA]
    have hv : ∀ c : Fin 256, xV i x g ⟨n, hlt⟩ (ix2 c d) = (tV (entry x) (4 * g.val + j.val) d.val n c : EReal) := fun c => by
      rw [xV_apply i x hx, tV, val, show (4 * g.val + j.val) / 4 = g.val by omega]
    have hs := sel_scores i x hx g j ⟨n, hlt⟩ r
    have hw := win_scores i x hx g j ⟨n, hlt⟩ r
    rw [hT', tileStep]
    constructor
    · dsimp only
      rw [selMax i _ _ _ _ _ _ r _ hs, selDen i _ _ _ _ _ _ _ r _ hs, selNum i _ _ _ _ _ _ _ _ r _ hs d]
      simp only [hv]
      exact inv_step _ _ i1 (fun c => sS_ne_top _ _ _ _) _ seen_of_ne
    · by_cases hnear : nearW (BitVec.ofNat 32 (i 0).val) 0#32 i ⟨n, hlt⟩ = 1#1
      · dsimp only
        simp only [if_pos hnear]
        rw [winMax _ _ _ _ r _ hw, winDen _ _ _ _ _ r _ hw, winNum _ _ _ _ _ _ r _ hw d]
        simp only [hv]
        exact inv_step _ _ i2 (fun c => sW_ne_top _ _ _ _) _ seen_of_ne
      · dsimp only
        simp only [if_neg hnear]
        refine inv_skip _ _ i2 fun c => ?_
        rw [tW, sW, if_neg]
        have hfar : ¬(i 0).val ≤ n + 2 := fun h => hnear ((near_iff i ⟨n, hlt⟩).mpr h)
        have := c.isLt
        unfold pos
        omega

end Cert.KernelIdeal.Attn

end
-- ==== Proof.AttnHead.lean ====
/-
  The attention body's output blocks, entry by entry: the three branches under their gates, head by head.
-/
module

public import proofs.«01_k».proof.Proof.AttnTiles
public import proofs.«01_k».proof.Proof.AttnFrame

@[expose] public section

noncomputable section

namespace Cert.KernelIdeal.Attn

open Cert.KernelIdeal Cert.KernelIdeal.Gen
open Idealize.ShloMosaic Idealize.ShloMosaic.TcCoe Idealize.ShloMosaic.Tactic
open Cert.AttnSpec Cert.Online

theorem tr_le (i : grid0.Coords) : Tr i ≤ 8 := by
  have h2 := trips_eq i
  have h3 := row_lt i
  omega

/-- The end of a branch's tile loop is the weighted mean over the whole row. -/
theorem branch_end (i : grid0.Coords) (S : ℕ → EReal) (V : ℕ → ℝ) (t : ℕ) (ht : t < 256 * Tr i) (hmask : ∀ p, t < p → S p = ⊥)
    (hlive : ∃ p ≤ t, S p ≠ ⊥) {m l a : EReal}
    (h : Inv (fun b (c : Fin 256) => S (256 * b + c.val)) (fun b (c : Fin 256) => V (256 * b + c.val)) (Tr i) m l a) :
    Ideal.div a l = ((soft (fun p : Fin 2048 => S p.val) fun p => V p.val : ℝ) : EReal) := by
  have h8 := inv_skips _ _ h (8 - Tr i) fun b hb _ c => hmask _ (by have := Nat.mul_le_mul_left 256 hb; omega)
  rw [Nat.add_sub_cancel' (tr_le i)] at h8
  obtain ⟨p, hp, hl⟩ := hlive
  have hp8 : p / 256 < 8 := by have := tr_le i; omega
  rw [inv_final _ _ h8 hp8 (c := ⟨p % 256, Nat.mod_lt _ (by omega)⟩) (by show S (256 * (p / 256) + p % 256) ≠ ⊥; rw [Nat.div_add_mod]; exact hl), soft,
    acc_row (T := 8) (N := 2048) _ _ rfl (fun p => S p.val) (fun p => V p.val) (fun _ _ _ => rfl) (fun _ _ _ => rfl),
    acc_row (T := 8) (N := 2048) _ _ rfl (fun p => S p.val) (fun _ => 1) (fun _ _ _ => rfl) (fun _ _ _ => rfl)]
  simp only [mul_one]

/-- A gate: the logistic function of its column. -/
theorem gate_val (y : ℝ) : Ideal.div 1 (1 + Ideal.exp (0 - (y : EReal))) = ((1 / (1 + Real.exp (-y)) : ℝ) : EReal) := by
  rw [show (0 : EReal) - (y : EReal) = ((-y : ℝ) : EReal) by rw [zero_sub, EReal.coe_neg], Ideal.exp_coe, ← EReal.coe_one, ← EReal.coe_add,
    div_coe (by positivity)]

variable (i : grid0.Coords) (x : Vec Ideal S2048x3200 .f32) (hx : Finite x)
include hx

theorem head_apply (g j : Fin 4) (r : Fin 256) (d : Fin 128) :
    headX i x g j (ix2 r d) = (out (entry x) (4 * g.val + j.val) (pos i r.val) d.val : EReal) := by
  have hinv := tiles_inv i x hx g j r d (Tr i) (le_refl _) (xT i x g j) rfl
  have ht : pos i r.val < 256 * Tr i := by
    have h2 := trips_eq i
    rw [h2, pos]; omega
  have hS := branch_end i (sS (entry x) (4 * g.val + j.val) (pos i r.val)) (fun p => val (entry x) (4 * g.val + j.val) p d.val) _ ht
    (fun p hp => if_neg fun h => by omega) (sS_live _ _ _) hinv.1
  have hW := branch_end i (sW (entry x) (4 * g.val + j.val) (pos i r.val)) (fun p => val (entry x) (4 * g.val + j.val) p d.val) _ ht
    (fun p hp => if_neg fun h => by omega) ⟨_, le_refl _, sW_live _ _ _⟩ hinv.2
  have hg : ∀ e : Fin 3, xG i x g j e (ix2 r 0) = (entry x (pos i r.val) (3072 + 3 * (4 * g.val + j.val) + e.val) : EReal) := fun e => xG_apply i x hx g j e r
  show headV i (xC (KC x) g) (xC (VC x) g) (xQ i x g j) (xG i x g j) (xT i x g j) (ix2 r d) = _
  generalize xT i x g j = T at hinv hS hW
  pointwise [headV, k0_pay324, k0_pay321, k0_pay322, k0_pay323]
  rw [hS, hW, outC_apply i x hx, hg, hg, hg, gate_val, gate_val, gate_val, ← EReal.coe_mul, ← EReal.coe_mul, ← EReal.coe_mul, ← EReal.coe_add, ← EReal.coe_add]
  rfl

/-- A point's output block. -/
theorem outBlk_apply (y : S256x2048.Idx) : outBlk i x y = (out (entry x) ((y 1).val / 128) (pos i (y 0).val) ((y 1).val % 128) : EReal) := by
  refine View.canon_apply_of_pieces (Val := Elt Ideal) (S := S256x2048) (e := .f32)
    (fun y => show EReal from ((out (entry x) ((y 1).val / 128) (pos i (y 0).val) ((y 1).val % 128) : ℝ) : EReal)) _ (fun p hp => ?_) y (stores_cover i x y)
  have hmem : ∃ g j : Fin 4, p = pieceX i x g j := by
    simp only [stores, List.mem_cons, List.not_mem_nil, or_false] at hp
    rcases hp with h | h | h | h | h | h | h | h | h | h | h | h | h | h | h | h <;> exact ⟨_, _, h⟩
  obtain ⟨g, j, rfl⟩ := hmem
  intro z
  obtain ⟨r, d, rfl⟩ : ∃ (r : Fin 256) (d : Fin 128), z = ix2 r d := ⟨z 0, z 1, eq_ix2 z⟩
  refine (head_apply i x hx g j r d).trans ?_
  have h0 : ((pieceX i x g j).1.emb (ix2 r d) 0).val = 0 + r.val := (emb2 (M := 256) (N := 2048) _ (inbO g j) r d).1
  have h1 : ((pieceX i x g j).1.emb (ix2 r d) 1).val = 128 * (4 * g.val + j.val) + d.val := (emb2 (M := 256) (N := 2048) _ (inbO g j) r d).2
  show _ = ((out (entry x) (((pieceX i x g j).1.emb (ix2 r d) 1).val / 128) (pos i ((pieceX i x g j).1.emb (ix2 r d) 0).val) (((pieceX i x g j).1.emb (ix2 r d) 1).val % 128) : ℝ) : EReal)
  rw [h0, h1, Nat.zero_add, show (128 * (4 * g.val + j.val) + d.val) / 128 = 4 * g.val + j.val by omega,
    show (128 * (4 * g.val + j.val) + d.val) % 128 = d.val by omega]

end Cert.KernelIdeal.Attn

end
-- ==== Proof.AttnOps.lean ====
/-
  Three operations of the attention reference read at an index: the sixteenth greatest of a row, the gather of rows by
  a table of positions, and a row's maximum.
-/
module

public import proofs.«01_k».proof.RefIdeal
public import proofs.«01_k».proof.Proof.Gen.RefIdeal
public import proofs.«01_k».proof.Proof.AttnInts
public import Idealize.ShloMosaic.Lib.SortFacts

@[expose] public section

noncomputable section

namespace Cert.RefIdeal.Attn

open Cert.RefIdeal
open Idealize.ShloMosaic Idealize.ShloMosaic.TcCoe Idealize.ShloMosaic.Tactic

/-- The comparison of the sort: strictly greater first. -/
def gtB {n : ℕ} (f : Fin n → EReal) (k k' : Fin n) : Bool := (FloatOps.cmpfTotal (F := Ideal) (φ := .f32) .gt (f k) (f k')) == 1#1

theorem gtB_iff {n : ℕ} (f : Fin n → EReal) (k k' : Fin n) : gtB f k k' = decide (f k' < f k) := by
  show (BitVec.ofBool (decide (f k' < f k)) == 1#1) = _
  by_cases h : f k' < f k <;> simp [h]

theorem sorted_le {n : ℕ} (f : Fin n → EReal) (i j : Fin n) (hij : i ≤ j) : f (sortedFrom (gtB f) j) ≤ f (sortedFrom (gtB f) i) := by
  rcases hij.eq_or_lt with rfl | hlt
  · exact le_refl _
  have h := sortedFrom_noInversion (gtB f) (gtB f) (fun a b => ?_) (fun a b h => h) (fun a b c => ?_) i j hlt
  · rw [gtB_iff, decide_eq_false_iff_not, not_lt] at h; exact h
  · rw [gtB_iff, gtB_iff, decide_eq_true_iff, decide_eq_false_iff_not]; exact fun h => not_lt.mpr h.le
  · rw [gtB_iff, gtB_iff, gtB_iff, decide_eq_false_iff_not, decide_eq_false_iff_not, decide_eq_false_iff_not, not_lt, not_lt, not_lt]
    exact fun h h' => h.trans h'

/-- An entry is at least the entry sorted to place `k` exactly when at most `k` entries lie above it. -/
theorem sorted_ge_iff {n : ℕ} (f : Fin n → EReal) (k b : Fin n) :
    f (sortedFrom (gtB f) k) ≤ f b ↔ (Finset.univ.filter fun b' => f b < f b').card < k.val + 1 := by
  have hcard : (Finset.univ.filter fun b' => f b < f b').card = (Finset.univ.filter fun i => f b < f (sortedFrom (gtB f) i)).card := by
    have he : (Finset.univ.filter fun b' => f b < f b') = (Finset.univ.filter fun i => f b < f (sortedFrom (gtB f) i)).map
        ⟨sortedFrom (gtB f), sortedFrom_injective _⟩ := by
      ext b'
      simp only [Finset.mem_filter, Finset.mem_univ, true_and, Finset.mem_map, Function.Embedding.coeFn_mk]
      constructor
      · intro h
        obtain ⟨i, rfl⟩ := sortedFrom_surjective (gtB f) b'
        exact ⟨i, h, rfl⟩
      · rintro ⟨i, h, rfl⟩; exact h
    rw [he, Finset.card_map]
  rw [hcard]
  constructor
  · intro h
    have hsub : (Finset.univ.filter fun i => f b < f (sortedFrom (gtB f) i)) ⊆ Finset.Iio k := by
      intro i hi
      rw [Finset.mem_filter] at hi
      rw [Finset.mem_Iio]
      by_contra hk
      exact absurd hi.2 (not_lt.mpr ((sorted_le f k i (not_lt.mp hk)).trans h))
    have := Finset.card_le_card hsub
    rw [Fin.card_Iio] at this
    omega
  · intro h
    by_contra hno
    have hsub : Finset.Iic k ⊆ (Finset.univ.filter fun i => f b < f (sortedFrom (gtB f) i)) := by
      intro i hi
      rw [Finset.mem_Iic] at hi
      rw [Finset.mem_filter]
      exact ⟨Finset.mem_univ _, lt_of_lt_of_le (not_le.mp hno) (sorted_le f i k hi)⟩
    have := Finset.card_le_card hsub
    rw [Fin.card_Iic] at this
    omega

/-- A row's entry is at least the row's sixteenth greatest exactly when fewer than sixteen entries lie above it. -/
theorem topK_le_iff (x : FVec Ideal S4x2048x32 .f32) (h : S4x2048x32.Slices (fun _ => 0) S4x2048x16) (g : Fin 4) (t : Fin 2048) (b : Fin 32) :
    (Host.topK S4x2048x16 2 (FloatOps.cmpfTotal (F := Ideal) (φ := .f32) CmpDirection.gt) x h).1 (ix3 g t 15) ≤ x (ix3 g t b)
      ↔ (Finset.univ.filter fun b' : Fin 32 => x (ix3 g t b) < x (ix3 g t b')).card < 16 := by
  have hal : ∀ k : Fin 32, (Shape.Idx.along (s := S4x2048x32) (ix3 g t (15 : Fin 32)) 2 k) = ix3 g t k := by
    intro k; funext a; match a with | ⟨0, _⟩ => rfl | ⟨1, _⟩ => rfl | ⟨2, _⟩ => rfl
  have hv : (Host.topK S4x2048x16 2 (FloatOps.cmpfTotal (F := Ideal) (φ := .f32) CmpDirection.gt) x h).1 (ix3 g t 15)
      = x (ix3 g t (sortedFrom (gtB fun k => x (ix3 g t k)) 15)) := by
    have hi : ∀ (y : S4x2048x32.Idx → EReal), extractStridedSlice S4x2048x16 (fun _ => 0) y h (ix3 g t 15) = y (ix3 g t (15 : Fin 32)) := by
      intro y; show y _ = _; congr 1; funext a; refine Fin.ext ?_
      match a with
      | ⟨0, _⟩ => exact Nat.zero_add _
      | ⟨1, _⟩ => exact Nat.zero_add _
      | ⟨2, _⟩ => exact Nat.zero_add _
    unfold Host.topK
    dsimp only
    refine (hi _).trans ?_
    unfold Host.sort2
    rw [dif_pos (show 2 < S4x2048x32.rank by decide)]
    have hc : ∀ B B' : Fin 32 → Fin 32 → Bool, B = B' →
        x (Shape.Idx.along (s := S4x2048x32) (ix3 g t (15 : Fin 32)) 2 (sortedFrom B (15 : Fin 32))) = x (ix3 g t (sortedFrom B' 15)) := by
      rintro B _ rfl; exact congrArg x (hal _)
    refine hc _ _ ?_
    funext k k'
    exact congrArg₂ (fun p q : EReal => (FloatOps.cmpfTotal (F := Ideal) (φ := .f32) .gt p q == 1#1)) (congrArg x (hal k)) (congrArg x (hal k'))
  rw [hv]
  exact sorted_ge_iff (fun k => x (ix3 g t k)) 15 b

/-- Rows gathered by a table of positions. -/
theorem gather_rows {α : Type} (x : S4x2048x128.Idx → α) (idx : IVec S127x32x1 32) (g : Fin 4) (c : Fin 127) (i : Fin 32) (d : Fin 128)
    (p : Fin 2048) (hp : idx (ix3 c i 0) = BitVec.ofNat 32 p.val) :
    Host.gather gather_S4x2048x128_S127x32x1_S4x127x32x128_03_1_n_n_1_2_41128 x idx (ix4 g c i d) = x (ix3 g p d) := by
  unfold Host.gather
  congr 1
  funext a
  refine Fin.ext ?_
  show (gather_S4x2048x128_S127x32x1_S4x127x32x128_03_1_n_n_1_2_41128).start (ix4 g c i d) idx a
    + (gather_S4x2048x128_S127x32x1_S4x127x32x128_03_1_n_n_1_2_41128).batchCoord (ix4 g c i d) a
    + (gather_S4x2048x128_S127x32x1_S4x127x32x128_03_1_n_n_1_2_41128).offCoord (ix4 g c i d) a = _
  rw [GatherDims.batchCoord_eq_zero _ _ _ List.not_mem_nil]
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · unfold GatherDims.start
    rw [dif_neg (by decide)]
    unfold GatherDims.offCoord
    rw [dif_pos ((GatherDims.mem_sKept _ _).mpr ⟨by decide, List.not_mem_nil⟩)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 3) ∈ (gather_S4x2048x128_S127x32x1_S4x127x32x128_03_1_n_n_1_2_41128).startIndexMap from List.mem_singleton.mpr rfl)]
    have hsi : ∀ k, (gather_S4x2048x128_S127x32x1_S4x127x32x128_03_1_n_n_1_2_41128).siIdx (ix4 g c i d) k = ix3 c i 0 := by
      intro k
      funext b; refine Fin.ext ?_
      match b with
      | ⟨0, _⟩ => rfl
      | ⟨1, _⟩ => rfl
      | ⟨2, _⟩ => have := k.isLt; show k.val = 0; exact Nat.lt_one_iff.mp this
    rw [hsi, hp, Cert.KernelIdeal.Attn.toInt_nat (by omega)]
    show min p.val (2048 - 1) + 0 + 0 = p.val
    omega
  · unfold GatherDims.start
    rw [dif_neg (by decide)]
    unfold GatherDims.offCoord
    rw [dif_pos ((GatherDims.mem_sKept _ _).mpr ⟨by decide, List.not_mem_nil⟩)]
    simp only [Nat.zero_add]
    rfl

theorem minusInf : Ideal.ofBits .f32 0xFF800000#32 = ⊥ := by
  simp [Ideal.ofBits, Ideal.ieee]

/-- A row's maximum, as the reference takes it. -/
theorem rowMax {n : ℕ} (v : (⟨4, ![4, 4, 2048, n]⟩ : Shape).Idx → EReal) (h : (⟨4, ![4, 4, 2048, n]⟩ : Shape).ReducesTo [3] S4x4x2048)
    (g j : Fin 4) (t : Fin 2048) :
    max (Ideal.ofBits .f32 0xFF800000#32) ((Finset.univ.filter fun i => h.drop i = ix3 g j t).fold max (Ideal.ofBits .f32 0xFF800000#32) v)
      = Finset.univ.sup fun k => v (ix4 g j t k) := by
  rw [minusInf, max_eq_right bot_le, h.fold_fiber_r4_a3]
  rfl

end Cert.RefIdeal.Attn
-- ==== Proof.RefReads.lean ====
/-
  The attention reference's query, key, value and gate arrays, entry by entry.
-/
module

public import proofs.«01_k».proof.Proof.Gen.RefIdeal.Run
public import proofs.«01_k».proof.Proof.AttnOps

@[expose] public section

noncomputable section

namespace Cert.RefIdeal.Attn

open Cert.RefIdeal Cert.RefIdeal.Value
open Idealize.ShloMosaic Idealize.ShloMosaic.TcCoe Idealize.ShloMosaic.Tactic
open Cert.AttnSpec Cert.Online Cert.KernelIdeal.Attn

variable (V0 : Valuation τ sig (Elt Ideal))

/-- The reference's argument. -/
def arg : FVec Ideal S2048x3200 .f32 := V0 (Proc.devRef .tc main_arg0)

variable (hx : Finite (arg V0))
include hx

local notation "E" => entry (arg V0)

theorem arg_apply (r : Fin 2048) (c c' : ℕ) (hc : c < 3200) (e : c = c') :
    (V0 (Proc.devRef .tc main_arg0) : FVec Ideal S2048x3200 .f32) (ix2 r ⟨c, hc⟩) = (E r.val c' : EReal) := by
  subst e
  exact entry_eq hx r ⟨c, hc⟩

theorem key_apply (g : Fin 4) (p : Fin 2048) (d : Fin 128) :
    (res_main_v5 V0 : FVec Ideal S4x2048x128 .f32) (ix3 g p d) = (E p.val (2048 + 128 * g.val + d.val) : EReal) := by
  pointwise [res_main_v5]
  exact arg_apply V0 hx p _ _ _ (by omega)

theorem value_apply (g : Fin 4) (p : Fin 2048) (d : Fin 128) :
    (res_main_v8 V0 : FVec Ideal S4x2048x128 .f32) (ix3 g p d) = (E p.val (2560 + 128 * g.val + d.val) : EReal) := by
  pointwise [res_main_v8]
  exact arg_apply V0 hx p _ _ _ (by omega)

theorem query_apply (g j : Fin 4) (t : Fin 2048) (d : Fin 128) :
    (res_main_v9 V0 : FVec Ideal S4x4x2048x128 .f32) (ix4 g j t d) = (E t.val (128 * (4 * g.val + j.val) + d.val) : EReal) := by
  pointwise [res_main_v9]
  exact arg_apply V0 hx t _ _ _ (by omega)

theorem gate_apply (g j : Fin 4) (t : Fin 2048) (e : Fin 3) :
    (res_main_v172 V0 : FVec Ideal S4x4x2048x3 .f32) (ix4 g j t e) = (gate E e.val (4 * g.val + j.val) t.val : EReal) := by
  pointwise [res_main_v172]
  rw [arg_apply V0 hx t _ (3072 + 3 * (4 * g.val + j.val) + e.val) _ (by omega), ← EReal.coe_neg, Ideal.exp_coe, ← EReal.coe_one, ← EReal.coe_add,
    div_coe (by positivity)]
  rfl

omit hx in
/-- The position of row `i` of the compressed block `c`. -/
theorem starts_apply (c : Fin 127) (i : Fin 32) : (res_main_v20 V0 : IVec S127x32 32) (ix2 c i) = BitVec.ofNat 32 (16 * c.val + i.val) := by
  pointwise [res_main_v20, res_main_v14]
  have h : ∀ c : Fin 127, IntOp.muli (BitVec.ofNat 32 c.val) 16#32 = BitVec.ofNat 32 (16 * c.val) := by decide +kernel
  rw [h]
  exact (BitVec.ofNat_add _ _).symm

omit hx in
/-- The table of positions the blocks' rows are gathered by. -/
theorem table_apply (c : Fin 127) (i : Fin 32) :
    (broadcastInDim S127x32x1 ![0, 1] Gen.bcast_S127x32_S127x32x1_0_1
      (select (cmpi CmpIPredicate.slt (res_main_v20 V0 : IVec S127x32 32) (broadcastInDim S127x32 ![] Gen.bcast_S_S127x32 (constantI S_ 32 0#32)))
        (addi (res_main_v20 V0 : IVec S127x32 32) (broadcastInDim S127x32 ![] Gen.bcast_S_S127x32 (constantI S_ 32 2048#32))) (res_main_v20 V0 : IVec S127x32 32)))
      (ix3 c i 0) = BitVec.ofNat 32 (⟨16 * c.val + i.val, by omega⟩ : Fin 2048).val := by
  pointwise []
  rw [starts_apply, slt_nat (b := 0) (by omega) (by omega), select_bool, if_neg (by simp)]

omit hx in
theorem thirtyTwo : Ideal.ofBits .f32 0x42000000#32 = ((32 : ℝ) : EReal) := by
  simp [Ideal.ofBits, Ideal.ieee, -EReal.coe_mul]; norm_num

omit hx in
theorem visible_apply (t : Fin 2048) (c : Fin 127) :
    (res_main_v52 V0 : IVec S2048x127 1) (ix2 t c) = BitVec.ofBool (decide (16 * c.val + 31 ≤ t.val)) := by
  pointwise [res_main_v52, res_main_v14, res_main_v10]
  have h : ∀ c : Fin 127, IntOp.subi (IntOp.addi (IntOp.muli (BitVec.ofNat 32 c.val) 16#32) 32#32) 1#32 = BitVec.ofNat 32 (16 * c.val + 31) := by decide +kernel
  rw [h, sle_nat (by omega) (by omega)]

omit hx in
/-- The mean of a block of gathered rows. -/
theorem mean_apply (x : FVec Ideal S4x2048x128 .f32) (g : Fin 4) (f : ℕ → ℕ → ℝ) (hf : ∀ (p : Fin 2048) (d : Fin 128), x (ix3 g p d) = (f p.val d.val : EReal))
    (c : Fin 127) (d : Fin 128) :
    Ideal.div (∑ i : Fin 32, (Host.gather gather_S4x2048x128_S127x32x1_S4x127x32x128_03_1_n_n_1_2_41128 x
      (broadcastInDim S127x32x1 ![0, 1] Gen.bcast_S127x32_S127x32x1_0_1
      (select (cmpi CmpIPredicate.slt (res_main_v20 V0 : IVec S127x32 32) (broadcastInDim S127x32 ![] Gen.bcast_S_S127x32 (constantI S_ 32 0#32)))
        (addi (res_main_v20 V0 : IVec S127x32 32) (broadcastInDim S127x32 ![] Gen.bcast_S_S127x32 (constantI S_ 32 2048#32))) (res_main_v20 V0 : IVec S127x32 32)))
      (ix4 g c i d) : EReal)) (Ideal.ofBits .f32 0x42000000#32) = (((∑ i : Fin 32, f (16 * c.val + i.val) d.val) / 32 : ℝ) : EReal) := by
  rw [thirtyTwo, ← div_coe (by norm_num), coe_sum]
  congr 1
  refine Finset.sum_congr rfl fun i _ => ?_
  rw [gather_rows _ _ g c i d _ (table_apply V0 c i)]
  exact hf _ d

/-- The compressed branch's scores. -/
theorem cmp_apply (g j : Fin 4) (t : Fin 2048) (c : Fin 127) :
    (res_main_v54 V0 : FVec Ideal S4x4x2048x127 .f32) (ix4 g j t c) = sC E (4 * g.val + j.val) t.val c.val := by
  pointwise [res_main_v54]
  rw [visible_apply, select_bool, sC, show (4 * g.val + j.val) / 4 = g.val by omega]
  simp only [decide_eq_true_iff]
  refine if_congr Iff.rfl ?_ minusInf
  rw [EReal.coe_mul, coe_sum, scale_eq]
  refine congrArg (· * (scale : EReal)) (Finset.sum_congr rfl fun d _ => ?_)
  rw [EReal.coe_mul]
  exact congrArg₂ (fun p q : EReal => p * q) (query_apply V0 hx g j t d)
    (mean_apply V0 (res_main_v5 V0) g (fun p d => E p (2048 + 128 * g.val + d)) (fun p d => key_apply V0 hx g p d) c d)

end Cert.RefIdeal.Attn
-- ==== Proof.RefRows.lean ====
/-
  The rows of the attention reference's softmax, on any scores.
-/
module

public import proofs.«01_k».proof.Proof.AttnOps

@[expose] public section

noncomputable section

namespace Cert.RefIdeal.Attn

open Cert.RefIdeal
open Idealize.ShloMosaic Idealize.ShloMosaic.TcCoe Idealize.ShloMosaic.Tactic
open Cert.AttnSpec Cert.Online Cert.KernelIdeal.Attn

variable {n : ℕ}

/-- The rows' shape. -/
abbrev Rows (n : ℕ) : Shape := ⟨4, ![4, 4, 2048, n]⟩

/-- A row's number, spread along the row. -/
theorem spread (y : FVec Ideal S4x4x2048 .f32) (hb : S4x4x2048x1.BroadcastsInDim (Rows n) ![0, 1, 2, 3]) (hb' : S4x4x2048.BroadcastsInDim S4x4x2048x1 ![0, 1, 2])
    (g j : Fin 4) (t : Fin 2048) (c : Fin n) :
    broadcastInDim (Rows n) ![0, 1, 2, 3] hb (broadcastInDim S4x4x2048x1 ![0, 1, 2] hb' y) (ix4 g j t c) = y (ix3 g j t) := by
  pointwise []

theorem expAt {s : Shape} (a : FVec Ideal s .f32) (i : s.Idx) : Host.exp a i = Ideal.exp (a i) := rfl
theorem subAt {s : Shape} (a b : FVec Ideal s .f32) (i : s.Idx) : subf a b i = a i - b i := rfl
theorem divAt {s : Shape} (a b : FVec Ideal s .f32) (i : s.Idx) : Host.divf a b i = Ideal.div (a i) (b i) := rfl
theorem maxAt {s : Shape} (a b : FVec Ideal s .f32) (i : s.Idx) : maximumf a b i = max (a i) (b i) := rfl

theorem lit (h0 : S_.BroadcastsInDim S4x4x2048 ![]) (w : BitVec 32) (i : S4x4x2048.Idx) :
    (broadcastInDim S4x4x2048 ![] h0 (constant S_ .f32 w) : FVec Ideal S4x4x2048 .f32) i = Ideal.ofBits .f32 w := rfl

theorem redMax (v : FVec Ideal (Rows n) .f32) (hr : (Rows n).ReducesTo [3] S4x4x2048) (hS : 0 < S_.numel) (w : BitVec 32) (g j : Fin 4) (t : Fin 2048) :
    Host.reduce FloatOps.maximumf v (constant S_ .f32 w) hr hS (ix3 g j t)
      = (Finset.univ : Finset (Fin n)).fold FloatOps.maximumf (constant (F := Ideal) S_ .f32 w (Shape.Idx.first hS)) (fun k => v (ix4 g j t k)) := by
  rw [Host.reduce_eq_fold, hr.fold_fiber_r4_a3]
  rfl

theorem foldSup (f : Fin n → EReal) : (Finset.univ : Finset (Fin n)).fold max (⊥ : EReal) f = Finset.univ.sup f := rfl

theorem redSum (v : FVec Ideal (Rows n) .f32) (hr : (Rows n).ReducesTo [3] S4x4x2048) (hS : 0 < S_.numel) (w : BitVec 32) (g j : Fin 4) (t : Fin 2048) :
    Host.reduceAdd v (constant S_ .f32 w) hr hS (ix3 g j t) = Ideal.ofBits .f32 w + ∑ k : Fin n, (v (ix4 g j t k) : EReal) := by
  unfold Host.reduceAdd
  rw [Ideal.hostReduceAdd_def, Ideal.hostReduceAdd_r4_a3]
  rfl

theorem expRow (v : FVec Ideal (Rows n) .f32) (hb : S4x4x2048x1.BroadcastsInDim (Rows n) ![0, 1, 2, 3]) (hb' : S4x4x2048.BroadcastsInDim S4x4x2048x1 ![0, 1, 2])
    (h0 : S_.BroadcastsInDim S4x4x2048 ![]) (hr : (Rows n).ReducesTo [3] S4x4x2048) (hS : 0 < S_.numel) (g j : Fin 4) (t : Fin 2048) (c : Fin n) :
    Host.exp (subf v (broadcastInDim (Rows n) ![0, 1, 2, 3] hb (broadcastInDim S4x4x2048x1 ![0, 1, 2] hb'
        (maximumf (broadcastInDim S4x4x2048 ![] h0 (constant S_ .f32 0xFF800000#32))
          (Host.reduce FloatOps.maximumf v (constant S_ .f32 0xFF800000#32) hr hS))))) (ix4 g j t c)
      = Ideal.exp (v (ix4 g j t c) - Finset.univ.sup fun k => v (ix4 g j t k)) := by
  rw [expAt, subAt, spread, maxAt, lit, redMax]
  have h : (Finset.univ : Finset (Fin n)).fold FloatOps.maximumf (constant (F := Ideal) S_ .f32 0xFF800000#32 (Shape.Idx.first hS)) (fun k => v (ix4 g j t k))
      = (Finset.univ : Finset (Fin n)).fold max (Ideal.ofBits .f32 0xFF800000#32) (fun k => v (ix4 g j t k)) := rfl
  rw [h, minusInf, foldSup, max_eq_right bot_le]

theorem quotRow (e : FVec Ideal (Rows n) .f32) (hb : S4x4x2048x1.BroadcastsInDim (Rows n) ![0, 1, 2, 3]) (hb' : S4x4x2048.BroadcastsInDim S4x4x2048x1 ![0, 1, 2])
    (hr : (Rows n).ReducesTo [3] S4x4x2048) (hS : 0 < S_.numel) (g j : Fin 4) (t : Fin 2048) (c : Fin n) :
    Host.divf e (broadcastInDim (Rows n) ![0, 1, 2, 3] hb (broadcastInDim S4x4x2048x1 ![0, 1, 2] hb'
        (Host.reduceAdd e (constant S_ .f32 0x00000000#32) hr hS))) (ix4 g j t c)
      = Ideal.div (e (ix4 g j t c)) (∑ k : Fin n, e (ix4 g j t k)) := by
  rw [divAt, spread, redSum, show Ideal.ofBits .f32 0x00000000#32 = 0 by simp [Ideal.ofBits, Ideal.ieee], zero_add]

end Cert.RefIdeal.Attn
-- ==== Proof.RefCmp.lean ====
/-
  The compressed branch's probabilities in the attention reference.
-/
module

public import proofs.«01_k».proof.Proof.RefReads
public import proofs.«01_k».proof.Proof.RefRows

@[expose] public section

noncomputable section

namespace Cert.RefIdeal.Attn

open Cert.RefIdeal Cert.RefIdeal.Value
open Idealize.ShloMosaic Idealize.ShloMosaic.TcCoe Idealize.ShloMosaic.Tactic
open Cert.AttnSpec Cert.Online Cert.KernelIdeal.Attn

variable (V0 : Valuation τ sig (Elt Ideal)) (hx : Finite (arg V0))
include hx

local notation "E" => entry (arg V0)

omit hx in
/-- A masked quotient at an index. -/
theorem sel_apply (m : IVec S2048x127 1) (e : FVec Ideal S4x4x2048x127 .f32) (g j : Fin 4) (t : Fin 2048) (c : Fin 127) :
    select (broadcastInDim S4x4x2048x127 ![0, 1, 2, 3] Gen.bcast_S1x1x2048x127_S4x4x2048x127_0_1_2_3
      (broadcastInDim S1x1x2048x127 ![2, 3] Gen.bcast_S2048x127_S1x1x2048x127_2_3 m)) e
      (broadcastInDim S4x4x2048x127 ![] Gen.bcast_S_S4x4x2048x127 (id (constant S_ .f32 0x00000000#32))) (ix4 g j t c)
      = Scalar.select (m (ix2 t c)) (e (ix4 g j t c)) 0 := by
  pointwise []
  exact congrArg (Scalar.select (α := EReal) (m (ix2 t c)) (e (ix4 g j t c)))
    (show Ideal.ofBits .f32 0x00000000#32 = (0 : EReal) by simp [Ideal.ofBits, Ideal.ieee])

theorem prob_apply (g j : Fin 4) (t : Fin 2048) (c : Fin 127) :
    (res_main_v67 V0 : FVec Ideal S4x4x2048x127 .f32) (ix4 g j t c) = (pC E (4 * g.val + j.val) t.val c.val : EReal) := by
  unfold res_main_v67
  refine (sel_apply _ _ g j t c).trans ?_
  rw [visible_apply, select_bool]
  simp only [decide_eq_true_iff]
  split_ifs with hv
  · refine (quotRow _ _ _ _ _ g j t c).trans ?_
    have he : ∀ k, (res_main_v62 V0 : FVec Ideal S4x4x2048x127 .f32) (ix4 g j t k)
        = Ideal.exp (sC E (4 * g.val + j.val) t.val k.val - Finset.univ.sup fun k : Fin 127 => sC E (4 * g.val + j.val) t.val k.val) := by
      intro k
      unfold res_main_v62
      refine (expRow _ _ _ _ _ _ g j t k).trans ?_
      simp only [cmp_apply V0 hx]
    simp only [he]
    refine prob (fun k : Fin 127 => sC E (4 * g.val + j.val) t.val k.val) (fun k => sC_ne_top E _ _ _) (i := c) ?_ c
    rw [sC, if_pos hv]
    exact EReal.coe_ne_bot _
  · rw [pC, sC, if_neg hv, wt_bot, zero_div, EReal.coe_zero]

end Cert.RefIdeal.Attn
-- ==== Proof.RefMasks.lean ====
/-
  The masked scores of the attention reference's selected and window branches, and the block scores the selection compares.
-/
module

public import proofs.«01_k».proof.Proof.RefCmp
public import proofs.«01_k».proof.Proof.AttnTiles

@[expose] public section

noncomputable section

namespace Cert.RefIdeal.Attn

open Cert.RefIdeal Cert.RefIdeal.Value
open Idealize.ShloMosaic Idealize.ShloMosaic.TcCoe Idealize.ShloMosaic.Tactic
open Cert.AttnSpec Cert.Online Cert.KernelIdeal.Attn

variable (V0 : Valuation τ sig (Elt Ideal)) (hx : Finite (arg V0))
include hx

local notation "E" => entry (arg V0)

theorem score_apply (g j : Fin 4) (t p : Fin 2048) :
    (∑ d : Fin 128, (fun p q : EReal => p * q) ((res_main_v9 V0 : FVec Ideal S4x4x2048x128 .f32) (ix4 g j t d)) ((res_main_v5 V0 : FVec Ideal S4x2048x128 .f32) (ix3 g p d)))
      * Ideal.ofBits .f32 0x3DB504F3#32 = (qk E (4 * g.val + j.val) t.val p.val : EReal) := by
  rw [qk, EReal.coe_mul, coe_sum, scale_eq, show (4 * g.val + j.val) / 4 = g.val by omega]
  refine congrArg (· * (scale : EReal)) (Finset.sum_congr rfl fun d _ => ?_)
  rw [EReal.coe_mul]
  exact congrArg₂ (fun p q : EReal => p * q) (query_apply V0 hx g j t d) (key_apply V0 hx g p d)

theorem window_apply (g j : Fin 4) (t p : Fin 2048) :
    (res_main_v150 V0 : FVec Ideal S4x4x2048x2048 .f32) (ix4 g j t p) = sW E (4 * g.val + j.val) t.val p.val := by
  pointwise [res_main_v150, res_main_v11, res_main_v117, res_main_v10]
  rw [sle_nat (by omega) (by omega), sgt_window (by omega) (by omega), and_bool, select_bool, ← Bool.decide_and, sW]
  simp only [decide_eq_true_iff]
  exact if_congr Iff.rfl (score_apply V0 hx g j t p) minusInf

omit hx in
theorem causal_apply (t p : Fin 2048) : (res_main_v117 V0 : IVec S2048x2048 1) (ix2 t p) = BitVec.ofBool (decide (p.val ≤ t.val)) := by
  pointwise [res_main_v11, res_main_v117, res_main_v10]
  rw [sle_nat (by omega) (by omega)]

omit hx in
/-- The floor division by the block length, as the reference writes it. -/
theorem floorRef : ∀ n : Fin 2048, Scalar.select
      (IntOp.andi
        (IntOp.cmpi CmpIPredicate.ne
          (if BitVec.ofNat 32 n.val = 0 then (0 : BitVec 32) else if (BitVec.ofNat 32 n.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

omit hx in
/-- A truth value as a number. -/
theorem truth (p : Bool) : (FloatOps.uitofp .f32 (BitVec.ofBool p) : Ideal .f32) = (((if p = true then 1 else 0 : ℝ)) : EReal) := by
  cases p
  · show (((BitVec.ofBool false).toNat : ℝ) : EReal) = _
    simp
  · show (((BitVec.ofBool true).toNat : ℝ) : EReal) = _
    simp

/-- The block scores the selection compares. -/
theorem sco_apply (g : Fin 4) (t : Fin 2048) (b : Fin 32) :
    (res_main_v107 V0 : FVec Ideal S4x2048x32 .f32) (ix3 g t b) = sco E g.val t.val b.val := by
  pointwise [res_main_v107, res_main_call2_v0, res_main_call2_v2, res_main_call3_v0, res_main_call3_v2, res_main_v10, res_main_v14]
  have h64 : ∀ b : Fin 32, IntOp.muli (BitVec.ofNat 32 b.val) 64#32 = BitVec.ofNat 32 (64 * b.val) := by decide +kernel
  have h16 : ∀ c : Fin 127, IntOp.muli (BitVec.ofNat 32 c.val) 16#32 = BitVec.ofNat 32 (16 * c.val) := by decide +kernel
  have hid : (id (constantI S_ 32 64#32) : IVec S_ 32) ix0 = 64#32 := rfl
  have hc : ∀ c : Fin 127, 16 * c.val / 64 = c.val / 4 := fun c => by omega
  have h127 : ∀ c : Fin 127, _ := fun c => floorRef ⟨16 * c.val, by omega⟩
  simp only [hid, h16, h64, floorRef t, h127, hc]
  erw [floorRef t]
  rw [sle_nat (by omega) (by omega), select_bool, eq_nat (a := t.val / 64) (by omega) (by omega), eq_nat (b := 0) (by omega) (by omega), or_bool, truth, sco, big_eq]
  simp only [decide_eq_true_iff, Bool.or_eq_true]
  refine if_congr Iff.rfl ?_ minusInf
  rw [EReal.coe_add, EReal.coe_mul, blk, coe_sum]
  refine congrArg₂ (fun p q : EReal => p + q) (Finset.sum_congr rfl fun c _ => ?_) ?_
  · rw [eq_nat (by omega) (by omega), truth, EReal.coe_mul, imp, coe_sum]
    simp only [decide_eq_true_iff]
    refine congrArg (fun p : EReal => p * _) (Finset.sum_congr rfl fun j _ => prob_apply V0 hx g j t c)
  · refine congrArg (fun p : ℝ => (big : EReal) * (p : EReal)) (if_congr ?_ rfl rfl)
    rw [eq_comm (a := t.val / 64)]

open Classical in
theorem selected_apply (g j : Fin 4) (t p : Fin 2048) :
    (res_main_v125 V0 : FVec Ideal S4x4x2048x2048 .f32) (ix4 g j t p) = sS E (4 * g.val + j.val) t.val p.val := by
  pointwise [res_main_v125]
  rw [causal_apply, and_bool, select_bool, sS, show (4 * g.val + j.val) / 4 = g.val by omega]
  refine if_congr ?_ (score_apply V0 hx g j t p) minusInf
  rw [Bool.and_eq_true, decide_eq_true_iff]
  refine Iff.trans (and_congr ?_ decide_eq_true_iff) and_comm
  refine (topK_le_iff _ _ g t ⟨p.val / 64, by omega⟩).trans ?_
  simp only [sco_apply V0 hx]
  rfl

end Cert.RefIdeal.Attn
-- ==== Proof.RefOut.lean ====
/-
  The attention reference's result, entry by entry.
-/
module

public import proofs.«01_k».proof.Proof.RefMasks

@[expose] public section

noncomputable section

namespace Cert.RefIdeal.Attn

open Cert.RefIdeal Cert.RefIdeal.Value Cert.RefIdeal.Gen
open Idealize.ShloMosaic Idealize.ShloMosaic.TcCoe Idealize.ShloMosaic.Tactic
open Cert.AttnSpec Cert.Online Cert.KernelIdeal.Attn

theorem blend_apply (G : FVec Ideal S4x4x2048x3 .f32) (P : FVec Ideal S4x4x2048x127 .f32) (M : FVec Ideal S4x127x128 .f32) (Q Q' : FVec Ideal S4x4x2048x2048 .f32)
    (Wv : FVec Ideal S4x2048x128 .f32) (g j : Fin 4) (t : Fin 2048) (d : Fin 128) :
    (addf (addf (mulf (broadcastInDim S4x4x2048x128 ![0, 1, 2, 3] bcast_S4x4x2048x1_S4x4x2048x128_0_1_2_3 (extractStridedSlice S4x4x2048x1 ![0, 0, 0, 0] G slices_S4x4x2048x3_S4x4x2048x1_0_0_0_0)) (Host.dotGeneral dot_S4x4x2048x127_S4x127x128_S4x4x2048x128_3_1_12_2_0_0 none P M)) (mulf (broadcastInDim S4x4x2048x128 ![0, 1, 2, 3] bcast_S4x4x2048x1_S4x4x2048x128_0_1_2_3 (extractStridedSlice S4x4x2048x1 ![0, 0, 0, 1] G slices_S4x4x2048x3_S4x4x2048x1_0_0_0_1)) (Host.dotGeneral dot_S4x4x2048x2048_S4x2048x128_S4x4x2048x128_3_1_12_2_0_0 none Q Wv))) (mulf (broadcastInDim S4x4x2048x128 ![0, 1, 2, 3] bcast_S4x4x2048x1_S4x4x2048x128_0_1_2_3 (extractStridedSlice S4x4x2048x1 ![0, 0, 0, 2] G slices_S4x4x2048x3_S4x4x2048x1_0_0_0_2)) (Host.dotGeneral dot_S4x4x2048x2048_S4x2048x128_S4x4x2048x128_3_1_12_2_0_0 none Q' Wv))) (ix4 g j t d)
      = G (ix4 g j t 0) * (∑ c : Fin 127, P (ix4 g j t c) * M (ix3 g c d)) + G (ix4 g j t 1) * (∑ p : Fin 2048, Q (ix4 g j t p) * Wv (ix3 g p d))
        + G (ix4 g j t 2) * (∑ p : Fin 2048, Q' (ix4 g j t p) * Wv (ix3 g p d)) := by
  pointwise []

theorem blocks_mean (X : FVec Ideal S4x127x32x128 .f32) (g : Fin 4) (c : Fin 127) (d : Fin 128) :
    (Host.divf (Host.reduceAdd X (constant S_ .f32 0x00000000#32) reducesTo_S4x127x32x128_S4x127x128_d2 h_S_) (broadcastInDim S4x127x128 ![] bcast_S_S4x127x128 (constant S_ .f32 0x42000000#32))) (ix3 g c d) = Ideal.div (∑ i : Fin 32, (X (ix4 g c i d) : EReal)) (Ideal.ofBits .f32 0x42000000#32) := by
  pointwise []

theorem heads_apply (A : FVec Ideal S4x4x2048x128 .f32) (t c : Fin 2048) :
    (shapeCast S2048x2048 (transpose S2048x16x128 [1, 0, 2] (shapeCast S16x2048x128 A shapeCasts_S4x4x2048x128_S16x2048x128) transposes_S16x2048x128_S2048x16x128_1_0_2) shapeCasts_S2048x16x128_S2048x2048) (ix2 t c)
      = A (ix4 ⟨c.val / 128 / 4, by omega⟩ ⟨c.val / 128 % 4, by omega⟩ t ⟨c.val % 128, by omega⟩) := by
  pointwise []

variable (V0 : Valuation τ sig (Elt Ideal)) (hx : Finite (arg V0))
include hx

local notation "E" => entry (arg V0)

theorem soft_row (v e : FVec Ideal S4x4x2048x2048 .f32) (s : ℕ → EReal) (g j : Fin 4) (t : Fin 2048) (d : Fin 128) (hs : ∀ p : Fin 2048, v (ix4 g j t p) = s p.val)
    (hn : ∀ p : Fin 2048, s p.val ≠ ⊤) (hl : ∃ p : Fin 2048, s p.val ≠ ⊥)
    (he : ∀ p : Fin 2048, e (ix4 g j t p) = Ideal.exp (v (ix4 g j t p) - Finset.univ.sup fun k : Fin 2048 => v (ix4 g j t k))) :
    (∑ p : Fin 2048, (fun a b : EReal => a * b) (Host.divf e (broadcastInDim S4x4x2048x2048 ![0, 1, 2, 3] bcast_S4x4x2048x1_S4x4x2048x2048_0_1_2_3
        (broadcastInDim S4x4x2048x1 ![0, 1, 2] bcast_S4x4x2048_S4x4x2048x1_0_1_2
          (Host.reduceAdd e (constant S_ .f32 0x00000000#32) reducesTo_S4x4x2048x2048_S4x4x2048_d3 h_S_))) (ix4 g j t p))
        ((res_main_v8 V0 : FVec Ideal S4x2048x128 .f32) (ix3 g p d)))
      = (soft (fun p : Fin 2048 => s p.val) (fun p => val E (4 * g.val + j.val) p.val d.val) : EReal) := by
  obtain ⟨q, hq⟩ := hl
  rw [← soft_eq (fun p : Fin 2048 => s p.val) hn hq]
  refine Finset.sum_congr rfl fun p _ => ?_
  refine congrArg₂ (fun a b : EReal => a * b) ((quotRow _ _ _ _ _ g j t p).trans ?_) ((value_apply V0 hx g p d).trans ?_)
  · simp only [he, hs]
  · rw [val, show (4 * g.val + j.val) / 4 = g.val by omega]

/-- The array the reference leaves, at an index. -/
theorem result_apply (t c : Fin 2048) :
    ((shapeCast _ (transpose S2048x16x128 [1, 0, 2] (shapeCast _ (addf (addf (mulf (broadcastInDim S4x4x2048x128 ![0, 1, 2, 3] bcast_S4x4x2048x1_S4x4x2048x128_0_1_2_3 (extractStridedSlice S4x4x2048x1 ![0, 0, 0, 0] (res_main_v172 V0) slices_S4x4x2048x3_S4x4x2048x1_0_0_0_0)) (Host.dotGeneral (φ₁ := .f32) (φ₂ := .f32) dot_S4x4x2048x127_S4x127x128_S4x4x2048x128_3_1_12_2_0_0 none (res_main_v67 V0) (Host.divf (Host.reduceAdd (Host.gather gather_S4x2048x128_S127x32x1_S4x127x32x128_03_1_n_n_1_2_41128 (res_main_v8 V0) (broadcastInDim S127x32x1 ![0, 1] bcast_S127x32_S127x32x1_0_1 (select (cmpi .slt (res_main_v20 V0) (broadcastInDim S127x32 ![] bcast_S_S127x32 (constantI S_ 32 0#32))) (addi (res_main_v20 V0) (broadcastInDim S127x32 ![] bcast_S_S127x32 (constantI S_ 32 2048#32))) (res_main_v20 V0)))) (constant S_ .f32 0x00000000#32) reducesTo_S4x127x32x128_S4x127x128_d2 h_S_) (broadcastInDim S4x127x128 ![] bcast_S_S4x127x128 (constant S_ .f32 0x42000000#32))))) (mulf (broadcastInDim S4x4x2048x128 ![0, 1, 2, 3] bcast_S4x4x2048x1_S4x4x2048x128_0_1_2_3 (extractStridedSlice S4x4x2048x1 ![0, 0, 0, 1] (res_main_v172 V0) slices_S4x4x2048x3_S4x4x2048x1_0_0_0_1)) (Host.dotGeneral (φ₁ := .f32) (φ₂ := .f32) dot_S4x4x2048x2048_S4x2048x128_S4x4x2048x128_3_1_12_2_0_0 none (Host.divf (res_main_v132 V0) (broadcastInDim S4x4x2048x2048 ![0, 1, 2, 3] bcast_S4x4x2048x1_S4x4x2048x2048_0_1_2_3 (broadcastInDim S4x4x2048x1 ![0, 1, 2] bcast_S4x4x2048_S4x4x2048x1_0_1_2 (Host.reduceAdd (res_main_v132 V0) (constant S_ .f32 0x00000000#32) reducesTo_S4x4x2048x2048_S4x4x2048_d3 h_S_)))) (res_main_v8 V0)))) (mulf (broadcastInDim S4x4x2048x128 ![0, 1, 2, 3] bcast_S4x4x2048x1_S4x4x2048x128_0_1_2_3 (extractStridedSlice S4x4x2048x1 ![0, 0, 0, 2] (res_main_v172 V0) slices_S4x4x2048x3_S4x4x2048x1_0_0_0_2)) (Host.dotGeneral (φ₁ := .f32) (φ₂ := .f32) dot_S4x4x2048x2048_S4x2048x128_S4x4x2048x128_3_1_12_2_0_0 none (Host.divf (res_main_v157 V0) (broadcastInDim S4x4x2048x2048 ![0, 1, 2, 3] bcast_S4x4x2048x1_S4x4x2048x2048_0_1_2_3 (broadcastInDim S4x4x2048x1 ![0, 1, 2] bcast_S4x4x2048_S4x4x2048x1_0_1_2 (Host.reduceAdd (res_main_v157 V0) (constant S_ .f32 0x00000000#32) reducesTo_S4x4x2048x2048_S4x4x2048_d3 h_S_)))) (res_main_v8 V0)))) shapeCasts_S4x4x2048x128_S16x2048x128) transposes_S16x2048x128_S2048x16x128_1_0_2) shapeCasts_S2048x16x128_S2048x2048 : FVec Ideal S2048x2048 .f32)) (ix2 t c) = (out E (c.val / 128) t.val (c.val % 128) : EReal) := by
  refine (heads_apply _ t c).trans ?_
  generalize hg : (⟨c.val / 128 / 4, by omega⟩ : Fin 4) = g
  generalize hj : (⟨c.val / 128 % 4, by omega⟩ : Fin 4) = j
  generalize hd : (⟨c.val % 128, by omega⟩ : Fin 128) = d
  have hh : c.val / 128 = 4 * g.val + j.val := by rw [← hg, ← hj]; show _ = 4 * (c.val / 128 / 4) + c.val / 128 % 4; omega
  have hdv : c.val % 128 = d.val := by rw [← hd]
  rw [hh, hdv]
  refine (blend_apply _ _ _ _ _ _ g j t d).trans ?_
  rw [out, EReal.coe_add, EReal.coe_add, EReal.coe_mul, EReal.coe_mul, EReal.coe_mul]
  refine congrArg₂ (fun a b : EReal => a + b) (congrArg₂ (fun a b : EReal => a + b)
    (congrArg₂ (fun a b : EReal => a * b) (gate_apply V0 hx g j t 0) ?_)
    (congrArg₂ (fun a b : EReal => a * b) (gate_apply V0 hx g j t 1) ?_))
    (congrArg₂ (fun a b : EReal => a * b) (gate_apply V0 hx g j t 2) ?_)
  · rw [outC, coe_sum]
    refine Finset.sum_congr rfl fun k _ => ?_
    rw [EReal.coe_mul]
    refine congrArg₂ (fun a b : EReal => a * b) (prob_apply V0 hx g j t k) ((blocks_mean _ g k d).trans ?_)
    refine (mean_apply V0 _ g (fun p d => E p (2560 + 128 * g.val + d)) (fun p d => value_apply V0 hx g p d) k d).trans ?_
    rw [vc, show (4 * g.val + j.val) / 4 = g.val by omega]
  · refine soft_row V0 hx _ _ (fun p => sS E (4 * g.val + j.val) t.val p) g j t d (fun p => selected_apply V0 hx g j t p) (fun p => sS_ne_top _ _ _ _) ?_
      (fun p => ?_)
    · obtain ⟨p, hp, hl⟩ := sS_live E (4 * g.val + j.val) t.val
      exact ⟨⟨p, by omega⟩, hl⟩
    · exact expRow _ _ _ _ _ _ g j t p
  · refine soft_row V0 hx _ _ (fun p => sW E (4 * g.val + j.val) t.val p) g j t d (fun p => window_apply V0 hx g j t p) (fun p => sW_ne_top _ _ _ _)
      ⟨t, sW_live _ _ _⟩ (fun p => ?_)
    exact expRow _ _ _ _ _ _ g j t p

end Cert.RefIdeal.Attn
-- ==== Proof.AttnValue.lean ====
/-
  The attention call at the ideal instance: on finite inputs its array is the reference's value.
-/
module

public import proofs.«01_k».proof.Defs
public import proofs.«01_k».proof.Proof.AttnHead
public import proofs.«01_k».proof.Proof.RefOut
public import proofs.«01_k».proof.Proof.Gen.Pre_finite
public import Idealize.ShloMosaic.Lib.ReduceAll
public import Idealize.ShloMosaic.Lib.Pipeline.Value

@[expose] public section

set_option maxRecDepth 16384

noncomputable section

namespace Cert.KernelIdeal.Attn

open Cert.KernelIdeal Cert.KernelIdeal.Gen Cert.AttnSpec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array of packed query, key, value and gate columns the call is given. -/
def given (c : Dev nD) : Vec Ideal S2048x3200 .f32 := m ((c : Thread nD τ).loc main_arg0)

/-- The array the call leaves. -/
def result (c : Dev nD) : Vec Ideal S2048x2048 .f32 := fun y => (out (entry (given m c)) ((y 1).val / 128) (y 0).val ((y 1).val % 128) : EReal)

theorem index0 : ∀ t : Fin cfg0.N, win0_0.index t 0 = 0 ∧ win0_0.index t 1 = 0 := (by decide +kernel : ∀ t : Fin grid0.N, win0_0.index t 0 = 0 ∧ win0_0.index t 1 = 0)
theorem index1 : ∀ t : Fin cfg0.N, win0_1.index t 0 = t.val ∧ win0_1.index t 1 = 0 := (by decide +kernel : ∀ t : Fin grid0.N, win0_1.index t 0 = t.val ∧ win0_1.index t 1 = 0)

theorem rows_lt (t : Fin cfg0.N) (r : Fin 256) : 256 * t.val + r.val < 2048 := by
  have := t.isLt; have hN : cfg0.N = 8 := N_0; omega

theorem input_eq (c : Dev nD) : input m c = given m c := by
  funext y
  obtain ⟨r, k, rfl⟩ : ∃ (r : Fin 2048) (k : Fin 3200), y = ix2 r k := ⟨y 0, y 1, ValueIdx.eq_ix2 y⟩
  refine congrArg (m ((c : Thread nD τ).loc main_arg0)) (Shape.idx_ext₂ ?_ ?_)
  · refine (win0_0.rect_emb_val t0_0 (ix2 r k) 0).trans ?_; rw [(index0 t0_0).1]; show 0 * 2048 + r.val = r.val; omega
  · refine (win0_0.rect_emb_val t0_0 (ix2 r k) 1).trans ?_; rw [(index0 t0_0).2]; show 0 * 3200 + k.val = k.val; omega

theorem out_emb (t : Fin cfg0.N) (r : Fin 256) (k : Fin 2048) :
    (win0_1.rect t).emb (ix2 r k) = ix2 (⟨256 * t.val + r.val, rows_lt t r⟩ : Fin 2048) k := by
  refine Shape.idx_ext₂ ?_ ?_
  · refine (win0_1.rect_emb_val t (ix2 r k) 0).trans ?_; rw [(index1 t).1]; show t.val * 256 + r.val = 256 * t.val + r.val; omega
  · refine (win0_1.rect_emb_val t (ix2 r k) 1).trans ?_; rw [(index1 t).2]; show 0 * 2048 + k.val = k.val; omega

theorem flushed_eq (c : Dev nD) (hx : Finite (given m c)) (t : Fin cfg0.N) :
    (dats m 0 c).flushed 1 t = ((cfg0.win 1).blk t).view.read (Elt Ideal) (result m c) := by
  show (cfg0.win 1).cut (grid0.coords t) ((dats m 0 c).after 1 t) = _
  rw [after0_1, input_eq]
  funext j
  obtain ⟨r, k, rfl⟩ : ∃ (r : Fin 256) (k : Fin 2048), j = ix2 r k := ⟨j 0, j 1, ValueIdx.eq_ix2 j⟩
  show outBlk (F := Ideal) (grid0.coords t) (given m c) (ix2 r k) = result m c ((win0_1.rect t).emb (ix2 r k))
  rw [out_emb, outBlk_apply _ _ hx, pos, coords_val]
  rfl

theorem covered (i : S2048x2048.Idx) : ∃ t : Fin cfg0.N, i ∈ ((View.whole main_v0).slice (win0_1.rect t)).set := by
  have h0 : (i 0 : Nat) < 2048 := (i 0).isLt
  have hN : cfg0.N = 8 := N_0
  obtain ⟨t, r, k, rfl⟩ : ∃ (t : Fin cfg0.N) (r : Fin 256) (k : Fin 2048), i = ix2 (⟨256 * t.val + r.val, rows_lt t r⟩ : Fin 2048) k :=
    ⟨⟨(i 0 : Nat) / 256, by rw [hN]; omega⟩, ⟨(i 0 : Nat) % 256, Nat.mod_lt _ (by omega)⟩, i 1,
      Shape.idx_ext₂ (by show (i 0 : Nat) = 256 * ((i 0 : Nat) / 256) + (i 0 : Nat) % 256; omega) rfl⟩
  refine ⟨t, ?_⟩
  rw [View.set_slice_whole, ← out_emb]
  exact (win0_1.rect t).idx_mem _

theorem final (c : Dev nD) (hx : Finite (given m c)) : (dats m 0 c).arrAt 1 cfg0.N = result m c :=
  (dats m 0 c).arrAt_eq_of_cover 1 (result m c) (fun t _ => flushed_eq m c hx t) fun i => (covered i).imp fun t h => ⟨flush0_1 t, h⟩

theorem run_result (hx : ∀ c, Finite (given m c)) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun r h c => ⟨((h c).1 1).trans (final m c (hx c)),
      ((h c).1 0).trans (((dats m 0 c).arrAt_in 0 rfl _).trans ((A_eq m c 0).trans (V_main_arg0 m c)))⟩)
    (run_main m ρ)

theorem finite_of_abs (v : EReal) (h : Ideal.cmp .olt (FloatOps.hostAbsf (F := Ideal) (φ := .f32) v) (Ideal.ofBits .f32 0x7F800000#32) = 1#1) : v ≠ ⊤ ∧ v ≠ ⊥ := by
  have ht : Ideal.ofBits .f32 0x7F800000#32 = ⊤ := by simp [Ideal.ofBits, Ideal.ieee]
  have h' : max v (-v) < ⊤ := by
    rw [ht] at h
    have hb : BitVec.ofBool (decide (max v (-v) < (⊤ : EReal))) = 1#1 := h
    by_contra hn
    rw [decide_eq_false hn] at hb
    exact absurd hb (by decide)
  constructor
  · rintro rfl; exact absurd h' (by simp)
  · rintro rfl; exact absurd h' (by simp)

/-- The precondition, read back: no entry is infinite. -/
theorem finite_of_pre (hp : Cert.Pre_KernelIdeal_finite m) (c : Dev nD) : Finite (given m c) := by
  intro j
  have : Subsingleton Cert.Pre_finite.S_.Idx := ⟨fun a b => funext fun k => k.elim0⟩
  exact finite_of_abs _ (Host.reduce_andi_all _ _ _ _ (fun k => k.elim0) (congrFun (hp c) fun k => k.elim0) j)

theorem algebraic : Cert.algebraic_KernelIdeal_RefIdeal_pre_finite := by
  intro m ρ m' ρ' hp hagree
  have hx := finite_of_pre m hp
  refine ⟨_, run_result m ρ hx, ?_⟩
  refine (θ_run Cert.RefIdeal.defs _ _).mono (fun _ h c => ⟨(h c).1.trans ?_, (h c).2⟩) (Cert.RefIdeal.Value.run (F := Ideal) m' ρ')
  have ha : Cert.RefIdeal.Attn.arg (StableHlo.launchContents m' c) = given m c := hagree c
  have hf : Finite (Cert.RefIdeal.Attn.arg (StableHlo.launchContents m' c)) := ha ▸ hx c
  funext y
  obtain ⟨r, k, rfl⟩ : ∃ r k : Fin 2048, y = ix2 r k := ⟨y 0, y 1, ValueIdx.eq_ix2 y⟩
  refine (Cert.RefIdeal.Attn.result_apply (StableHlo.launchContents m' c) hf r k).trans ?_
  rw [ha]
  rfl

end Cert.KernelIdeal.Attn

end
-- ==== Proof.ProjValue.lean ====
/-
  The projection call at the ideal instance: its array is the reference's value.
-/
module

public import proofs.«01_k».proof.Defs
public import proofs.«01_k».proof.Proof.IdealOps
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Read

@[expose] public section

set_option maxRecDepth 16384

noncomputable section

namespace Cert.ProjIdeal.Result

open Cert.ProjIdeal Cert.ProjIdeal.Gen Cert.IdealOps
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem pay_apply (x : Vec Ideal S256x2048 .f32) (nw : Vec Ideal S1x2048 .f32) (w : Vec Ideal S2048x3200 .bf16) (r : Fin 256) (c : Fin 3200) :
    k0_pay1 x nw w (ix2 r c) = ∑ k : Fin 2048, (x (ix2 r k) * rms (fun k => x (ix2 r k)) * nw (ix2 0 k)) * w (ix2 k c) := by
  unfold k0_pay1
  refine (mm_plain (φ₁ := .bf16) (φ₂ := .bf16) none _ _ r c).trans (Finset.sum_congr rfl fun k _ => congrArg (fun z : EReal => z * w (ix2 k c)) ?_)
  rw [truncf_apply, mulf_apply, mulf_apply, col_spread _ _ (by decide), row_spread _ _ (by decide)]
  refine congrArg (fun z => x (ix2 r k) * z * _) ?_
  show Ideal.rsqrt _ = rms _
  unfold rms
  exact congrArg Ideal.rsqrt (congrArg₂ (· + ·) (congrArg₂ Ideal.div ((col_cast _ _ r).trans (row_sum (φ := .f32) _ _ _ _ _ r)) rfl) rfl)

/-- The reference's value, index by index. -/
theorem ref_apply (x : Vec Ideal S2048x2048 .f32) (w : Vec Ideal S2048x3200 .bf16) (nw : Vec Ideal S1x2048 .f32) (r : Fin 2048) (c : Fin 3200) :
    Cert.ProjRefIdeal.Read.val_main_v15 (F := Ideal) x w nw (ix2 r c) = ∑ k : Fin 2048, (x (ix2 r k) * rms (fun k => x (ix2 r k)) * nw (ix2 0 k)) * w (ix2 k c) := by
  rw [Cert.ProjRefIdeal.Read.val_main_v15_apply]
  refine Finset.sum_congr rfl fun k _ => congrArg₂ (· * ·) ?_ ?_
  · rw [Cert.ProjRefIdeal.Read.val_main_v13_apply, Cert.ProjRefIdeal.Read.val_main_v10_apply, Cert.ProjRefIdeal.Read.val_main_v9_apply, Cert.ProjRefIdeal.Read.val_main_v8_apply,
      Cert.ProjRefIdeal.Read.val_main_v7_apply, Cert.ProjRefIdeal.Read.val_main_v5_apply, Cert.ProjRefIdeal.Read.val_main_v3_apply, Cert.ProjRefIdeal.Read.val_main_v2_apply,
      Cert.ProjRefIdeal.Read.val_main_v12_apply, Cert.ProjRefIdeal.Read.val_main_v11_apply, Cert.ProjRefIdeal.Read.val_main_v0_apply,
      Cert.ProjRefIdeal.Read.val_main_v6_apply, Cert.ProjRefIdeal.Read.val_main_v4_apply, Cert.ProjRefIdeal.Read.val_main_cst_apply, Cert.ProjRefIdeal.Read.val_main_cst_0_apply, Cert.ProjRefIdeal.Read.val_main_cst_1_apply]
    rw [show (FloatOps.ofBits .f32 0x00000000#32 : Ideal .f32) = 0 from Ideal.ofBits_zero_f32, zero_add]
    have e1 : Cert.ProjRefIdeal.Read.lidx_main_v15 (ix2 r c) k = ix2 r k := Shape.idx_ext₂ rfl rfl
    have e2 : Cert.ProjRefIdeal.Read.idx_main_v0 (Cert.ProjRefIdeal.Read.idx_main_v11 (Cert.ProjRefIdeal.Read.idx_main_v12 (ix2 r k))) = ix2 0 k :=
      Shape.idx_ext₂ rfl (Nat.mod_eq_of_lt k.isLt)
    rw [e1, e2]
    have e3 : ∀ k', Cert.ProjRefIdeal.Read.idx_main_v2 (Cert.ProjRefIdeal.Read.idx_main_v3 (Cert.ProjRefIdeal.Read.idx_main_v9 (ix2 r k))) k' = ix2 r k' := fun k' => Shape.idx_ext₂ rfl rfl
    simp only [e3, Cert.ProjRefIdeal.Read.val_main_v1_apply]
    rfl
  · rw [Cert.ProjRefIdeal.Read.val_main_v14_apply]
    exact congrArg w (Shape.idx_ext₂ rfl rfl)

theorem out_eq (x0 : Vec Ideal S256x2048 .f32) (x1 : Vec Ideal S2048x3200 .bf16) (x2 : Vec Ideal S1x2048 .f32) : out0_3 (F := Ideal) x0 x1 x2 = k0_pay1 x0 x2 x1 := by
  unfold out0_3
  rw [View.canon_unit_zero (by funext a; fin_cases a <;> rfl), View.ld_unit_zero (by funext a; fin_cases a <;> rfl), View.ld_unit_zero (by funext a; fin_cases a <;> rfl),
    View.ld_unit_zero (by funext a; fin_cases a <;> rfl)]

/-- The array the call leaves. -/
def result (c : Dev nD) : Vec Ideal S2048x3200 .f32 :=
  Cert.ProjRefIdeal.Read.val_main_v15 (F := Ideal) (m ((c : Thread nD τ).loc main_arg0)) (m ((c : Thread nD τ).loc main_arg1)) (m ((c : Thread nD τ).loc main_arg2))

theorem idx0 : ∀ t : Fin cfg0.N, win0_0.index t 0 = t.val ∧ win0_0.index t 1 = 0 := (by decide +kernel : ∀ t : Fin grid0.N, win0_0.index t 0 = t.val ∧ win0_0.index t 1 = 0)
theorem idx1 : ∀ t : Fin cfg0.N, win0_1.index t 0 = 0 ∧ win0_1.index t 1 = 0 := (by decide +kernel : ∀ t : Fin grid0.N, win0_1.index t 0 = 0 ∧ win0_1.index t 1 = 0)
theorem idx2 : ∀ t : Fin cfg0.N, win0_2.index t 0 = 0 ∧ win0_2.index t 1 = 0 := (by decide +kernel : ∀ t : Fin grid0.N, win0_2.index t 0 = 0 ∧ win0_2.index t 1 = 0)
theorem idx3 : ∀ t : Fin cfg0.N, win0_3.index t 0 = t.val ∧ win0_3.index t 1 = 0 := (by decide +kernel : ∀ t : Fin grid0.N, win0_3.index t 0 = t.val ∧ win0_3.index t 1 = 0)

theorem row_lt (t : Fin cfg0.N) (r : Fin 256) : 256 * t.val + r.val < 2048 := by
  have := t.isLt; have hN : cfg0.N = 8 := N_0; omega

theorem blk0_apply (c : Dev nD) (t : Fin cfg0.N) (r : Fin 256) (k : Fin 2048) :
    iblk m c 0 t (ix2 r k) = m ((c : Thread nD τ).loc main_arg0) (ix2 ⟨256 * t.val + r.val, row_lt t r⟩ k) := by
  refine congrArg (m ((c : Thread nD τ).loc main_arg0)) (Shape.idx_ext₂ ?_ ?_)
  · refine (win0_0.rect_emb_val t (ix2 r k) 0).trans ?_; rw [(idx0 t).1]; show t.val * 256 + r.val = 256 * t.val + r.val; omega
  · refine (win0_0.rect_emb_val t (ix2 r k) 1).trans ?_; rw [(idx0 t).2]; show 0 * 2048 + k.val = k.val; omega

theorem blk1_apply (c : Dev nD) (t : Fin cfg0.N) (r : Fin 2048) (k : Fin 3200) :
    iblk m c 1 t (ix2 r k) = m ((c : Thread nD τ).loc main_arg1) (ix2 r k) := by
  refine congrArg (m ((c : Thread nD τ).loc main_arg1)) (Shape.idx_ext₂ ?_ ?_)
  · refine (win0_1.rect_emb_val t (ix2 r k) 0).trans ?_; rw [(idx1 t).1]; show 0 * 2048 + r.val = r.val; omega
  · refine (win0_1.rect_emb_val t (ix2 r k) 1).trans ?_; rw [(idx1 t).2]; show 0 * 3200 + k.val = k.val; omega

theorem blk2_apply (c : Dev nD) (t : Fin cfg0.N) (k : Fin 2048) :
    iblk m c 2 t (ix2 0 k) = m ((c : Thread nD τ).loc main_arg2) (ix2 0 k) := by
  refine congrArg (m ((c : Thread nD τ).loc main_arg2)) (Shape.idx_ext₂ ?_ ?_)
  · refine (win0_2.rect_emb_val t (ix2 0 k) 0).trans ?_; rw [(idx2 t).1]; rfl
  · refine (win0_2.rect_emb_val t (ix2 0 k) 1).trans ?_; rw [(idx2 t).2]; show 0 * 2048 + k.val = k.val; omega

theorem out_emb (t : Fin cfg0.N) (r : Fin 256) (k : Fin 3200) :
    (win0_3.rect t).emb (ix2 r k) = ix2 (⟨256 * t.val + r.val, row_lt t r⟩ : Fin 2048) k := by
  refine Shape.idx_ext₂ ?_ ?_
  · refine (win0_3.rect_emb_val t (ix2 r k) 0).trans ?_; rw [(idx3 t).1]; show t.val * 256 + r.val = 256 * t.val + r.val; omega
  · refine (win0_3.rect_emb_val t (ix2 r k) 1).trans ?_; rw [(idx3 t).2]; show 0 * 3200 + k.val = k.val; omega

theorem flushed_eq (c : Dev nD) (t : Fin cfg0.N) :
    (dats m 0 c).flushed 3 t = ((cfg0.win 3).blk t).view.read (Elt Ideal) (result m c) := by
  rw [Value.flushed3, out_eq]
  funext j
  obtain ⟨r, k, rfl⟩ : ∃ (r : Fin 256) (k : Fin 3200), j = ix2 r k := ⟨j 0, j 1, eq_ix2 j⟩
  show k0_pay1 (F := Ideal) (iblk m c 0 t) (iblk m c 2 t) (iblk m c 1 t) (ix2 r k) = result m c ((win0_3.rect t).emb (ix2 r k))
  rw [out_emb, pay_apply]
  unfold result
  rw [ref_apply]
  simp only [blk0_apply, blk1_apply, blk2_apply]

theorem covered (i : S2048x3200.Idx) : ∃ t : Fin cfg0.N, i ∈ ((View.whole main_v0).slice (win0_3.rect t)).set := by
  have h0 : (i 0 : Nat) < 2048 := (i 0).isLt
  have hN : cfg0.N = 8 := N_0
  obtain ⟨t, r, k, rfl⟩ : ∃ (t : Fin cfg0.N) (r : Fin 256) (k : Fin 3200), i = ix2 (⟨256 * t.val + r.val, row_lt t r⟩ : Fin 2048) k :=
    ⟨⟨(i 0 : Nat) / 256, by rw [hN]; omega⟩, ⟨(i 0 : Nat) % 256, Nat.mod_lt _ (by omega)⟩, i 1,
      Shape.idx_ext₂ (by show (i 0 : Nat) = 256 * ((i 0 : Nat) / 256) + (i 0 : Nat) % 256; omega) rfl⟩
  refine ⟨t, ?_⟩
  rw [View.set_slice_whole, ← out_emb]
  exact (win0_3.rect t).idx_mem _

theorem flush3 : ∀ t : Fin cfg0.N, (cfg0.win 3).flush t = true := (by decide +kernel : ∀ t : Fin grid0.N, win0_3.flush t = true)

theorem final (c : Dev nD) : (dats m 0 c).arrAt 3 cfg0.N = result m c :=
  (dats m 0 c).arrAt_eq_of_cover 3 (result m c) (fun t _ => flushed_eq m c t) fun i => (covered i).imp fun t h => ⟨flush3 t, h⟩

theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

theorem algebraic : Cert.algebraic_ProjIdeal_ProjRefIdeal := by
  intro m ρ m' ρ' _ hagree
  refine ⟨_, run m ρ, ?_⟩
  refine (θ_run Cert.ProjRefIdeal.defs _ _).mono (fun _ h c => ⟨(h c).1.trans ?_, (h c).2⟩) (Cert.ProjRefIdeal.Value.run (F := Ideal) m' ρ')
  rw [(hagree c).1, (hagree c).2.1, (hagree c).2.2]
  exact Cert.ProjRefIdeal.Read.val_main_v15_eq _ _ _

end Cert.ProjIdeal.Result

end
-- ==== Proof.WoValue.lean ====
/-
  The output-projection call at the ideal instance: its two arrays are the reference's values.
-/
module

public import proofs.«01_k».proof.Defs
public import proofs.«01_k».proof.Proof.IdealOps
public import proofs.«01_k».proof.Proof.Gen.WoIdeal
public import proofs.«01_k».proof.Proof.Gen.WoIdeal.Value
public import proofs.«01_k».proof.Proof.Gen.WoRefIdeal
public import proofs.«01_k».proof.Proof.Gen.WoRefIdeal.Read

@[expose] public section

set_option maxRecDepth 16384

noncomputable section

namespace Cert.WoIdeal.Result

open Cert.WoIdeal Cert.WoIdeal.Gen Cert.IdealOps
open Cert.WoRefIdeal.Read
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- One entry of the residual stream: a row of heads against a column of weights, plus the input. -/
def resid (o : Fin 2048 → EReal) (w : Fin 2048 → EReal) (x : EReal) : EReal := x + ∑ k, o k * w k

theorem pay1_apply (o : Vec Ideal S256x2048 .f32) (w : Vec Ideal S2048x2048 .bf16) (x : Vec Ideal S256x2048 .f32) (r : Fin 256) (c : Fin 2048) :
    k0_pay1 o w x (ix2 r c) = resid (fun k => o (ix2 r k)) (fun k => w (ix2 k c)) (x (ix2 r c)) := by
  unfold k0_pay1
  exact (congrArg (· + x (ix2 r c)) (mm_plain (φ₁ := .bf16) (φ₂ := .bf16) none _ _ r c)).trans (add_comm _ _)

theorem pay2_apply (o : Vec Ideal S256x2048 .f32) (w : Vec Ideal S2048x2048 .bf16) (x : Vec Ideal S256x2048 .f32) (nw : Vec Ideal S1x2048 .f32) (r : Fin 256) (c : Fin 2048) :
    k0_pay2 o w x nw (ix2 r c) = k0_pay1 o w x (ix2 r c) * rms (fun k => k0_pay1 o w x (ix2 r k)) * nw (ix2 0 c) := by
  unfold k0_pay2
  rw [truncf_apply, mulf_apply, mulf_apply, col_spread _ _ (by decide), row_spread _ _ (by decide)]
  refine congrArg (fun z => k0_pay1 o w x (ix2 r c) * z * _) ?_
  show Ideal.rsqrt _ = rms _
  unfold rms
  exact congrArg Ideal.rsqrt (congrArg₂ (· + ·) (congrArg₂ Ideal.div ((col_cast _ _ r).trans (row_sum (φ := .f32) _ _ _ _ _ r)) rfl) rfl)

/-- The reference's residual, index by index. -/
theorem ref2_apply (o : Vec Ideal S2048x2048 .f32) (w : Vec Ideal S2048x2048 .bf16) (x : Vec Ideal S2048x2048 .f32) (r c : Fin 2048) :
    val_main_v2 (F := Ideal) o w x (ix2 r c) = resid (fun k => o (ix2 r k)) (fun k => w (ix2 k c)) (x (ix2 r c)) := by
  rw [val_main_v2_apply, val_main_v1_apply]
  refine congrArg (x (ix2 r c) + ·) (Finset.sum_congr rfl fun k _ => congrArg₂ (· * ·) ?_ ?_)
  · exact congrArg o (Shape.idx_ext₂ rfl rfl)
  · rw [val_main_v0_apply]
    exact congrArg w (Shape.idx_ext₂ rfl rfl)

theorem ref17_apply (o : Vec Ideal S2048x2048 .f32) (w : Vec Ideal S2048x2048 .bf16) (x : Vec Ideal S2048x2048 .f32) (nw : Vec Ideal S1x2048 .f32) (r c : Fin 2048) :
    val_main_v17 (F := Ideal) o w x nw (ix2 r c) = val_main_v2 (F := Ideal) o w x (ix2 r c) * rms (fun k => val_main_v2 (F := Ideal) o w x (ix2 r k)) * nw (ix2 0 c) := by
  rw [val_main_v17_apply, val_main_v16_apply, val_main_v13_apply, val_main_v12_apply, val_main_v11_apply, val_main_v10_apply, val_main_v8_apply, val_main_v6_apply, val_main_v5_apply,
    val_main_v15_apply, val_main_v14_apply, val_main_v3_apply, val_main_v9_apply, val_main_v7_apply, val_main_cst_apply, val_main_cst_0_apply, val_main_cst_1_apply]
  rw [show (FloatOps.ofBits .f32 0x00000000#32 : Ideal .f32) = 0 from Ideal.ofBits_zero_f32, zero_add]
  have e2 : idx_main_v3 (idx_main_v14 (idx_main_v15 (ix2 r c))) = ix2 0 c := Shape.idx_ext₂ rfl (Nat.mod_eq_of_lt c.isLt)
  rw [e2]
  have e3 : ∀ k', idx_main_v5 (idx_main_v6 (idx_main_v12 (ix2 r c))) k' = ix2 r k' := fun k' => Shape.idx_ext₂ rfl rfl
  simp only [e3, val_main_v4_apply]
  rfl

theorem out4_eq (x0 : Vec Ideal S256x2048 .f32) (x1 : Vec Ideal S2048x2048 .bf16) (x2 : Vec Ideal S256x2048 .f32) (x3 : Vec Ideal S1x2048 .f32) :
    out0_4 (F := Ideal) x0 x1 x2 x3 = k0_pay1 x0 x1 x2 := by
  unfold out0_4
  rw [View.canon_unit_zero (by funext a; fin_cases a <;> rfl), View.ld_unit_zero (by funext a; fin_cases a <;> rfl), View.ld_unit_zero (by funext a; fin_cases a <;> rfl),
    View.ld_unit_zero (by funext a; fin_cases a <;> rfl)]

theorem out5_eq (x0 : Vec Ideal S256x2048 .f32) (x1 : Vec Ideal S2048x2048 .bf16) (x2 : Vec Ideal S256x2048 .f32) (x3 : Vec Ideal S1x2048 .f32) :
    out0_5 (F := Ideal) x0 x1 x2 x3 = k0_pay2 x0 x1 x2 x3 := by
  unfold out0_5
  rw [View.canon_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]

/-- The residual array the call leaves. -/
def resultX (c : Dev nD) : Vec Ideal S2048x2048 .f32 :=
  val_main_v2 (F := Ideal) (m ((c : Thread nD τ).loc main_arg0)) (m ((c : Thread nD τ).loc main_arg1)) (m ((c : Thread nD τ).loc main_arg2))

/-- The normed array the call leaves. -/
def resultH (c : Dev nD) : Vec Ideal S2048x2048 .bf16 :=
  val_main_v17 (F := Ideal) (m ((c : Thread nD τ).loc main_arg0)) (m ((c : Thread nD τ).loc main_arg1)) (m ((c : Thread nD τ).loc main_arg2)) (m ((c : Thread nD τ).loc main_arg3))

/-- Where each window's block sits at each point: by rows, or the whole array. -/
theorem idxRow : ∀ t : Fin cfg0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0))
theorem idxAll : ∀ t : Fin cfg0.N, (win0_1.index t 0 = 0 ∧ win0_1.index t 1 = 0) ∧ (win0_3.index t 0 = 0 ∧ win0_3.index t 1 = 0) :=
  (by decide +kernel : ∀ t : Fin grid0.N, (win0_1.index t 0 = 0 ∧ win0_1.index t 1 = 0) ∧ (win0_3.index t 0 = 0 ∧ win0_3.index t 1 = 0))

theorem row_lt (t : Fin cfg0.N) (r : Fin 256) : 256 * t.val + r.val < 2048 := by
  have := t.isLt; have hN : cfg0.N = 8 := N_0; omega

/-- Row `r` of point `t`'s block. -/
def row (t : Fin cfg0.N) (r : Fin 256) : Fin 2048 := ⟨256 * t.val + r.val, row_lt t r⟩

theorem row_idx (t : Fin cfg0.N) (r : Fin 256) (k : Fin 2048) {e : (⟨2, ![2048, 2048]⟩ : Shape).Idx} {p q : ℕ} (h0 : (e 0 : ℕ) = p * 256 + r.val) (h1 : (e 1 : ℕ) = q * 2048 + k.val)
    (hp : p = t.val) (hq : q = 0) : e = ix2 (row t r) k := by
  subst hp hq
  exact Shape.idx_ext₂ (by show (e 0 : ℕ) = 256 * t.val + r.val; omega) (by show (e 1 : ℕ) = k.val; omega)

theorem emb0 (t : Fin cfg0.N) (r : Fin 256) (k : Fin 2048) : (win0_0.rect t).emb (ix2 r k) = ix2 (row t r) k :=
  row_idx t r k (win0_0.rect_emb_val t (ix2 r k) 0) (win0_0.rect_emb_val t (ix2 r k) 1) (idxRow t).1.1 (idxRow t).1.2
theorem emb2 (t : Fin cfg0.N) (r : Fin 256) (k : Fin 2048) : (win0_2.rect t).emb (ix2 r k) = ix2 (row t r) k :=
  row_idx t r k (win0_2.rect_emb_val t (ix2 r k) 0) (win0_2.rect_emb_val t (ix2 r k) 1) (idxRow t).2.1.1 (idxRow t).2.1.2
theorem emb4 (t : Fin cfg0.N) (r : Fin 256) (k : Fin 2048) : (win0_4.rect t).emb (ix2 r k) = ix2 (row t r) k :=
  row_idx t r k (win0_4.rect_emb_val t (ix2 r k) 0) (win0_4.rect_emb_val t (ix2 r k) 1) (idxRow t).2.2.1.1 (idxRow t).2.2.1.2
theorem emb5 (t : Fin cfg0.N) (r : Fin 256) (k : Fin 2048) : (win0_5.rect t).emb (ix2 r k) = ix2 (row t r) k :=
  row_idx t r k (win0_5.rect_emb_val t (ix2 r k) 0) (win0_5.rect_emb_val t (ix2 r k) 1) (idxRow t).2.2.2.1 (idxRow t).2.2.2.2

theorem blk0_apply (c : Dev nD) (t : Fin cfg0.N) (r : Fin 256) (k : Fin 2048) : iblk m c 0 t (ix2 r k) = m ((c : Thread nD τ).loc main_arg0) (ix2 (row t r) k) :=
  congrArg (m ((c : Thread nD τ).loc main_arg0)) (emb0 t r k)

theorem blk2_apply (c : Dev nD) (t : Fin cfg0.N) (r : Fin 256) (k : Fin 2048) : iblk m c 2 t (ix2 r k) = m ((c : Thread nD τ).loc main_arg2) (ix2 (row t r) k) :=
  congrArg (m ((c : Thread nD τ).loc main_arg2)) (emb2 t r k)

theorem blk1_apply (c : Dev nD) (t : Fin cfg0.N) (r : Fin 2048) (k : Fin 2048) :
    iblk m c 1 t (ix2 r k) = m ((c : Thread nD τ).loc main_arg1) (ix2 r k) := by
  refine congrArg (m ((c : Thread nD τ).loc main_arg1)) (Shape.idx_ext₂ ?_ ?_)
  · refine (win0_1.rect_emb_val t (ix2 r k) 0).trans ?_; rw [(idxAll t).1.1]; show 0 * 2048 + r.val = r.val; omega
  · refine (win0_1.rect_emb_val t (ix2 r k) 1).trans ?_; rw [(idxAll t).1.2]; show 0 * 2048 + k.val = k.val; omega

theorem blk3_apply (c : Dev nD) (t : Fin cfg0.N) (k : Fin 2048) :
    iblk m c 3 t (ix2 0 k) = m ((c : Thread nD τ).loc main_arg3) (ix2 0 k) := by
  refine congrArg (m ((c : Thread nD τ).loc main_arg3)) (Shape.idx_ext₂ ?_ ?_)
  · refine (win0_3.rect_emb_val t (ix2 0 k) 0).trans ?_; rw [(idxAll t).2.1]; rfl
  · refine (win0_3.rect_emb_val t (ix2 0 k) 1).trans ?_; rw [(idxAll t).2.2]; show 0 * 2048 + k.val = k.val; omega

theorem pay1_block (c : Dev nD) (t : Fin cfg0.N) (r : Fin 256) (k : Fin 2048) :
    k0_pay1 (F := Ideal) (iblk m c 0 t) (iblk m c 1 t) (iblk m c 2 t) (ix2 r k) = resultX m c (ix2 (row t r) k) := by
  rw [pay1_apply]
  unfold resultX
  rw [ref2_apply]
  simp only [blk0_apply, blk1_apply, blk2_apply]

theorem flushed4_eq (c : Dev nD) (t : Fin cfg0.N) :
    (dats m 0 c).flushed 4 t = ((cfg0.win 4).blk t).view.read (Elt Ideal) (resultX m c) := by
  rw [Value.flushed4, out4_eq]
  funext j
  obtain ⟨r, k, rfl⟩ : ∃ (r : Fin 256) (k : Fin 2048), j = ix2 r k := ⟨j 0, j 1, eq_ix2 j⟩
  show k0_pay1 (F := Ideal) (iblk m c 0 t) (iblk m c 1 t) (iblk m c 2 t) (ix2 r k) = resultX m c ((win0_4.rect t).emb (ix2 r k))
  rw [emb4, pay1_block]

theorem flushed5_eq (c : Dev nD) (t : Fin cfg0.N) :
    (dats m 0 c).flushed 5 t = ((cfg0.win 5).blk t).view.read (Elt Ideal) (resultH m c) := by
  rw [Value.flushed5, out5_eq]
  funext j
  obtain ⟨r, k, rfl⟩ : ∃ (r : Fin 256) (k : Fin 2048), j = ix2 r k := ⟨j 0, j 1, eq_ix2 j⟩
  show k0_pay2 (F := Ideal) (iblk m c 0 t) (iblk m c 1 t) (iblk m c 2 t) (iblk m c 3 t) (ix2 r k) = resultH m c ((win0_5.rect t).emb (ix2 r k))
  rw [emb5, pay2_apply]
  unfold resultH
  rw [ref17_apply]
  simp only [pay1_block, blk3_apply]
  rfl

theorem in_row (i : S2048x2048.Idx) : ∃ (t : Fin cfg0.N) (r : Fin 256) (k : Fin 2048), i = ix2 (row t r) k := by
  have h0 : (i 0 : Nat) < 2048 := (i 0).isLt
  have hN : cfg0.N = 8 := N_0
  refine ⟨⟨(i 0 : Nat) / 256, by rw [hN]; omega⟩, ⟨(i 0 : Nat) % 256, Nat.mod_lt _ (by omega)⟩, i 1, ?_⟩
  exact Shape.idx_ext₂ (by show (i 0 : Nat) = 256 * ((i 0 : Nat) / 256) + (i 0 : Nat) % 256; omega) rfl

theorem covered4 (i : S2048x2048.Idx) : ∃ t : Fin cfg0.N, i ∈ ((View.whole main_v0_0).slice (win0_4.rect t)).set := by
  obtain ⟨t, r, k, rfl⟩ := in_row i
  refine ⟨t, ?_⟩
  rw [View.set_slice_whole, ← emb4]
  exact (win0_4.rect t).idx_mem _

theorem covered5 (i : S2048x2048.Idx) : ∃ t : Fin cfg0.N, i ∈ ((View.whole main_v0_1).slice (win0_5.rect t)).set := by
  obtain ⟨t, r, k, rfl⟩ := in_row i
  refine ⟨t, ?_⟩
  rw [View.set_slice_whole, ← emb5]
  exact (win0_5.rect t).idx_mem _

theorem flush45 : ∀ t : Fin cfg0.N, (cfg0.win 4).flush t = true ∧ (cfg0.win 5).flush t = true :=
  (by decide +kernel : ∀ t : Fin grid0.N, win0_4.flush t = true ∧ win0_5.flush t = true)

theorem final4 (c : Dev nD) : (dats m 0 c).arrAt 4 cfg0.N = resultX m c :=
  (dats m 0 c).arrAt_eq_of_cover 4 (resultX m c) (fun t _ => flushed4_eq m c t) fun i => (covered4 i).imp fun t h => ⟨(flush45 t).1, h⟩

theorem final5 (c : Dev nD) : (dats m 0 c).arrAt 5 cfg0.N = resultH m c :=
  (dats m 0 c).arrAt_eq_of_cover 5 (resultH m c) (fun t _ => flushed5_eq m c t) fun i => (covered5 i).imp fun t h => ⟨(flush45 t).2, h⟩

theorem run : θ_run defs (onTc (τ := τ) (main (F := Ideal))) ⟨m, fun _ => 0, ρ⟩ fun r => ∀ c : Dev nD,
      r.2.mem ((c : Thread nD τ).loc main_v0_0) = resultX m c
      ∧ r.2.mem ((c : Thread nD τ).loc main_v0_1) = resultH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

theorem algebraic : Cert.algebraic_WoIdeal_WoRefIdeal := by
  intro m ρ m' ρ' _ hagree
  refine ⟨_, _, run m ρ, ?_⟩
  refine (θ_run Cert.WoRefIdeal.defs _ _).mono (fun _ h c => ⟨(h c).1.trans ?_, (h c).2.1.trans ?_, (h c).2.2⟩) (Cert.WoRefIdeal.Value.run (F := Ideal) m' ρ')
  · rw [(hagree c).1, (hagree c).2.1, (hagree c).2.2.1]
    exact val_main_v2_eq _ _ _
  · rw [(hagree c).1, (hagree c).2.1, (hagree c).2.2.1, (hagree c).2.2.2]
    exact val_main_v17_eq _ _ _ _

end Cert.WoIdeal.Result

end
-- ==== Proof.MlpValue.lean ====
/-
  The MLP call at the ideal instance: its array is the reference's value.
-/
module

public import proofs.«01_k».proof.Defs
public import proofs.«01_k».proof.Proof.IdealOps
public import proofs.«01_k».proof.Proof.Gen.MlpIdeal
public import proofs.«01_k».proof.Proof.Gen.MlpIdeal.Value
public import Idealize.ShloMosaic.Lib.WholeRead
public import proofs.«01_k».proof.Proof.Gen.MlpRefIdeal
public import proofs.«01_k».proof.Proof.Gen.MlpRefIdeal.Read

@[expose] public section

set_option maxRecDepth 16384

noncomputable section

namespace Cert.MlpIdeal.Result

open Cert.MlpIdeal Cert.MlpIdeal.Gen Cert.IdealOps
open Cert.MlpRefIdeal.Read
open Idealize.ShloMosaic Idealize.ShloMosaic.TcCoe Idealize.ShloMosaic.ValueIdx Idealize.SL.Sem
open Idealize.ShloMosaic.Pipeline (Dat)

/-! ## The pieces a point stores: eight bands of 256 rows, each what was there plus the band's product -/

section
variable {F : FTy → Type} [FloatOps F]

theorem readAt_ld {s : Shape} {e : EltTy} {mr : Memref sig .tc .vmem s e} (h : mr.IsWhole) (x : s.Idx → Elt F e) (R : Rect s) :
    mr.view.readAt (Elt F) R.toLoadRect (h.unread x) = View.ld x R := funext fun _ => h.readAt_unread x _ _

/-- The band stored at row `o`: `pre` is what the point does to the values it adds to. -/
abbrev band (pre : FVec F S256x2048 .f32 → FVec F S256x2048 .f32) (x0 : Vec F S2048x2048 .bf16) (x2 : Vec F S2048x512 .bf16) (x3 : Vec F S512x2048 .bf16) (acc : Vec F S2048x2048 .f32)
    (o : ℕ) (h : ∀ a, (![o, 0] : Fin 2 → ℕ) a + S256x2048.size a ≤ S2048x2048.size a) : View.Piece (Elt F) S2048x2048 .f32 :=
  ⟨Rect.unit (s := S2048x2048) ![o, 0] S256x2048.size h,
    addf (pre (View.ld acc (Rect.unit (s := S2048x2048) ![o, 0] S256x2048.size h)))
      (k0_pay2 (View.ld x0 (Rect.unit (s := S2048x2048) ![o, 0] S256x2048.size h)) (View.ld x2 (Rect.unit (s := S2048x512) ![0, 0] S2048x512.size inb_S2048x512_S2048x512_0_0))
        (View.ld x3 (Rect.unit (s := S512x2048) ![0, 0] S512x2048.size inb_S512x2048_S512x2048_0_0)))⟩

/-- All eight bands, the last stored first. -/
abbrev bands (pre : FVec F S256x2048 .f32 → FVec F S256x2048 .f32) (x0 : Vec F S2048x2048 .bf16) (x2 : Vec F S2048x512 .bf16) (x3 : Vec F S512x2048 .bf16) (acc : Vec F S2048x2048 .f32) :
    List (View.Piece (Elt F) S2048x2048 .f32) :=
  [band pre x0 x2 x3 acc 1792 inb_S2048x2048_S256x2048_1792_0, band pre x0 x2 x3 acc 1536 inb_S2048x2048_S256x2048_1536_0, band pre x0 x2 x3 acc 1280 inb_S2048x2048_S256x2048_1280_0,
    band pre x0 x2 x3 acc 1024 inb_S2048x2048_S256x2048_1024_0, band pre x0 x2 x3 acc 768 inb_S2048x2048_S256x2048_768_0, band pre x0 x2 x3 acc 512 inb_S2048x2048_S256x2048_512_0,
    band pre x0 x2 x3 acc 256 inb_S2048x2048_S256x2048_256_0, band pre x0 x2 x3 acc 0 inb_S2048x2048_S256x2048_0_0]

theorem pieces_A (c : Dev nD) (i : grid0.Coords) (arg1 : Memref sig .tc .vmem S2048x2048 .bf16) (harg1 : arg1.IsWhole) (arg2 : Memref sig .tc .vmem S2048x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x2048 .f32) (harg5 : arg5.IsWhole) (hc0 hc1 hc2 hc3 hc4 hc5 hc6 hc7 hc8 hc9 hc10 hc11 hc12 hc13 hc14 hc15)
    (x0 : Vec F S2048x2048 .bf16) (x1 : Vec F S2048x2048 .f32) (x2 : Vec F S2048x512 .bf16) (x3 : Vec F S512x2048 .bf16) :
    (kernelRun0_A c i arg1 harg1 arg2 harg2 arg3 harg3 arg4 harg4 arg5 harg5 hc0 hc1 hc2 hc3 hc4 hc5 hc6 hc7 hc8 hc9 hc10 hc11 hc12 hc13 hc14 hc15 x0 x1 x2 x3).1 = bands id x0 x2 x3 x1 := by
  unfold bands band
  simp only [← readAt_ld harg1 x0, ← readAt_ld harg2 x1, ← readAt_ld harg3 x2, ← readAt_ld harg4 x3]
  rfl

theorem pieces_B (c : Dev nD) (i : grid0.Coords) (arg1 : Memref sig .tc .vmem S2048x2048 .bf16) (harg1 : arg1.IsWhole) (arg2 : Memref sig .tc .vmem S2048x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x2048 .f32) (harg5 : arg5.IsWhole) (hc0 hc1 hc2 hc3 hc4 hc5 hc6 hc7 hc8 hc9 hc10 hc11 hc12 hc13 hc14 hc15)
    (x0 : Vec F S2048x2048 .bf16) (x1 : Vec F S2048x2048 .f32) (x2 : Vec F S2048x512 .bf16) (x3 : Vec F S512x2048 .bf16) (xo4 : Vec F S2048x2048 .f32) :
    (kernelRun0_B c i arg1 harg1 arg2 harg2 arg3 harg3 arg4 harg4 arg5 harg5 hc0 hc1 hc2 hc3 hc4 hc5 hc6 hc7 hc8 hc9 hc10 hc11 hc12 hc13 hc14 hc15 x0 x1 x2 x3 xo4).1 = bands (fun v => shapeCast S256x2048 v shapeCasts_S256x2048_S256x2048) x0 x2 x3 xo4 := by
  unfold bands band
  simp only [← readAt_ld harg1 x0, ← readAt_ld harg5 xo4, ← readAt_ld harg3 x2, ← readAt_ld harg4 x3]
  rfl
end

/-! ## A band read at an index -/

/-- `x · sigmoid x`, as both sides compute it. -/
def silu (h : EReal) : EReal := h * Ideal.div (Ideal.ofBits .f32 0x3F800000#32) (Ideal.ofBits .f32 0x3F800000#32 + Ideal.exp (-h))

/-- One point's contribution to the entry at `(r, c)`: 512 hidden columns. -/
def step (x0 : Vec Ideal S2048x2048 .bf16) (x2 : Vec Ideal S2048x512 .bf16) (x3 : Vec Ideal S512x2048 .bf16) (r c : Fin 2048) : EReal :=
  ∑ k : Fin 512, silu (∑ j : Fin 2048, x0 (ix2 r j) * x2 (ix2 j k)) * x3 (ix2 k c)

theorem pay2_apply (v0 : Vec Ideal S256x2048 .bf16) (v1 : Vec Ideal S2048x512 .bf16) (v12 : Vec Ideal S512x2048 .bf16) (r : Fin 256) (c : Fin 2048) :
    k0_pay2 (F := Ideal) v0 v1 v12 (ix2 r c) = ∑ k : Fin 512, silu (∑ j : Fin 2048, v0 (ix2 r j) * v1 (ix2 j k)) * v12 (ix2 k c) := by
  unfold k0_pay2
  refine (mm_plain (φ₁ := .bf16) (φ₂ := .bf16) none _ _ r c).trans (Finset.sum_congr rfl fun k _ => congrArg (fun z : EReal => z * v12 (ix2 k c)) ?_)
  rw [truncf_apply, mulf_apply, divf_apply, addf_apply]
  have e := mm_plain (φ₁ := .bf16) (φ₂ := .bf16) none v0 v1 r k
  show matmul (F := Ideal) (φ₁ := .bf16) (φ₂ := .bf16) (DotDims.plain 256 2048 512) none v0 v1 (constant _ .f32 0x00000000#32) (ix2 r k)
    * Ideal.div _ (_ + Ideal.exp (Ideal.ofBits .f32 0x00000000#32 - matmul (F := Ideal) (φ₁ := .bf16) (φ₂ := .bf16) (DotDims.plain 256 2048 512) none v0 v1 (constant _ .f32 0x00000000#32) (ix2 r k))) = _
  rw [e, Ideal.ofBits_zero_f32, zero_sub]
  rfl

theorem band_apply (pre : FVec Ideal S256x2048 .f32 → FVec Ideal S256x2048 .f32) (hpre : ∀ v, pre v = v) (x0 : Vec Ideal S2048x2048 .bf16) (x2 : Vec Ideal S2048x512 .bf16)
    (x3 : Vec Ideal S512x2048 .bf16) (acc : Vec Ideal S2048x2048 .f32) (o : ℕ) (h : ∀ a, (![o, 0] : Fin 2 → ℕ) a + S256x2048.size a ≤ S2048x2048.size a)
    (x : (band pre x0 x2 x3 acc o h).1.shape.Idx) :
    (band pre x0 x2 x3 acc o h).2 x = acc ((band pre x0 x2 x3 acc o h).1.emb x)
      + step x0 x2 x3 ((band pre x0 x2 x3 acc o h).1.emb x 0) ((band pre x0 x2 x3 acc o h).1.emb x 1) := by
  obtain ⟨r, k, rfl⟩ : ∃ (r : Fin 256) (k : Fin 2048), x = ix2 r k := ⟨x 0, x 1, eq_ix2 x⟩
  show FloatOps.addf (F := Ideal) (pre (View.ld acc (Rect.unit (s := S2048x2048) ![o, 0] S256x2048.size h)) (ix2 r k)) (k0_pay2 (F := Ideal) _ _ _ (ix2 r k)) = _
  rw [hpre, pay2_apply]
  refine congrArg₂ (· + ·) rfl (Finset.sum_congr rfl fun q _ => congrArg₂ (· * ·) (congrArg silu (Finset.sum_congr rfl fun j _ => congrArg₂ (· * ·) ?_ ?_)) ?_)
  · exact congrArg x0 (Shape.idx_ext₂ rfl (by show 0 + 1 * j.val = j.val; omega))
  · exact congrArg x2 (Shape.idx_ext₂ (by show 0 + 1 * j.val = j.val; omega) (by show 0 + 1 * q.val = q.val; omega))
  · exact congrArg x3 (Shape.idx_ext₂ (by show 0 + 1 * q.val = q.val; omega) (by show 0 + 1 * k.val = 0 + 1 * k.val; omega))

theorem bands_apply (pre : FVec Ideal S256x2048 .f32 → FVec Ideal S256x2048 .f32) (hpre : ∀ v, pre v = v) (x0 : Vec Ideal S2048x2048 .bf16) (x2 : Vec Ideal S2048x512 .bf16)
    (x3 : Vec Ideal S512x2048 .bf16) (acc : Vec Ideal S2048x2048 .f32) (y : S2048x2048.Idx) (hy : ∃ p ∈ bands pre x0 x2 x3 acc, y ∈ p.1.set) :
    View.canon (bands pre x0 x2 x3 acc) y = acc y + step x0 x2 x3 (y 0) (y 1) :=
  View.canon_apply_of_pieces (fun y => acc y + step x0 x2 x3 (y 0) (y 1)) _ (fun p hp => by
    simp only [bands, List.mem_cons, List.mem_nil_iff, or_false] at hp
    rcases hp with rfl | rfl | rfl | rfl | rfl | rfl | rfl | rfl <;> exact band_apply pre hpre x0 x2 x3 acc _ _) y hy

theorem outA (c : Dev nD) (i : grid0.Coords) (arg1 : Memref sig .tc .vmem S2048x2048 .bf16) (harg1 : arg1.IsWhole) (arg2 : Memref sig .tc .vmem S2048x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x2048 .f32) (harg5 : arg5.IsWhole) (hc0 hc1 hc2 hc3 hc4 hc5 hc6 hc7 hc8 hc9 hc10 hc11 hc12 hc13 hc14 hc15)
    (x0 : Vec Ideal S2048x2048 .bf16) (x1 : Vec Ideal S2048x2048 .f32) (x2 : Vec Ideal S2048x512 .bf16) (x3 : Vec Ideal S512x2048 .bf16) (y : S2048x2048.Idx) :
    out0_A_4 (F := Ideal) c i arg1 harg1 arg2 harg2 arg3 harg3 arg4 harg4 arg5 harg5 hc0 hc1 hc2 hc3 hc4 hc5 hc6 hc7 hc8 hc9 hc10 hc11 hc12 hc13 hc14 hc15 x0 x1 x2 x3 y = x1 y + step x0 x2 x3 (y 0) (y 1) := by
  have hc := cover0_A_4 (F := Ideal) c i arg1 harg1 arg2 harg2 arg3 harg3 arg4 harg4 arg5 harg5 hc0 hc1 hc2 hc3 hc4 hc5 hc6 hc7 hc8 hc9 hc10 hc11 hc12 hc13 hc14 hc15 x0 x1 x2 x3 y
  unfold out0_A_4
  rw [View.read_writes_junk_eq_canon, pieces_A]
  rw [pieces_A] at hc
  exact bands_apply id (fun _ => rfl) x0 x2 x3 x1 y hc

theorem outB (c : Dev nD) (i : grid0.Coords) (arg1 : Memref sig .tc .vmem S2048x2048 .bf16) (harg1 : arg1.IsWhole) (arg2 : Memref sig .tc .vmem S2048x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x2048 .f32) (harg5 : arg5.IsWhole) (hc0 hc1 hc2 hc3 hc4 hc5 hc6 hc7 hc8 hc9 hc10 hc11 hc12 hc13 hc14 hc15)
    (x0 : Vec Ideal S2048x2048 .bf16) (x1 : Vec Ideal S2048x2048 .f32) (x2 : Vec Ideal S2048x512 .bf16) (x3 : Vec Ideal S512x2048 .bf16) (xo4 : Vec Ideal S2048x2048 .f32) (y : S2048x2048.Idx) :
    out0_B_4 (F := Ideal) c i arg1 harg1 arg2 harg2 arg3 harg3 arg4 harg4 arg5 harg5 hc0 hc1 hc2 hc3 hc4 hc5 hc6 hc7 hc8 hc9 hc10 hc11 hc12 hc13 hc14 hc15 x0 x1 x2 x3 xo4 y = xo4 y + step x0 x2 x3 (y 0) (y 1) := by
  have hc := cover0_B_4 (F := Ideal) c i arg1 harg1 arg2 harg2 arg3 harg3 arg4 harg4 arg5 harg5 hc0 hc1 hc2 hc3 hc4 hc5 hc6 hc7 hc8 hc9 hc10 hc11 hc12 hc13 hc14 hc15 x0 x1 x2 x3 xo4 y
  unfold out0_B_4
  rw [View.read_writes_junk_eq_canon, pieces_B]
  rw [pieces_B] at hc
  exact bands_apply _ (fun v => funext fun j => shapeCast_apply v _ j j rfl) x0 x2 x3 xo4 y hc

/-! ## The running sum over the points -/

variable (m : (ℓ : Loc nD τ sig) → Buf (Elt Ideal) ℓ) (ρ : Dev nD → PrngReg)

theorem idxs : ∀ t : Fin cfg0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = t.val ∧ win0_3.index t 1 = 0) ∧ (win0_4.index t 0 = 0 ∧ win0_4.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = t.val) ∧ (win0_3.index t 0 = t.val ∧ win0_3.index t 1 = 0) ∧ (win0_4.index t 0 = 0 ∧ win0_4.index t 1 = 0))

/-- Hidden column `k` of point `n`. -/
def col (n : ℕ) (hn : n < cfg0.N) (k : Fin 512) : Fin 8192 := ⟨512 * n + k.val, by have hN : cfg0.N = 16 := N_0; omega⟩

theorem blk0_apply (c : Dev nD) (t : Fin cfg0.N) (r k : Fin 2048) : iblk m c 0 t (ix2 r k) = m ((c : Thread nD τ).loc main_arg0) (ix2 r k) := by
  refine congrArg (m ((c : Thread nD τ).loc main_arg0)) (Shape.idx_ext₂ ?_ ?_)
  · refine (win0_0.rect_emb_val t (ix2 r k) 0).trans ?_; rw [(idxs t).1.1]; show 0 * 2048 + r.val = r.val; omega
  · refine (win0_0.rect_emb_val t (ix2 r k) 1).trans ?_; rw [(idxs t).1.2]; show 0 * 2048 + k.val = k.val; omega

theorem blk1_apply (c : Dev nD) (t : Fin cfg0.N) (r k : Fin 2048) : iblk m c 1 t (ix2 r k) = m ((c : Thread nD τ).loc main_arg1) (ix2 r k) := by
  refine congrArg (m ((c : Thread nD τ).loc main_arg1)) (Shape.idx_ext₂ ?_ ?_)
  · refine (win0_1.rect_emb_val t (ix2 r k) 0).trans ?_; rw [(idxs t).2.1.1]; show 0 * 2048 + r.val = r.val; omega
  · refine (win0_1.rect_emb_val t (ix2 r k) 1).trans ?_; rw [(idxs t).2.1.2]; show 0 * 2048 + k.val = k.val; omega

theorem blk2_apply (c : Dev nD) (t : Fin cfg0.N) (r : Fin 2048) (k : Fin 512) : iblk m c 2 t (ix2 r k) = m ((c : Thread nD τ).loc main_arg2) (ix2 r (col t.val t.isLt k)) := by
  refine congrArg (m ((c : Thread nD τ).loc main_arg2)) (Shape.idx_ext₂ ?_ ?_)
  · refine (win0_2.rect_emb_val t (ix2 r k) 0).trans ?_; rw [(idxs t).2.2.1.1]; show 0 * 2048 + r.val = r.val; omega
  · refine (win0_2.rect_emb_val t (ix2 r k) 1).trans ?_; rw [(idxs t).2.2.1.2]; show t.val * 512 + k.val = 512 * t.val + k.val; omega

theorem blk3_apply (c : Dev nD) (t : Fin cfg0.N) (r : Fin 512) (k : Fin 2048) : iblk m c 3 t (ix2 r k) = m ((c : Thread nD τ).loc main_arg3) (ix2 (col t.val t.isLt r) k) := by
  refine congrArg (m ((c : Thread nD τ).loc main_arg3)) (Shape.idx_ext₂ ?_ ?_)
  · refine (win0_3.rect_emb_val t (ix2 r k) 0).trans ?_; rw [(idxs t).2.2.2.1.1]; show t.val * 512 + r.val = 512 * t.val + r.val; omega
  · refine (win0_3.rect_emb_val t (ix2 r k) 1).trans ?_; rw [(idxs t).2.2.2.1.2]; show 0 * 2048 + k.val = k.val; omega

/-- What hidden column `q` adds to the entry at `(r, c)`. -/
def term (x0 : Vec Ideal S2048x2048 .bf16) (x2 : Vec Ideal S2048x8192 .bf16) (x3 : Vec Ideal S8192x2048 .bf16) (r c : Fin 2048) (q : Fin 8192) : EReal :=
  silu (∑ j : Fin 2048, x0 (ix2 r j) * x2 (ix2 j q)) * x3 (ix2 q c)

theorem step_block (c : Dev nD) (t : Fin cfg0.N) (r k : Fin 2048) :
    step (iblk m c 0 t) (iblk m c 2 t) (iblk m c 3 t) r k = ∑ q : Fin 512,
      term (m ((c : Thread nD τ).loc main_arg0)) (m ((c : Thread nD τ).loc main_arg2)) (m ((c : Thread nD τ).loc main_arg3)) r k (col t.val t.isLt q) := by
  unfold step term
  simp only [blk0_apply, blk2_apply, blk3_apply]

/-- Point `n`'s contribution, as a function of the point's number. -/
def part (c : Dev nD) (r k : Fin 2048) (n : ℕ) : EReal :=
  if hn : n < cfg0.N then ∑ q : Fin 512,
    term (m ((c : Thread nD τ).loc main_arg0)) (m ((c : Thread nD τ).loc main_arg2)) (m ((c : Thread nD τ).loc main_arg3)) r k (col n hn q) else 0

/-- The entry the points add to. -/
def entry (c : Dev nD) (r k : Fin 2048) : EReal := m ((c : Thread nD τ).loc main_arg1) (ix2 r k)

theorem outs_apply (c : Dev nD) (r k : Fin 2048) : ∀ (n : ℕ) (hn : n < cfg0.N),
    outsAt0 m c n hn (ix2 r k) = entry m c r k + ∑ j ∈ Finset.range (n + 1), part m c r k j
  | 0, hn => by
    have h0 : (⟨0, hn⟩ : Fin cfg0.N).val % 16 = 0 := rfl
    have h1 : ¬1 ≤ (⟨0, hn⟩ : Fin cfg0.N).val := by show ¬1 ≤ 0; omega
    refine (congrFun (outsAt0_A m c ⟨0, hn⟩ h0 h1 h0 h1 h0 h1 h0 h1 h0 h1 h0 h1 h0 h1 h0 h1) _).trans ((outA _ _ _ _ _ _ _ _ _ _ _ _ _ _ _ _ _ _ _ _ _ _ _ _ _ _ _ _ _ _ _ _ _).trans ?_)
    rw [blk1_apply, Finset.sum_range_one]
    unfold part
    rw [dif_pos hn]
    exact congrArg (entry m c r k + ·) (step_block m c ⟨0, hn⟩ r k)
  | n + 1, hn => by
    have hN : cfg0.N = 16 := N_0
    have h0 : ¬(⟨n + 1, hn⟩ : Fin cfg0.N).val % 16 = 0 := by show ¬(n + 1) % 16 = 0; omega
    have h1 : 1 ≤ (⟨n + 1, hn⟩ : Fin cfg0.N).val := by show 1 ≤ n + 1; omega
    refine (congrFun (outsAt0_B m c ⟨n + 1, hn⟩ h0 h1 h0 h1 h0 h1 h0 h1 h0 h1 h0 h1 h0 h1 h0 h1) _).trans ((outB _ _ _ _ _ _ _ _ _ _ _ _ _ _ _ _ _ _ _ _ _ _ _ _ _ _ _ _ _ _ _ _ _ _).trans ?_)
    have ih := outs_apply c r k n (Nat.lt_of_succ_lt hn)
    refine (congrArg₂ (· + ·) ih (step_block m c ⟨n + 1, hn⟩ r k)).trans ?_
    rw [Finset.sum_range_succ _ (n + 1), add_assoc]
    refine congrArg (_ + ·) (congrArg (_ + ·) ?_)
    unfold part
    rw [dif_pos hn]

/-- The array the call leaves. -/
def result (c : Dev nD) : Vec Ideal S2048x2048 .f32 :=
  val_main_v6 (F := Ideal) (m ((c : Thread nD τ).loc main_arg0)) (m ((c : Thread nD τ).loc main_arg1)) (m ((c : Thread nD τ).loc main_arg2)) (m ((c : Thread nD τ).loc main_arg3))

theorem ref_apply (x0 : Vec Ideal S2048x2048 .bf16) (x1 : Vec Ideal S2048x2048 .f32) (x2 : Vec Ideal S2048x8192 .bf16) (x3 : Vec Ideal S8192x2048 .bf16) (r c : Fin 2048) :
    val_main_v6 (F := Ideal) x0 x1 x2 x3 (ix2 r c) = x1 (ix2 r c) + ∑ q : Fin 8192, term x0 x2 x3 r c q := by
  rw [val_main_v6_apply, val_main_v5_apply]
  refine congrArg (x1 (ix2 r c) + ·) (Finset.sum_congr rfl fun q _ => congrArg₂ (· * ·) ?_ ?_)
  · have e : lidx_main_v5 (ix2 r c) q = ix2 r q := Shape.idx_ext₂ rfl rfl
    rw [e, val_main_v3_apply, val_main_call0_v5_apply, val_main_call0_v4_apply, val_main_call0_cst_0_apply, val_main_call0_v3_apply, val_main_call0_v2_apply, val_main_call0_cst_apply,
      val_main_call0_v1_apply, val_main_call0_v0_apply, val_main_v2_apply]
    have e1 : ∀ j, lidx_main_v2 (ix2 r q) j = ix2 r j := fun j => Shape.idx_ext₂ rfl rfl
    have e2 : ∀ j, ridx_main_v2 (ix2 r q) j = ix2 j q := fun j => Shape.idx_ext₂ rfl rfl
    simp only [e1, e2, val_main_v0_apply, val_main_v1_apply]
    rfl
  · rw [val_main_v4_apply]
    exact congrArg x3 (Shape.idx_ext₂ rfl rfl)

theorem sum_cols (f : Fin 8192 → EReal) : ∑ q, f q = ∑ n : Fin 16, ∑ k : Fin 512, f ⟨512 * n.val + k.val, by omega⟩ := by
  rw [← Fintype.sum_prod_type' fun (n : Fin 16) (k : Fin 512) => f ⟨512 * n.val + k.val, by omega⟩]
  exact (Fintype.sum_equiv (finProdFinEquiv (m := 16) (n := 512)) _ _ fun p => congrArg f (Fin.ext (by simp [finProdFinEquiv, add_comm]))).symm

theorem outs_last (c : Dev nD) (hn : 15 < cfg0.N) : outsAt0 m c 15 hn = result m c := by
  funext y
  obtain ⟨r, k, rfl⟩ : ∃ (r : Fin 2048) (k : Fin 2048), y = ix2 r k := ⟨y 0, y 1, eq_ix2 y⟩
  rw [outs_apply]
  unfold result
  rw [ref_apply, sum_cols, Finset.sum_range]
  refine congrArg (_ + ·) (Finset.sum_congr rfl fun n _ => ?_)
  unfold part
  rw [dif_pos (by rw [show cfg0.N = 16 from N_0]; exact n.isLt)]
  rfl

theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain ⟨n, hn⟩ := t
  obtain rfl : n = 15 := h15
  rw [Value.flushed4, outs_last]
  funext j
  obtain ⟨r, k, rfl⟩ : ∃ (r : Fin 2048) (k : Fin 2048), j = ix2 r k := ⟨j 0, j 1, eq_ix2 j⟩
  refine congrArg (result m c) (Shape.idx_ext₂ ?_ ?_)
  · refine Eq.trans ?_ (win0_4.rect_emb_val ⟨15, hn⟩ (ix2 r k) 0).symm; rw [(idxs ⟨15, hn⟩).2.2.2.2.1]; show r.val = 0 * 2048 + r.val; omega
  · refine Eq.trans ?_ (win0_4.rect_emb_val ⟨15, hn⟩ (ix2 r k) 1).symm; rw [(idxs ⟨15, hn⟩).2.2.2.2.2]; show k.val = 0 * 2048 + k.val; omega

theorem covered (i : S2048x2048.Idx) : i ∈ ((View.whole main_v0).slice (win0_4.rect t0_15)).set := by
  obtain ⟨r, k, rfl⟩ : ∃ (r : Fin 2048) (k : Fin 2048), i = ix2 r k := ⟨i 0, i 1, eq_ix2 i⟩
  have e : (win0_4.rect t0_15).emb (ix2 r k) = ix2 r k := by
    refine Shape.idx_ext₂ ?_ ?_
    · refine (win0_4.rect_emb_val t0_15 (ix2 r k) 0).trans ?_; rw [(idxs t0_15).2.2.2.2.1]; show 0 * 2048 + r.val = r.val; omega
    · refine (win0_4.rect_emb_val t0_15 (ix2 r k) 1).trans ?_; rw [(idxs t0_15).2.2.2.2.2]; show 0 * 2048 + k.val = k.val; omega
  rw [View.set_slice_whole, ← e]
  exact (win0_4.rect t0_15).idx_mem _

theorem final (c : Dev nD) : (dats m 0 c).arrAt 4 cfg0.N = result m c :=
  (dats m 0 c).arrAt_eq_of_cover 4 (result m c) (flushed_eq m c) fun i => ⟨t0_15, (flush0_4 t0_15).mpr rfl, covered i⟩

theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

theorem algebraic : Cert.algebraic_MlpIdeal_MlpRefIdeal := by
  intro m ρ m' ρ' _ hagree
  refine ⟨_, run m ρ, ?_⟩
  refine (θ_run Cert.MlpRefIdeal.defs _ _).mono (fun _ h c => ⟨(h c).1.trans ?_, (h c).2⟩) (Cert.MlpRefIdeal.Value.run (F := Ideal) m' ρ')
  rw [(hagree c).1, (hagree c).2.1, (hagree c).2.2.1, (hagree c).2.2.2]
  exact val_main_v6_eq _ _ _ _

end Cert.MlpIdeal.Result

end
-- ==== Proof.lean ====
/-
  The certificate: every program's facts, the frames, the rewrites of the ideal pass, and the value claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.RefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Wo
public import proofs.«01_k».proof.Proof.Gen.Wo.Skeleton
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Launch
public import proofs.«01_k».proof.Proof.Gen.WoIdeal.Points
public import proofs.«01_k».proof.Proof.Gen.WoIdeal.Frame
public import proofs.«01_k».proof.Proof.Gen.WoRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import Idealize.ShloMosaic.Adequacy
public import Idealize.ShloMosaic.Init
public import proofs.«01_k».proof.Proof.Claims
public import proofs.«01_k».proof.Proof.Gen.Pre_finite
public import proofs.«01_k».proof.Proof.AttnValue
public import proofs.«01_k».proof.Proof.ProjValue
public import proofs.«01_k».proof.Proof.WoValue
public import proofs.«01_k».proof.Proof.MlpValue

@[expose] public section

noncomputable section

namespace Cert.Proof

theorem claim : Cert.Claim :=
  ⟨Cert.Kernel.Gen.facts, Cert.KernelIdeal.Gen.facts, Cert.RefIdeal.Gen.facts, Cert.Proj.Gen.facts, Cert.ProjIdeal.Gen.facts, Cert.ProjRefIdeal.Gen.facts,
    Cert.Wo.Gen.facts, Cert.WoIdeal.Gen.facts, Cert.WoRefIdeal.Gen.facts, Cert.Mlp.Gen.facts, Cert.MlpIdeal.Gen.facts, Cert.MlpRefIdeal.Gen.facts, Cert.Pre_finite.Gen.facts,
    frame_kernel, frame_kernelIdeal, frame_kernelIdeal_finite, frame_ref, frame_ref_finite, frame_proj, frame_projIdeal, frame_projRef, frame_wo, frame_woIdeal, frame_woRef, frame_mlp, frame_mlpIdeal, frame_mlpRef,
    preserves_kernel, Cert.KernelIdeal.Attn.algebraic, preserves_proj, Cert.ProjIdeal.Result.algebraic, preserves_wo, Cert.WoIdeal.Result.algebraic, preserves_mlp, Cert.MlpIdeal.Result.algebraic⟩

end Cert.Proof

end
